-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v42_0)) (v1 : (c : Dev Cert.Kernel3Ideal.nD) → Buf (Elt Ideal) ((c.tc : Thread Cert.Kernel3Ideal.nD Cert.Kernel3Ideal.τ).loc Cert.Kernel3Ideal.main_v42_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42_0) = v0 c
          ∧ r.2.mem ((c.tc : Thread Cert.Kernel3Ideal.nD Cert.Kernel3Ideal.τ).loc Cert.Kernel3Ideal.main_v42_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v79) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  IdealRules.named_const.Statement Cert.Kernel4Ideal.κ "gelu_scale" .f32 0x3F4C422A#32 ((Real.sqrt (2 * Real.pi⁻¹) : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v24_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v24_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v131) = v0 c
          ∧ r.2.mem ((c.tc : Thread Cert.Reference4Ideal.nD Cert.Reference4Ideal.τ).loc Cert.Reference4Ideal.main_v133) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_scores_finite.lean ====
abbrev S4x8x8192x96 : Shape := ⟨4, ![4, 8, 8192, 96]⟩
abbrev S4x8x256x96 : Shape := ⟨4, ![4, 8, 256, 96]⟩
abbrev S4x8x256x64 : Shape := ⟨4, ![4, 8, 256, 64]⟩
abbrev S4x8x8192x64 : Shape := ⟨4, ![4, 8, 8192, 64]⟩
abbrev S_ : Shape := ⟨0, ![]⟩

class Facts : Prop where
  bcast_S_S4x8x8192x96 : S_.BroadcastsInDim S4x8x8192x96 (![] : Fin 0 → Fin S4x8x8192x96.rank)
  bcast_S_S4x8x256x96 : S_.BroadcastsInDim S4x8x256x96 (![] : Fin 0 → Fin S4x8x256x96.rank)

variable [Facts]

def fn {F : FTy → Type} [FloatOps F] (main_arg0 : FVec F S4x8x8192x96 .f32) (main_arg1 : FVec F S4x8x256x96 .f32) (main_arg2 : FVec F S4x8x256x96 .f32) (main_arg3 : FVec F S4x8x8192x96 .f32) (main_arg4 : FVec F S4x8x256x64 .f32) (main_arg5 : FVec F S4x8x8192x64 .f32) : IVec S4x8x8192x96 1 × IVec S4x8x256x96 1 × IVec S4x8x256x96 1 × IVec S4x8x8192x96 1 :=
  let main_v0 : FVec F S4x8x8192x96 .f32 := Host.absf main_arg0
  let main_cst : FVec F S_ .f32 := constant S_ .f32 0x7F800000#32
  let main_v1 : FVec F S4x8x8192x96 .f32 := broadcastInDim S4x8x8192x96 ![] bcast_S_S4x8x8192x96 main_cst
  let main_v2 : IVec S4x8x8192x96 1 := cmpf .olt main_v0 main_v1
  let main_v3 : FVec F S4x8x256x96 .f32 := Host.absf main_arg1
  let main_cst_0 : FVec F S_ .f32 := constant S_ .f32 0x7F800000#32
  let main_v4 : FVec F S4x8x256x96 .f32 := broadcastInDim S4x8x256x96 ![] bcast_S_S4x8x256x96 main_cst_0
  let main_v5 : IVec S4x8x256x96 1 := cmpf .olt main_v3 main_v4
  let main_v6 : FVec F S4x8x256x96 .f32 := Host.absf main_arg2
  let main_cst_1 : FVec F S_ .f32 := constant S_ .f32 0x7F800000#32
  let main_v7 : FVec F S4x8x256x96 .f32 := broadcastInDim S4x8x256x96 ![] bcast_S_S4x8x256x96 main_cst_1
  let main_v8 : IVec S4x8x256x96 1 := cmpf .olt main_v6 main_v7
  let main_v9 : FVec F S4x8x8192x96 .f32 := Host.absf main_arg3
  let main_cst_2 : FVec F S_ .f32 := constant S_ .f32 0x7F800000#32
  let main_v10 : FVec F S4x8x8192x96 .f32 := broadcastInDim S4x8x8192x96 ![] bcast_S_S4x8x8192x96 main_cst_2
  let main_v11 : IVec S4x8x8192x96 1 := cmpf .olt main_v9 main_v10
  (main_v2, main_v5, main_v8, main_v11)
-- ==== Kernel.lean ====
abbrev S4x8x8192x96 : Shape := ⟨4, ![4, 8, 8192, 96]⟩
abbrev S4x8x256x96 : Shape := ⟨4, ![4, 8, 256, 96]⟩
abbrev S4x8x256x64 : Shape := ⟨4, ![4, 8, 256, 64]⟩
abbrev S4x8x8192x64 : Shape := ⟨4, ![4, 8, 8192, 64]⟩
abbrev S_ : Shape := ⟨0, ![]⟩
abbrev S4x8x8448x96 : Shape := ⟨4, ![4, 8, 8448, 96]⟩
abbrev S4x8x8448x128 : Shape := ⟨4, ![4, 8, 8448, 128]⟩
abbrev S4x8x8448x64 : Shape := ⟨4, ![4, 8, 8448, 64]⟩
abbrev S4x8x33x256x64 : Shape := ⟨5, ![4, 8, 33, 256, 64]⟩
abbrev S4x8x33x64x256 : Shape := ⟨5, ![4, 8, 33, 64, 256]⟩
abbrev S16x256 : Shape := ⟨2, ![16, 256]⟩
abbrev S4x8x33x16x256 : Shape := ⟨5, ![4, 8, 33, 16, 256]⟩
abbrev S4x8x33x80x256 : Shape := ⟨5, ![4, 8, 33, 80, 256]⟩
abbrev S4x8448x512 : Shape := ⟨3, ![4, 8448, 512]⟩
abbrev S1x4x256x128 : Shape := ⟨4, ![1, 4, 256, 128]⟩
abbrev S1x4x8448x128 : Shape := ⟨4, ![1, 4, 8448, 128]⟩
abbrev S1x4x33x80x256 : Shape := ⟨5, ![1, 4, 33, 80, 256]⟩
abbrev S1x256x256 : Shape := ⟨3, ![1, 256, 256]⟩
abbrev S4x2x1280x256 : Shape := ⟨4, ![4, 2, 1280, 256]⟩
abbrev S1x1x1280x128 : Shape := ⟨4, ![1, 1, 1280, 128]⟩
abbrev S1280x128 : Shape := ⟨2, ![1280, 128]⟩
abbrev S1x1x256x128 : Shape := ⟨4, ![1, 1, 256, 128]⟩
abbrev S256x128 : Shape := ⟨2, ![256, 128]⟩
abbrev S1280x256 : Shape := ⟨2, ![1280, 256]⟩
abbrev S1x1x1280x256 : Shape := ⟨4, ![1, 1, 1280, 256]⟩
abbrev S1x256 : Shape := ⟨2, ![1, 256]⟩
abbrev S80x256 : Shape := ⟨2, ![80, 256]⟩
abbrev S1x1x1024x128 : Shape := ⟨4, ![1, 1, 1024, 128]⟩
abbrev S1024x128 : Shape := ⟨2, ![1024, 128]⟩
abbrev S1024x256 : Shape := ⟨2, ![1024, 256]⟩
abbrev S1x1x1024x256 : Shape := ⟨4, ![1, 1, 1024, 256]⟩
abbrev S256 : Shape := ⟨1, ![256]⟩
abbrev S1x1x1x80x256 : Shape := ⟨5, ![1, 1, 1, 80, 256]⟩
abbrev S256x256 : Shape := ⟨2, ![256, 256]⟩
abbrev S64x256 : Shape := ⟨2, ![64, 256]⟩
abbrev S1x1x256x256 : Shape := ⟨4, ![1, 1, 256, 256]⟩

abbrev nBuf : Space → Nat
  | .hbm => 42
  | .vmem => 9
  | .smem => 0
  | _ => 0

abbrev bufTy : (tb : Table) → Fin (tcTables nBuf tb) → BufTy
  | .hbm, ⟨0, _⟩ => ⟨S4x8x8192x96, .f32⟩
  | .hbm, ⟨1, _⟩ => ⟨S4x8x256x96, .f32⟩
  | .hbm, ⟨2, _⟩ => ⟨S4x8x256x96, .f32⟩
  | .hbm, ⟨3, _⟩ => ⟨S4x8x8192x96, .f32⟩
  | .hbm, ⟨4, _⟩ => ⟨S4x8x256x64, .f32⟩
  | .hbm, ⟨5, _⟩ => ⟨S4x8x8192x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x8x8448x96, .f32⟩
  | .hbm, ⟨14, _⟩ => ⟨S4x8x8448x96, .f32⟩
  | .hbm, ⟨15, _⟩ => ⟨S4x8x8448x96, .f32⟩
  | .hbm, ⟨16, _⟩ => ⟨S_, .i32⟩
  | .hbm, ⟨17, _⟩ => ⟨S_, .f32⟩
  | .hbm, ⟨18, _⟩ => ⟨S4x8x8448x128, .f32⟩
  | .hbm, ⟨19, _⟩ => ⟨S4x8x8448x128, .bf16⟩
  | .hbm, ⟨20, _⟩ => ⟨S4x8x8448x96, .f32⟩
  | .hbm, ⟨21, _⟩ => ⟨S_, .i32⟩
  | .hbm, ⟨22, _⟩ => ⟨S_, .f32⟩
  | .hbm, ⟨23, _⟩ => ⟨S4x8x8448x128, .f32⟩
  | .hbm, ⟨24, _⟩ => ⟨S4x8x8448x128, .bf16⟩
  | .hbm, ⟨25, _⟩ => ⟨S4x8x8448x64, .f32⟩
  | .hbm, ⟨26, _⟩ => ⟨S4x8x33x256x64, .f32⟩
  | .hbm, ⟨27, _⟩ => ⟨S4x8x33x64x256, .f32⟩
  | .hbm, ⟨28, _⟩ => ⟨S16x256, .i32⟩
  | .hbm, ⟨29, _⟩ => ⟨S_, .i32⟩
  | .hbm, ⟨30, _⟩ => ⟨S16x256, .i32⟩
  | .hbm, ⟨31, _⟩ => ⟨S16x256, .i1⟩
  | .hbm, ⟨32, _⟩ => ⟨S_, .f32⟩
  | .hbm, ⟨33, _⟩ => ⟨S_, .f32⟩
  | .hbm, ⟨34, _⟩ => ⟨S16x256, .f32⟩
  | .hbm, ⟨35, _⟩ => ⟨S16x256, .f32⟩
  | .hbm, ⟨36, _⟩ => ⟨S16x256, .f32⟩
  | .hbm, ⟨37, _⟩ => ⟨S4x8x33x16x256, .f32⟩
  | .hbm, ⟨38, _⟩ => ⟨S4x8x33x16x256, .f32⟩
  | .hbm, ⟨39, _⟩ => ⟨S4x8x33x80x256, .f32⟩
  | .hbm, ⟨40, _⟩ => ⟨S4x8x33x80x256, .bf16⟩
  | .hbm, ⟨41, _⟩ => ⟨S4x8448x512, .bf16⟩
  | .local _ .vmem, ⟨0, _⟩ => ⟨S1x4x256x128, .bf16⟩
  | .local _ .vmem, ⟨1, _⟩ => ⟨S1x4x256x128, .bf16⟩
  | .local _ .vmem, ⟨2, _⟩ => ⟨S1x4x8448x128, .bf16⟩
  | .local _ .vmem, ⟨3, _⟩ => ⟨S1x4x8448x128, .bf16⟩
  | .local _ .vmem, ⟨4, _⟩ => ⟨S1x4x33x80x256, .bf16⟩
  | .local _ .vmem, ⟨5, _⟩ => ⟨S1x4x33x80x256, .bf16⟩
  | .local _ .vmem, ⟨6, _⟩ => ⟨S1x256x256, .bf16⟩
  | .local _ .vmem, ⟨7, _⟩ => ⟨S1x256x256, .bf16⟩
  | .local _ .vmem, ⟨8, _⟩ => ⟨S4x2x1280x256, .f32⟩
  | _, _ => ⟨S4x8x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_cst_5 : Ref sig .tc := ⟨.hbm, 33, rfl⟩
abbrev main_call2_v0 : Ref sig .tc := ⟨.hbm, 34, rfl⟩
abbrev main_call2_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 33], ![false, false, false]⟩

def k0_cond1 (i : grid0.Coords) : BitVec 1 :=
  let arg2 : BitVec 32 := BitVec.ofNat 32 (i 2).val
  let c32_i32 : BitVec 32 := 32#32
  let v0 : BitVec 1 := Scalar.cmpi .ne arg2 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c32_i32_0 : BitVec 32 := 32#32
  let v3 : BitVec 1 := Scalar.cmpi .eq arg2 c32_i32_0
  let v4 : BitVec 32 := Scalar.extui v3
  let c0_i32_1 : BitVec 32 := 0#32
  let v5 : BitVec 1 := Scalar.cmpi .ne v4 c0_i32_1
  v5

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x33x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8x8192x96 : Shape := ⟨4, ![4, 8, 8192, 96]⟩
abbrev S4x8x256x96 : Shape := ⟨4, ![4, 8, 256, 96]⟩
abbrev S4x8x256x64 : Shape := ⟨4, ![4, 8, 256, 64]⟩
abbrev S4x8x8192x64 : Shape := ⟨4, ![4, 8, 8192, 64]⟩
abbrev S4x8x8448x96 : Shape := ⟨4, ![4, 8, 8448, 96]⟩
abbrev S4x8x8448x64 : Shape := ⟨4, ![4, 8, 8448, 64]⟩
abbrev S4x8x8192x8448 : Shape := ⟨4, ![4, 8, 8192, 8448]⟩
abbrev S_ : Shape := ⟨0, ![]⟩
abbrev S4x8x8192 : Shape := ⟨3, ![4, 8, 8192]⟩
abbrev S4x8x8192x1 : Shape := ⟨4, ![4, 8, 8192, 1]⟩
abbrev S4x8x256x256 : Shape := ⟨4, ![4, 8, 256, 256]⟩
abbrev S4x8x256 : Shape := ⟨3, ![4, 8, 256]⟩
abbrev S4x8x256x1 : Shape := ⟨4, ![4, 8, 256, 1]⟩
abbrev S4x8192x8x64 : Shape := ⟨4, ![4, 8192, 8, 64]⟩
abbrev S4x8192x512 : Shape := ⟨3, ![4, 8192, 512]⟩
abbrev S4x256x8x64 : Shape := ⟨4, ![4, 256, 8, 64]⟩
abbrev S4x256x512 : Shape := ⟨3, ![4, 256, 512]⟩
abbrev S4x8448x512 : Shape := ⟨3, ![4, 8448, 512]⟩

abbrev nBuf : Space → Nat
  | .hbm => 54
  | .vmem => 0
  | .smem => 0
  | _ => 0

abbrev bufTy : (tb : Table) → Fin (tcTables nBuf tb) → BufTy
  | .hbm, ⟨0, _⟩ => ⟨S4x8x8192x96, .f32⟩
  | .hbm, ⟨1, _⟩ => ⟨S4x8x256x96, .f32⟩
  | .hbm, ⟨2, _⟩ => ⟨S4x8x256x96, .f32⟩
  | .hbm, ⟨3, _⟩ => ⟨S4x8x8192x96, .f32⟩
  | .hbm, ⟨4, _⟩ => ⟨S4x8x256x64, .f32⟩
  | .hbm, ⟨5, _⟩ => ⟨S4x8x8192x64, .f32⟩
  | .hbm, ⟨6, _⟩ => ⟨S4x8x8448x96, .f32⟩
  | .hbm, ⟨7, _⟩ => ⟨S4x8x8448x64, .f32⟩
  | .hbm, ⟨8, _⟩ => ⟨S4x8x8192x8448, .f32⟩
  | .hbm, ⟨9, _⟩ => ⟨S_, .f32⟩
  | .hbm, ⟨10, _⟩ => ⟨S_, .f32⟩
  | .hbm, ⟨11, _⟩ => ⟨S4x8x8192x8448, .f32⟩
  | .hbm, ⟨12, _⟩ => ⟨S4x8x8192x8448, .f32⟩
  | .hbm, ⟨13, _⟩ => ⟨S_, .f32⟩
  | .hbm, ⟨14, _⟩ => ⟨S4x8x8192, .f32⟩
  | .hbm, ⟨15, _⟩ => ⟨S_, .f32⟩
  | .hbm, ⟨16, _⟩ => ⟨S4x8x8192, .f32⟩
  | .hbm, ⟨17, _⟩ => ⟨S4x8x8192, .f32⟩
  | .hbm, ⟨18, _⟩ => ⟨S4x8x8192x1, .f32⟩
  | .hbm, ⟨19, _⟩ => ⟨S4x8x8192x8448, .f32⟩
  | .hbm, ⟨20, _⟩ => ⟨S4x8x8192x8448, .f32⟩
  | .hbm, ⟨21, _⟩ => ⟨S4x8x8192x8448, .f32⟩
  | .hbm, ⟨22, _⟩ => ⟨S_, .f32⟩
  | .hbm, ⟨23, _⟩ => ⟨S4x8x8192, .f32⟩
  | .hbm, ⟨24, _⟩ => ⟨S4x8x8192x1, .f32⟩
  | .hbm, ⟨25, _⟩ => ⟨S4x8x8192x8448, .f32⟩
  | .hbm, ⟨26, _⟩ => ⟨S4x8x8192x8448, .f32⟩
  | .hbm, ⟨27, _⟩ => ⟨S4x8x8192x64, .f32⟩
  | .hbm, ⟨28, _⟩ => ⟨S4x8x256x256, .f32⟩
  | .hbm, ⟨29, _⟩ => ⟨S_, .f32⟩
  | .hbm, ⟨30, _⟩ => ⟨S_, .f32⟩
  | .hbm, ⟨31, _⟩ => ⟨S4x8x256x256, .f32⟩
  | .hbm, ⟨32, _⟩ => ⟨S4x8x256x256, .f32⟩
  | .hbm, ⟨33, _⟩ => ⟨S_, .f32⟩
  | .hbm, ⟨34, _⟩ => ⟨S4x8x256, .f32⟩
  | .hbm, ⟨35, _⟩ => ⟨S_, .f32⟩
  | .hbm, ⟨36, _⟩ => ⟨S4x8x256, .f32⟩
  | .hbm, ⟨37, _⟩ => ⟨S4x8x256, .f32⟩
  | .hbm, ⟨38, _⟩ => ⟨S4x8x256x1, .f32⟩
  | .hbm, ⟨39, _⟩ => ⟨S4x8x256x256, .f32⟩
  | .hbm, ⟨40, _⟩ => ⟨S4x8x256x256, .f32⟩
  | .hbm, ⟨41, _⟩ => ⟨S4x8x256x256, .f32⟩
  | .hbm, ⟨42, _⟩ => ⟨S_, .f32⟩
  | .hbm, ⟨43, _⟩ => ⟨S4x8x256, .f32⟩
  | .hbm, ⟨44, _⟩ => ⟨S4x8x256x1, .f32⟩
  | .hbm, ⟨45, _⟩ => ⟨S4x8x256x256, .f32⟩
  | .hbm, ⟨46, _⟩ => ⟨S4x8x256x256, .f32⟩
  | .hbm, ⟨47, _⟩ => ⟨S4x8x256x64, .f32⟩
  | .hbm, ⟨48, _⟩ => ⟨S4x8192x8x64, .f32⟩
  | .hbm, ⟨49, _⟩ => ⟨S4x8192x512, .f32⟩
  | .hbm, ⟨50, _⟩ => ⟨S4x256x8x64, .f32⟩
  | .hbm, ⟨51, _⟩ => ⟨S4x256x512, .f32⟩
  | .hbm, ⟨52, _⟩ => ⟨S4x8448x512, .f32⟩
  | .hbm, ⟨53, _⟩ => ⟨S4x8448x512, .bf16⟩
  | _, _ => ⟨S4x8x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x6816 : Shape := ⟨2, ![1024, 6816]⟩
abbrev S1x6144 : Shape := ⟨2, ![1, 6144]⟩
abbrev S_ : Shape := ⟨0, ![]⟩
abbrev S3x6144 : Shape := ⟨2, ![3, 6144]⟩
abbrev S8x6144 : Shape := ⟨2, ![8, 6144]⟩
abbrev S32768x1024 : Shape := ⟨2, ![32768, 1024]⟩
abbrev S1024x1024 : Shape := ⟨2, ![1024, 1024]⟩
abbrev S8x1x6144 : Shape := ⟨3, ![8, 1, 6144]⟩
abbrev S1x1024 : Shape := ⟨2, ![1, 1024]⟩
abbrev S1024x32 : Shape := ⟨2, ![1024, 32]⟩
abbrev S1024x128 : Shape := ⟨2, ![1024, 128]⟩
abbrev S1024x3072 : Shape := ⟨2, ![1024, 3072]⟩
abbrev S1024x2048 : Shape := ⟨2, ![1024, 2048]⟩
abbrev S1024x256 : Shape := ⟨2, ![1024, 256]⟩
abbrev S1024x384 : Shape := ⟨2, ![1024, 384]⟩
abbrev S1024x6912 : Shape := ⟨2, ![1024, 6912]⟩
abbrev S33792x6912 : Shape := ⟨2, ![33792, 6912]⟩
abbrev S256x1024 : Shape := ⟨2, ![256, 1024]⟩
abbrev S1x1x6144 : Shape := ⟨3, ![1, 1, 6144]⟩
abbrev S256x6912 : Shape := ⟨2, ![256, 6912]⟩
abbrev S1x1x1024 : Shape := ⟨3, ![1, 1, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩

abbrev nBuf : Space → Nat
  | .hbm => 26
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x6144, .f32⟩
  | .hbm, ⟨3, _⟩ => ⟨S6144, .f32⟩
  | .hbm, ⟨4, _⟩ => ⟨S1024, .f32⟩
  | .hbm, ⟨5, _⟩ => ⟨S1024x6816, .f32⟩
  | .hbm, ⟨6, _⟩ => ⟨S1x6144, .f32⟩
  | .hbm, ⟨7, _⟩ => ⟨S_, .f32⟩
  | .hbm, ⟨8, _⟩ => ⟨S3x6144, .f32⟩
  | .hbm, ⟨9, _⟩ => ⟨S8x6144, .f32⟩
  | .hbm, ⟨10, _⟩ => ⟨S32768x1024, .f32⟩
  | .hbm, ⟨11, _⟩ => ⟨S1024x1024, .f32⟩
  | .hbm, ⟨12, _⟩ => ⟨S8x1x6144, .f32⟩
  | .hbm, ⟨13, _⟩ => ⟨S1x1024, .f32⟩
  | .hbm, ⟨14, _⟩ => ⟨S1024x32, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x3072, .f32⟩
  | .hbm, ⟨19, _⟩ => ⟨S1024x1024, .f32⟩
  | .hbm, ⟨20, _⟩ => ⟨S1024x2048, .f32⟩
  | .hbm, ⟨21, _⟩ => ⟨S1024x256, .f32⟩
  | .hbm, ⟨22, _⟩ => ⟨S1024x384, .f32⟩
  | .hbm, ⟨23, _⟩ => ⟨S1024x6912, .f32⟩
  | .hbm, ⟨24, _⟩ => ⟨S1024x6912, .bf16⟩
  | .hbm, ⟨25, _⟩ => ⟨S33792x6912, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x6144, .f32⟩
  | .local _ .vmem, ⟨5, _⟩ => ⟨S1x1x6144, .f32⟩
  | .local _ .vmem, ⟨6, _⟩ => ⟨S1x1024, .f32⟩
  | .local _ .vmem, ⟨7, _⟩ => ⟨S1024x6912, .bf16⟩
  | .local _ .vmem, ⟨8, _⟩ => ⟨S256x6912, .bf16⟩
  | .local _ .vmem, ⟨9, _⟩ => ⟨S256x6912, .bf16⟩
  | .local _ .vmem, ⟨10, _⟩ => ⟨S256x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32 : BitVec 32 := 32#32
  let v17 : BitVec 32 := Scalar.muli v16 c32_i32
  let c33_i32_4 : BitVec 32 := 33#32
  let c0_i32_5 : BitVec 32 := 0#32
  let v18 : BitVec 1 := Scalar.cmpi .eq c33_i32_4 c0_i32_5
  let c1_i32_6 : BitVec 32 := 1#32
  let v19 : BitVec 32 := Scalar.select v18 c1_i32_6 c33_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c31_i32 : BitVec 32 := 31#32
  let v28 : BitVec 32 := Scalar.minsi v27 c31_i32
  let v29 : BitVec 32 := Scalar.addi v17 v28
  let c0_i32_10 : BitVec 32 := 0#32
  let c0_i32_11 : BitVec 32 := 0#32
  ![v29.toNat, c0_i32_10.toNat]

def cc0_transform_1 (i : grid0.Coords) : Fin 2 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32 : BitVec 32 := 32#32
  let v10 : BitVec 1 := Scalar.cmpi .eq v9 c32_i32
  let c33_i32_3 : BitVec 32 := 33#32
  let v11 : BitVec 32 := Scalar.divsi arg0 c33_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c33_i32_3 c0_i32_6
  let v18 : BitVec 32 := Scalar.extui v17
  let c0_i32_7 : BitVec 32 := 0#32
  let v19 : BitVec 1 := Scalar.cmpi .slt c33_i32_3 c0_i32_7
  let v20 : BitVec 32 := Scalar.extui v19
  let v21 : BitVec 32 := Scalar.subi v18 v20
  let v22 : BitVec 1 := Scalar.cmpi .ne v16 v21
  let v23 : BitVec 32 := Scalar.remsi arg0 c33_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c4_i32 : BitVec 32 := 4#32
  let v28 : BitVec 32 := Scalar.select v10 c4_i32 v27
  let c0_i32_10 : BitVec 32 := 0#32
  let c0_i32_11 : BitVec 32 := 0#32
  let c0_i32_12 : BitVec 32 := 0#32
  ![v28.toNat, c0_i32_10.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x6912 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x6912 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x8192x1024 : Shape := ⟨3, ![4, 8192, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x6816 : Shape := ⟨2, ![1024, 6816]⟩
abbrev S4x1024 : Shape := ⟨2, ![4, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x256 : Shape := ⟨2, ![4, 256]⟩
abbrev S4x256x1 : Shape := ⟨3, ![4, 256, 1]⟩
abbrev S4x8192x6816 : Shape := ⟨3, ![4, 8192, 6816]⟩
abbrev S4x256x6816 : Shape := ⟨3, ![4, 256, 6816]⟩
abbrev S4x8448x6816 : Shape := ⟨3, ![4, 8448, 6816]⟩
abbrev S4x8448x2048 : Shape := ⟨3, ![4, 8448, 2048]⟩
abbrev S4x8448x384 : Shape := ⟨3, ![4, 8448, 384]⟩
abbrev S4x8448x256 : Shape := ⟨3, ![4, 8448, 256]⟩
abbrev S4x8448x32 : Shape := ⟨3, ![4, 8448, 32]⟩
abbrev S4x8448x1024 : Shape := ⟨3, ![4, 8448, 1024]⟩
abbrev S4x8448x3072 : Shape := ⟨3, ![4, 8448, 3072]⟩
abbrev S4x8448x1 : Shape := ⟨3, ![4, 8448, 1]⟩
abbrev S4x8448x64 : Shape := ⟨3, ![4, 8448, 64]⟩
abbrev S4x8448x6912 : Shape := ⟨3, ![4, 8448, 6912]⟩
abbrev S33792x6912 : Shape := ⟨2, ![33792, 6912]⟩

abbrev nBuf : Space → Nat
  | .hbm => 76
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x6144, .f32⟩
  | .hbm, ⟨3, _⟩ => ⟨S6144, .f32⟩
  | .hbm, ⟨4, _⟩ => ⟨S1024, .f32⟩
  | .hbm, ⟨5, _⟩ => ⟨S1024x6816, .f32⟩
  | .hbm, ⟨6, _⟩ => ⟨S4x1024, .f32⟩
  | .hbm, ⟨7, _⟩ => ⟨S4x1x1024, .f32⟩
  | .hbm, ⟨8, _⟩ => ⟨S4x1024, .f32⟩
  | .hbm, ⟨9, _⟩ => ⟨S4x1x1024, .f32⟩
  | .hbm, ⟨10, _⟩ => ⟨S1024, .f32⟩
  | .hbm, ⟨11, _⟩ => ⟨S1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x256x1024, .f32⟩
  | .hbm, ⟨36, _⟩ => ⟨S_, .f32⟩
  | .hbm, ⟨37, _⟩ => ⟨S4x256, .f32⟩
  | .hbm, ⟨38, _⟩ => ⟨S4x256x1, .f32⟩
  | .hbm, ⟨39, _⟩ => ⟨S_, .f32⟩
  | .hbm, ⟨40, _⟩ => ⟨S4x256x1, .f32⟩
  | .hbm, ⟨41, _⟩ => ⟨S4x256x1, .f32⟩
  | .hbm, ⟨42, _⟩ => ⟨S_, .f32⟩
  | .hbm, ⟨43, _⟩ => ⟨S4x256x1, .f32⟩
  | .hbm, ⟨44, _⟩ => ⟨S4x256x1, .f32⟩
  | .hbm, ⟨45, _⟩ => ⟨S4x256x1, .f32⟩
  | .hbm, ⟨46, _⟩ => ⟨S4x256x1024, .f32⟩
  | .hbm, ⟨47, _⟩ => ⟨S4x256x1024, .f32⟩
  | .hbm, ⟨48, _⟩ => ⟨S1x1x1024, .f32⟩
  | .hbm, ⟨49, _⟩ => ⟨S4x256x1024, .f32⟩
  | .hbm, ⟨50, _⟩ => ⟨S4x256x1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1x1x1024, .f32⟩
  | .hbm, ⟨55, _⟩ => ⟨S4x256x1024, .f32⟩
  | .hbm, ⟨56, _⟩ => ⟨S4x256x1024, .f32⟩
  | .hbm, ⟨57, _⟩ => ⟨S1x1x1024, .f32⟩
  | .hbm, ⟨58, _⟩ => ⟨S4x256x1024, .f32⟩
  | .hbm, ⟨59, _⟩ => ⟨S4x256x1024, .f32⟩
  | .hbm, ⟨60, _⟩ => ⟨S4x8192x6816, .f32⟩
  | .hbm, ⟨61, _⟩ => ⟨S4x256x6816, .f32⟩
  | .hbm, ⟨62, _⟩ => ⟨S4x8448x6816, .f32⟩
  | .hbm, ⟨63, _⟩ => ⟨S4x8448x2048, .f32⟩
  | .hbm, ⟨64, _⟩ => ⟨S4x8448x384, .f32⟩
  | .hbm, ⟨65, _⟩ => ⟨S4x8448x256, .f32⟩
  | .hbm, ⟨66, _⟩ => ⟨S4x8448x32, .f32⟩
  | .hbm, ⟨67, _⟩ => ⟨S4x8448x1024, .f32⟩
  | .hbm, ⟨68, _⟩ => ⟨S4x8448x3072, .f32⟩
  | .hbm, ⟨69, _⟩ => ⟨S_, .f32⟩
  | .hbm, ⟨70, _⟩ => ⟨S4x8448x1, .f32⟩
  | .hbm, ⟨71, _⟩ => ⟨S4x8448x64, .f32⟩
  | .hbm, ⟨72, _⟩ => ⟨S4x8448x32, .f32⟩
  | .hbm, ⟨73, _⟩ => ⟨S4x8448x6912, .f32⟩
  | .hbm, ⟨74, _⟩ => ⟨S33792x6912, .f32⟩
  | .hbm, ⟨75, _⟩ => ⟨S33792x6912, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x256x1024 : Shape := ⟨3, ![4, 256, 1024]⟩
abbrev S33792x6x1024 : Shape := ⟨3, ![33792, 6, 1024]⟩
abbrev S33792x6 : Shape := ⟨2, ![33792, 6]⟩
abbrev S33792x1024 : Shape := ⟨2, ![33792, 1024]⟩
abbrev S4x6144 : Shape := ⟨2, ![4, 6144]⟩
abbrev S6144 : Shape := ⟨1, ![6144]⟩
abbrev S1024 : Shape := ⟨1, ![1024]⟩
abbrev S1024x6816 : Shape := ⟨2, ![1024, 6816]⟩
abbrev S4x8448x1024 : Shape := ⟨3, ![4, 8448, 1024]⟩
abbrev S32768x6 : Shape := ⟨2, ![32768, 6]⟩
abbrev S4x8192x6 : Shape := ⟨3, ![4, 8192, 6]⟩
abbrev S1024x6 : Shape := ⟨2, ![1024, 6]⟩
abbrev S4x256x6 : Shape := ⟨3, ![4, 256, 6]⟩
abbrev S4x8448x6 : Shape := ⟨3, ![4, 8448, 6]⟩
abbrev S_ : Shape := ⟨0, ![]⟩
abbrev S33792x8 : Shape := ⟨2, ![33792, 8]⟩
abbrev S32768x6x1024 : Shape := ⟨3, ![32768, 6, 1024]⟩
abbrev S4x8192x6x1024 : Shape := ⟨4, ![4, 8192, 6, 1024]⟩
abbrev S1024x6x1024 : Shape := ⟨3, ![1024, 6, 1024]⟩
abbrev S4x256x6x1024 : Shape := ⟨4, ![4, 256, 6, 1024]⟩
abbrev S4x8448x6x1024 : Shape := ⟨4, ![4, 8448, 6, 1024]⟩
abbrev S6x33792x1024 : Shape := ⟨3, ![6, 33792, 1024]⟩
abbrev S32768x1024 : Shape := ⟨2, ![32768, 1024]⟩
abbrev S1024x1024 : Shape := ⟨2, ![1024, 1024]⟩
abbrev S1x6144 : Shape := ⟨2, ![1, 6144]⟩
abbrev S3x6144 : Shape := ⟨2, ![3, 6144]⟩
abbrev S8x6144 : Shape := ⟨2, ![8, 6144]⟩
abbrev S8x1x6144 : Shape := ⟨3, ![8, 1, 6144]⟩
abbrev S1x1024 : Shape := ⟨2, ![1, 1024]⟩
abbrev S1024x32 : Shape := ⟨2, ![1024, 32]⟩
abbrev S1024x128 : Shape := ⟨2, ![1024, 128]⟩
abbrev S1024x3072 : Shape := ⟨2, ![1024, 3072]⟩
abbrev S1024x2048 : Shape := ⟨2, ![1024, 2048]⟩
abbrev S1024x256 : Shape := ⟨2, ![1024, 256]⟩
abbrev S1024x384 : Shape := ⟨2, ![1024, 384]⟩
abbrev S1024x6912 : Shape := ⟨2, ![1024, 6912]⟩
abbrev S33792x6912 : Shape := ⟨2, ![33792, 6912]⟩
abbrev S1x256x1024 : Shape := ⟨3, ![1, 256, 1024]⟩
abbrev S256x8 : Shape := ⟨2, ![256, 8]⟩
abbrev S256x1024 : Shape := ⟨2, ![256, 1024]⟩
abbrev S1x1x6144 : Shape := ⟨3, ![1, 1, 6144]⟩
abbrev S256x6912 : Shape := ⟨2, ![256, 6912]⟩
abbrev S256x512 : Shape := ⟨2, ![256, 512]⟩
abbrev S256x1 : Shape := ⟨2, ![256, 1]⟩
abbrev S1x1x1024 : Shape := ⟨3, ![1, 1, 1024]⟩
abbrev S256 : Shape := ⟨1, ![256]⟩
abbrev S1024x768 : Shape := ⟨2, ![1024, 768]⟩
abbrev S256x768 : Shape := ⟨2, ![256, 768]⟩

abbrev nBuf : Space → Nat
  | .hbm => 61
  | .vmem => 29
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S33792x6x1024, .f32⟩
  | .hbm, ⟨3, _⟩ => ⟨S33792x6, .f32⟩
  | .hbm, ⟨4, _⟩ => ⟨S33792x1024, .f32⟩
  | .hbm, ⟨5, _⟩ => ⟨S4x6144, .f32⟩
  | .hbm, ⟨6, _⟩ => ⟨S6144, .f32⟩
  | .hbm, ⟨7, _⟩ => ⟨S4x6144, .f32⟩
  | .hbm, ⟨8, _⟩ => ⟨S6144, .f32⟩
  | .hbm, ⟨9, _⟩ => ⟨S1024, .f32⟩
  | .hbm, ⟨10, _⟩ => ⟨S1024x6816, .f32⟩
  | .hbm, ⟨11, _⟩ => ⟨S4x8448x1024, .f32⟩
  | .hbm, ⟨12, _⟩ => ⟨S33792x1024, .f32⟩
  | .hbm, ⟨13, _⟩ => ⟨S32768x6, .f32⟩
  | .hbm, ⟨14, _⟩ => ⟨S4x8192x6, .f32⟩
  | .hbm, ⟨15, _⟩ => ⟨S1024x6, .f32⟩
  | .hbm, ⟨16, _⟩ => ⟨S4x256x6, .f32⟩
  | .hbm, ⟨17, _⟩ => ⟨S4x8448x6, .f32⟩
  | .hbm, ⟨18, _⟩ => ⟨S33792x6, .f32⟩
  | .hbm, ⟨19, _⟩ => ⟨S_, .i32⟩
  | .hbm, ⟨20, _⟩ => ⟨S_, .f32⟩
  | .hbm, ⟨21, _⟩ => ⟨S33792x8, .f32⟩
  | .hbm, ⟨22, _⟩ => ⟨S32768x6x1024, .f32⟩
  | .hbm, ⟨23, _⟩ => ⟨S4x8192x6x1024, .f32⟩
  | .hbm, ⟨24, _⟩ => ⟨S1024x6x1024, .f32⟩
  | .hbm, ⟨25, _⟩ => ⟨S4x256x6x1024, .f32⟩
  | .hbm, ⟨26, _⟩ => ⟨S4x8448x6x1024, .f32⟩
  | .hbm, ⟨27, _⟩ => ⟨S33792x6x1024, .f32⟩
  | .hbm, ⟨28, _⟩ => ⟨S33792x6x1024, .bf16⟩
  | .hbm, ⟨29, _⟩ => ⟨S6x33792x1024, .bf16⟩
  | .hbm, ⟨30, _⟩ => ⟨S32768x1024, .f32⟩
  | .hbm, ⟨31, _⟩ => ⟨S4x8192x1024, .f32⟩
  | .hbm, ⟨32, _⟩ => ⟨S1024x1024, .f32⟩
  | .hbm, ⟨33, _⟩ => ⟨S4x256x1024, .f32⟩
  | .hbm, ⟨34, _⟩ => ⟨S4x8448x1024, .f32⟩
  | .hbm, ⟨35, _⟩ => ⟨S33792x1024, .f32⟩
  | .hbm, ⟨36, _⟩ => ⟨S33792x1024, .bf16⟩
  | .hbm, ⟨37, _⟩ => ⟨S1x6144, .f32⟩
  | .hbm, ⟨38, _⟩ => ⟨S_, .f32⟩
  | .hbm, ⟨39, _⟩ => ⟨S3x6144, .f32⟩
  | .hbm, ⟨40, _⟩ => ⟨S8x6144, .f32⟩
  | .hbm, ⟨41, _⟩ => ⟨S8x1x6144, .f32⟩
  | .hbm, ⟨42, _⟩ => ⟨S1x6144, .f32⟩
  | .hbm, ⟨43, _⟩ => ⟨S_, .f32⟩
  | .hbm, ⟨44, _⟩ => ⟨S3x6144, .f32⟩
  | .hbm, ⟨45, _⟩ => ⟨S8x6144, .f32⟩
  | .hbm, ⟨46, _⟩ => ⟨S8x1x6144, .f32⟩
  | .hbm, ⟨47, _⟩ => ⟨S1x1024, .f32⟩
  | .hbm, ⟨48, _⟩ => ⟨S1024x32, .f32⟩
  | .hbm, ⟨49, _⟩ => ⟨S_, .i32⟩
  | .hbm, ⟨50, _⟩ => ⟨S_, .f32⟩
  | .hbm, ⟨51, _⟩ => ⟨S1024x128, .f32⟩
  | .hbm, ⟨52, _⟩ => ⟨S1024x3072, .f32⟩
  | .hbm, ⟨53, _⟩ => ⟨S1024x1024, .f32⟩
  | .hbm, ⟨54, _⟩ => ⟨S1024x2048, .f32⟩
  | .hbm, ⟨55, _⟩ => ⟨S1024x256, .f32⟩
  | .hbm, ⟨56, _⟩ => ⟨S1024x384, .f32⟩
  | .hbm, ⟨57, _⟩ => ⟨S1024x6912, .f32⟩
  | .hbm, ⟨58, _⟩ => ⟨S1024x6912, .bf16⟩
  | .hbm, ⟨59, _⟩ => ⟨S33792x1024, .f32⟩
  | .hbm, ⟨60, _⟩ => ⟨S33792x6912, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S256x8, .f32⟩
  | .local _ .vmem, ⟨13, _⟩ => ⟨S256x8, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1x6144, .f32⟩
  | .local _ .vmem, ⟨19, _⟩ => ⟨S1x1x6144, .f32⟩
  | .local _ .vmem, ⟨20, _⟩ => ⟨S1x1x6144, .f32⟩
  | .local _ .vmem, ⟨21, _⟩ => ⟨S1x1x6144, .f32⟩
  | .local _ .vmem, ⟨22, _⟩ => ⟨S1x1024, .f32⟩
  | .local _ .vmem, ⟨23, _⟩ => ⟨S1024x6912, .bf16⟩
  | .local _ .vmem, ⟨24, _⟩ => ⟨S256x1024, .f32⟩
  | .local _ .vmem, ⟨25, _⟩ => ⟨S256x1024, .f32⟩
  | .local _ .vmem, ⟨26, _⟩ => ⟨S256x6912, .bf16⟩
  | .local _ .vmem, ⟨27, _⟩ => ⟨S256x6912, .bf16⟩
  | .local _ .vmem, ⟨28, _⟩ => ⟨S256x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_1 : Ref sig .tc := ⟨.hbm, 49, rfl⟩
abbrev main_call1_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42_0 : Ref sig .tc := ⟨.hbm, 59, rfl⟩
abbrev main_v42_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![132], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32 : BitVec 32 := 32#32
  let v10 : BitVec 1 := Scalar.cmpi .eq v9 c32_i32
  let c33_i32_3 : BitVec 32 := 33#32
  let v11 : BitVec 32 := Scalar.divsi arg0 c33_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c33_i32_3 c0_i32_6
  let v18 : BitVec 32 := Scalar.extui v17
  let c0_i32_7 : BitVec 32 := 0#32
  let v19 : BitVec 1 := Scalar.cmpi .slt c33_i32_3 c0_i32_7
  let v20 : BitVec 32 := Scalar.extui v19
  let v21 : BitVec 32 := Scalar.subi v18 v20
  let v22 : BitVec 1 := Scalar.cmpi .ne v16 v21
  let v23 : BitVec 32 := Scalar.remsi arg0 c33_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c4_i32 : BitVec 32 := 4#32
  let v28 : BitVec 32 := Scalar.select v10 c4_i32 v27
  let c0_i32_10 : BitVec 32 := 0#32
  let c0_i32_11 : BitVec 32 := 0#32
  let c0_i32_12 : BitVec 32 := 0#32
  ![v28.toNat, c0_i32_10.toNat, c0_i32_11.toNat]

def cc0_transform_10 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32 : BitVec 32 := 32#32
  let v10 : BitVec 1 := Scalar.cmpi .eq v9 c32_i32
  let c33_i32_3 : BitVec 32 := 33#32
  let v11 : BitVec 32 := Scalar.divsi arg0 c33_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c33_i32_3 c0_i32_6
  let v18 : BitVec 32 := Scalar.extui v17
  let c0_i32_7 : BitVec 32 := 0#32
  let v19 : BitVec 1 := Scalar.cmpi .slt c33_i32_3 c0_i32_7
  let v20 : BitVec 32 := Scalar.extui v19
  let v21 : BitVec 32 := Scalar.subi v18 v20
  let v22 : BitVec 1 := Scalar.cmpi .ne v16 v21
  let v23 : BitVec 32 := Scalar.remsi arg0 c33_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c4_i32 : BitVec 32 := 4#32
  let v28 : BitVec 32 := Scalar.select v10 c4_i32 v27
  let c0_i32_10 : BitVec 32 := 0#32
  let c0_i32_11 : BitVec 32 := 0#32
  let c0_i32_12 : BitVec 32 := 0#32
  ![v28.toNat, c0_i32_10.toNat, c0_i32_11.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x6144 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x6144 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x6912 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x6912 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S4x8192x1024 : Shape := ⟨3, ![4, 8192, 1024]⟩
abbrev S4x256x1024 : Shape := ⟨3, ![4, 256, 1024]⟩
abbrev S33792x6x1024 : Shape := ⟨3, ![33792, 6, 1024]⟩
abbrev S33792x6 : Shape := ⟨2, ![33792, 6]⟩
abbrev S33792x1024 : Shape := ⟨2, ![33792, 1024]⟩
abbrev S4x6144 : Shape := ⟨2, ![4, 6144]⟩
abbrev S6144 : Shape := ⟨1, ![6144]⟩
abbrev S1024 : Shape := ⟨1, ![1024]⟩
abbrev S1024x6816 : Shape := ⟨2, ![1024, 6816]⟩
abbrev S4x1024 : Shape := ⟨2, ![4, 1024]⟩
abbrev S4x1x1024 : Shape := ⟨3, ![4, 1, 1024]⟩
abbrev S33792x6x1 : Shape := ⟨3, ![33792, 6, 1]⟩
abbrev S_ : Shape := ⟨0, ![]⟩
abbrev S32768x1024 : Shape := ⟨2, ![32768, 1024]⟩
abbrev S1024x1024 : Shape := ⟨2, ![1024, 1024]⟩
abbrev S1x1x1024 : Shape := ⟨3, ![1, 1, 1024]⟩
abbrev S4x8192 : Shape := ⟨2, ![4, 8192]⟩
abbrev S4x8192x1 : Shape := ⟨3, ![4, 8192, 1]⟩
abbrev S4x256 : Shape := ⟨2, ![4, 256]⟩
abbrev S4x256x1 : Shape := ⟨3, ![4, 256, 1]⟩
abbrev S4x8192x6816 : Shape := ⟨3, ![4, 8192, 6816]⟩
abbrev S4x256x6816 : Shape := ⟨3, ![4, 256, 6816]⟩
abbrev S4x8448x6816 : Shape := ⟨3, ![4, 8448, 6816]⟩
abbrev S4x8448x2048 : Shape := ⟨3, ![4, 8448, 2048]⟩
abbrev S4x8448x384 : Shape := ⟨3, ![4, 8448, 384]⟩
abbrev S4x8448x256 : Shape := ⟨3, ![4, 8448, 256]⟩
abbrev S4x8448x32 : Shape := ⟨3, ![4, 8448, 32]⟩
abbrev S4x8448x1024 : Shape := ⟨3, ![4, 8448, 1024]⟩
abbrev S4x8448x3072 : Shape := ⟨3, ![4, 8448, 3072]⟩
abbrev S4x8448x1 : Shape := ⟨3, ![4, 8448, 1]⟩
abbrev S4x8448x64 : Shape := ⟨3, ![4, 8448, 64]⟩
abbrev S4x8448x6912 : Shape := ⟨3, ![4, 8448, 6912]⟩
abbrev S33792x6912 : Shape := ⟨2, ![33792, 6912]⟩

abbrev nBuf : Space → Nat
  | .hbm => 103
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S33792x6x1024, .f32⟩
  | .hbm, ⟨3, _⟩ => ⟨S33792x6, .f32⟩
  | .hbm, ⟨4, _⟩ => ⟨S33792x1024, .f32⟩
  | .hbm, ⟨5, _⟩ => ⟨S4x6144, .f32⟩
  | .hbm, ⟨6, _⟩ => ⟨S6144, .f32⟩
  | .hbm, ⟨7, _⟩ => ⟨S4x6144, .f32⟩
  | .hbm, ⟨8, _⟩ => ⟨S6144, .f32⟩
  | .hbm, ⟨9, _⟩ => ⟨S1024, .f32⟩
  | .hbm, ⟨10, _⟩ => ⟨S1024x6816, .f32⟩
  | .hbm, ⟨11, _⟩ => ⟨S4x1024, .f32⟩
  | .hbm, ⟨12, _⟩ => ⟨S4x1x1024, .f32⟩
  | .hbm, ⟨13, _⟩ => ⟨S1024, .f32⟩
  | .hbm, ⟨14, _⟩ => ⟨S33792x6x1, .f32⟩
  | .hbm, ⟨15, _⟩ => ⟨S33792x6x1024, .f32⟩
  | .hbm, ⟨16, _⟩ => ⟨S33792x6x1024, .f32⟩
  | .hbm, ⟨17, _⟩ => ⟨S_, .f32⟩
  | .hbm, ⟨18, _⟩ => ⟨S33792x1024, .f32⟩
  | .hbm, ⟨19, _⟩ => ⟨S33792x1024, .f32⟩
  | .hbm, ⟨20, _⟩ => ⟨S32768x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S1024x1024, .f32⟩
  | .hbm, ⟨26, _⟩ => ⟨S4x256x1024, .f32⟩
  | .hbm, ⟨27, _⟩ => ⟨S1x1x1024, .f32⟩
  | .hbm, ⟨28, _⟩ => ⟨S4x256x1024, .f32⟩
  | .hbm, ⟨29, _⟩ => ⟨S4x256x1024, .f32⟩
  | .hbm, ⟨30, _⟩ => ⟨S4x256x1024, .f32⟩
  | .hbm, ⟨31, _⟩ => ⟨S4x1024, .f32⟩
  | .hbm, ⟨32, _⟩ => ⟨S4x1x1024, .f32⟩
  | .hbm, ⟨33, _⟩ => ⟨S4x1024, .f32⟩
  | .hbm, ⟨34, _⟩ => ⟨S4x1x1024, .f32⟩
  | .hbm, ⟨35, _⟩ => ⟨S1024, .f32⟩
  | .hbm, ⟨36, _⟩ => ⟨S1024, .f32⟩
  | .hbm, ⟨37, _⟩ => ⟨S4x8192x1024, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S4x8192x1, .f32⟩
  | .hbm, ⟨48, _⟩ => ⟨S4x8192x1024, .f32⟩
  | .hbm, ⟨49, _⟩ => ⟨S4x8192x1024, .f32⟩
  | .hbm, ⟨50, _⟩ => ⟨S1x1x1024, .f32⟩
  | .hbm, ⟨51, _⟩ => ⟨S4x8192x1024, .f32⟩
  | .hbm, ⟨52, _⟩ => ⟨S4x8192x1024, .f32⟩
  | .hbm, ⟨53, _⟩ => ⟨S_, .f32⟩
  | .hbm, ⟨54, _⟩ => ⟨S4x1x1024, .f32⟩
  | .hbm, ⟨55, _⟩ => ⟨S4x1x1024, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x256x1024, .f32⟩
  | .hbm, ⟨61, _⟩ => ⟨S_, .f32⟩
  | .hbm, ⟨62, _⟩ => ⟨S4x256, .f32⟩
  | .hbm, ⟨63, _⟩ => ⟨S4x256x1, .f32⟩
  | .hbm, ⟨64, _⟩ => ⟨S_, .f32⟩
  | .hbm, ⟨65, _⟩ => ⟨S4x256x1, .f32⟩
  | .hbm, ⟨66, _⟩ => ⟨S4x256x1, .f32⟩
  | .hbm, ⟨67, _⟩ => ⟨S_, .f32⟩
  | .hbm, ⟨68, _⟩ => ⟨S4x256x1, .f32⟩
  | .hbm, ⟨69, _⟩ => ⟨S4x256x1, .f32⟩
  | .hbm, ⟨70, _⟩ => ⟨S4x256x1, .f32⟩
  | .hbm, ⟨71, _⟩ => ⟨S4x256x1024, .f32⟩
  | .hbm, ⟨72, _⟩ => ⟨S4x256x1024, .f32⟩
  | .hbm, ⟨73, _⟩ => ⟨S1x1x1024, .f32⟩
  | .hbm, ⟨74, _⟩ => ⟨S4x256x1024, .f32⟩
  | .hbm, ⟨75, _⟩ => ⟨S4x256x1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1x1x1024, .f32⟩
  | .hbm, ⟨80, _⟩ => ⟨S4x256x1024, .f32⟩
  | .hbm, ⟨81, _⟩ => ⟨S4x256x1024, .f32⟩
  | .hbm, ⟨82, _⟩ => ⟨S1x1x1024, .f32⟩
  | .hbm, ⟨83, _⟩ => ⟨S4x256x1024, .f32⟩
  | .hbm, ⟨84, _⟩ => ⟨S4x256x1024, .f32⟩
  | .hbm, ⟨85, _⟩ => ⟨S4x8192x6816, .f32⟩
  | .hbm, ⟨86, _⟩ => ⟨S4x256x6816, .f32⟩
  | .hbm, ⟨87, _⟩ => ⟨S4x8448x6816, .f32⟩
  | .hbm, ⟨88, _⟩ => ⟨S4x8448x2048, .f32⟩
  | .hbm, ⟨89, _⟩ => ⟨S4x8448x384, .f32⟩
  | .hbm, ⟨90, _⟩ => ⟨S4x8448x256, .f32⟩
  | .hbm, ⟨91, _⟩ => ⟨S4x8448x32, .f32⟩
  | .hbm, ⟨92, _⟩ => ⟨S4x8448x1024, .f32⟩
  | .hbm, ⟨93, _⟩ => ⟨S4x8448x3072, .f32⟩
  | .hbm, ⟨94, _⟩ => ⟨S_, .f32⟩
  | .hbm, ⟨95, _⟩ => ⟨S4x8448x1, .f32⟩
  | .hbm, ⟨96, _⟩ => ⟨S4x8448x64, .f32⟩
  | .hbm, ⟨97, _⟩ => ⟨S4x8448x32, .f32⟩
  | .hbm, ⟨98, _⟩ => ⟨S4x8448x6912, .f32⟩
  | .hbm, ⟨99, _⟩ => ⟨S4x8448x1024, .f32⟩
  | .hbm, ⟨100, _⟩ => ⟨S33792x1024, .f32⟩
  | .hbm, ⟨101, _⟩ => ⟨S33792x6912, .f32⟩
  | .hbm, ⟨102, _⟩ => ⟨S33792x6912, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_8 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x256x1024 : Shape := ⟨3, ![4, 256, 1024]⟩
abbrev S4x6144 : Shape := ⟨2, ![4, 6144]⟩
abbrev S6144 : Shape := ⟨1, ![6144]⟩
abbrev S4x8448x3072 : Shape := ⟨3, ![4, 8448, 3072]⟩
abbrev S4x8448x1024 : Shape := ⟨3, ![4, 8448, 1024]⟩
abbrev S4x8448x512 : Shape := ⟨3, ![4, 8448, 512]⟩
abbrev S512 : Shape := ⟨1, ![512]⟩
abbrev S4x128x128 : Shape := ⟨3, ![4, 128, 128]⟩
abbrev S4x128 : Shape := ⟨2, ![4, 128]⟩
abbrev S512x1024 : Shape := ⟨2, ![512, 1024]⟩
abbrev S1024x1024 : Shape := ⟨2, ![1024, 1024]⟩
abbrev S1024 : Shape := ⟨1, ![1024]⟩
abbrev S1x6144 : Shape := ⟨2, ![1, 6144]⟩
abbrev S_ : Shape := ⟨0, ![]⟩
abbrev S3x6144 : Shape := ⟨2, ![3, 6144]⟩
abbrev S8x6144 : Shape := ⟨2, ![8, 6144]⟩
abbrev S4x8448x4096 : Shape := ⟨3, ![4, 8448, 4096]⟩
abbrev S33792x4096 : Shape := ⟨2, ![33792, 4096]⟩
abbrev S33792x6912 : Shape := ⟨2, ![33792, 6912]⟩
abbrev S4x128x1 : Shape := ⟨3, ![4, 128, 1]⟩
abbrev S32768x1024 : Shape := ⟨2, ![32768, 1024]⟩
abbrev S8x1x6144 : Shape := ⟨3, ![8, 1, 6144]⟩
abbrev S33792x512 : Shape := ⟨2, ![33792, 512]⟩
abbrev S1x512 : Shape := ⟨2, ![1, 512]⟩
abbrev S1x1024 : Shape := ⟨2, ![1, 1024]⟩
abbrev S33792x1024 : Shape := ⟨2, ![33792, 1024]⟩
abbrev S256x1024 : Shape := ⟨2, ![256, 1024]⟩
abbrev S1x1x6144 : Shape := ⟨3, ![1, 1, 6144]⟩
abbrev S256x3072 : Shape := ⟨2, ![256, 3072]⟩
abbrev S256x512 : Shape := ⟨2, ![256, 512]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S128x512 : Shape := ⟨2, ![128, 512]⟩
abbrev S1x1x1024 : Shape := ⟨3, ![1, 1, 1024]⟩

abbrev nBuf : Space → Nat
  | .hbm => 46
  | .vmem => 27
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x6144, .f32⟩
  | .hbm, ⟨3, _⟩ => ⟨S6144, .f32⟩
  | .hbm, ⟨4, _⟩ => ⟨S4x8448x3072, .f32⟩
  | .hbm, ⟨5, _⟩ => ⟨S4x8448x1024, .f32⟩
  | .hbm, ⟨6, _⟩ => ⟨S4x8448x512, .f32⟩
  | .hbm, ⟨7, _⟩ => ⟨S4x8448x512, .f32⟩
  | .hbm, ⟨8, _⟩ => ⟨S512, .f32⟩
  | .hbm, ⟨9, _⟩ => ⟨S512, .f32⟩
  | .hbm, ⟨10, _⟩ => ⟨S4x128x128, .f32⟩
  | .hbm, ⟨11, _⟩ => ⟨S4x128, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S1024x1024, .f32⟩
  | .hbm, ⟨16, _⟩ => ⟨S1024, .f32⟩
  | .hbm, ⟨17, _⟩ => ⟨S1x6144, .f32⟩
  | .hbm, ⟨18, _⟩ => ⟨S_, .f32⟩
  | .hbm, ⟨19, _⟩ => ⟨S3x6144, .f32⟩
  | .hbm, ⟨20, _⟩ => ⟨S8x6144, .f32⟩
  | .hbm, ⟨21, _⟩ => ⟨S4x8448x4096, .f32⟩
  | .hbm, ⟨22, _⟩ => ⟨S33792x4096, .f32⟩
  | .hbm, ⟨23, _⟩ => ⟨S_, .i32⟩
  | .hbm, ⟨24, _⟩ => ⟨S_, .f32⟩
  | .hbm, ⟨25, _⟩ => ⟨S33792x6912, .f32⟩
  | .hbm, ⟨26, _⟩ => ⟨S33792x6912, .bf16⟩
  | .hbm, ⟨27, _⟩ => ⟨S4x128x1, .f32⟩
  | .hbm, ⟨28, _⟩ => ⟨S4x128x128, .f32⟩
  | .hbm, ⟨29, _⟩ => ⟨S32768x1024, .f32⟩
  | .hbm, ⟨30, _⟩ => ⟨S1024x1024, .f32⟩
  | .hbm, ⟨31, _⟩ => ⟨S8x1x6144, .f32⟩
  | .hbm, ⟨32, _⟩ => ⟨S33792x512, .f32⟩
  | .hbm, ⟨33, _⟩ => ⟨S33792x512, .bf16⟩
  | .hbm, ⟨34, _⟩ => ⟨S33792x512, .f32⟩
  | .hbm, ⟨35, _⟩ => ⟨S33792x512, .bf16⟩
  | .hbm, ⟨36, _⟩ => ⟨S1x512, .f32⟩
  | .hbm, ⟨37, _⟩ => ⟨S1x512, .f32⟩
  | .hbm, ⟨38, _⟩ => ⟨S4x128x128, .bf16⟩
  | .hbm, ⟨39, _⟩ => ⟨S512x1024, .bf16⟩
  | .hbm, ⟨40, _⟩ => ⟨S512x1024, .bf16⟩
  | .hbm, ⟨41, _⟩ => ⟨S512x1024, .bf16⟩
  | .hbm, ⟨42, _⟩ => ⟨S1024x1024, .bf16⟩
  | .hbm, ⟨43, _⟩ => ⟨S1x1024, .f32⟩
  | .hbm, ⟨44, _⟩ => ⟨S33792x1024, .f32⟩
  | .hbm, ⟨45, _⟩ => ⟨S33792x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x6144, .f32⟩
  | .local _ .vmem, ⟨5, _⟩ => ⟨S1x1x6144, .f32⟩
  | .local _ .vmem, ⟨6, _⟩ => ⟨S256x3072, .bf16⟩
  | .local _ .vmem, ⟨7, _⟩ => ⟨S256x3072, .bf16⟩
  | .local _ .vmem, ⟨8, _⟩ => ⟨S256x1024, .bf16⟩
  | .local _ .vmem, ⟨9, _⟩ => ⟨S256x1024, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1x512, .f32⟩
  | .local _ .vmem, ⟨15, _⟩ => ⟨S1x512, .f32⟩
  | .local _ .vmem, ⟨16, _⟩ => ⟨S4x128x128, .bf16⟩
  | .local _ .vmem, ⟨17, _⟩ => ⟨S4x128x128, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32 : BitVec 32 := 32#32
  let v17 : BitVec 32 := Scalar.muli v16 c32_i32
  let c33_i32_4 : BitVec 32 := 33#32
  let c0_i32_5 : BitVec 32 := 0#32
  let v18 : BitVec 1 := Scalar.cmpi .eq c33_i32_4 c0_i32_5
  let c1_i32_6 : BitVec 32 := 1#32
  let v19 : BitVec 32 := Scalar.select v18 c1_i32_6 c33_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c31_i32 : BitVec 32 := 31#32
  let v28 : BitVec 32 := Scalar.minsi v27 c31_i32
  let v29 : BitVec 32 := Scalar.addi v17 v28
  let c0_i32_10 : BitVec 32 := 0#32
  let c0_i32_11 : BitVec 32 := 0#32
  ![v29.toNat, c0_i32_10.toNat]

def cc0_transform_1 (i : grid0.Coords) : Fin 2 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32 : BitVec 32 := 32#32
  let v10 : BitVec 1 := Scalar.cmpi .eq v9 c32_i32
  let c33_i32_3 : BitVec 32 := 33#32
  let v11 : BitVec 32 := Scalar.divsi arg0 c33_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c33_i32_3 c0_i32_6
  let v18 : BitVec 32 := Scalar.extui v17
  let c0_i32_7 : BitVec 32 := 0#32
  let v19 : BitVec 1 := Scalar.cmpi .slt c33_i32_3 c0_i32_7
  let v20 : BitVec 32 := Scalar.extui v19
  let v21 : BitVec 32 := Scalar.subi v18 v20
  let v22 : BitVec 1 := Scalar.cmpi .ne v16 v21
  let v23 : BitVec 32 := Scalar.remsi arg0 c33_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c4_i32 : BitVec 32 := 4#32
  let v28 : BitVec 32 := Scalar.select v10 c4_i32 v27
  let c0_i32_10 : BitVec 32 := 0#32
  let c0_i32_11 : BitVec 32 := 0#32
  let c0_i32_12 : BitVec 32 := 0#32
  ![v28.toNat, c0_i32_10.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel4Ideal.lean ====
variable {F : FTy → Type} [FloatOps F] [Named F]
def κ : String → Option EReal := fun
  | "gelu_scale" => some ((Real.sqrt (2 * Real.pi⁻¹) : ℝ) : EReal)
  | _ => none
-- ==== Reference4Ideal.lean ====
abbrev S4x8192x1024 : Shape := ⟨3, ![4, 8192, 1024]⟩
abbrev S4x256x1024 : Shape := ⟨3, ![4, 256, 1024]⟩
abbrev S4x6144 : Shape := ⟨2, ![4, 6144]⟩
abbrev S6144 : Shape := ⟨1, ![6144]⟩
abbrev S4x8448x3072 : Shape := ⟨3, ![4, 8448, 3072]⟩
abbrev S4x8448x1024 : Shape := ⟨3, ![4, 8448, 1024]⟩
abbrev S4x8448x512 : Shape := ⟨3, ![4, 8448, 512]⟩
abbrev S512 : Shape := ⟨1, ![512]⟩
abbrev S4x128x128 : Shape := ⟨3, ![4, 128, 128]⟩
abbrev S4x128 : Shape := ⟨2, ![4, 128]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S4x8448 : Shape := ⟨2, ![4, 8448]⟩
abbrev S4x8448x1 : Shape := ⟨3, ![4, 8448, 1]⟩
abbrev S1x1x512 : Shape := ⟨3, ![1, 1, 512]⟩
abbrev S4x66x128x4x128 : Shape := ⟨5, ![4, 66, 128, 4, 128]⟩
abbrev S4x4x66x128x128 : Shape := ⟨5, ![4, 4, 66, 128, 128]⟩
abbrev S128x4 : Shape := ⟨2, ![128, 4]⟩
abbrev S1x1x128x4x1 : Shape := ⟨5, ![1, 1, 128, 4, 1]⟩
abbrev S4x1024 : Shape := ⟨2, ![4, 1024]⟩
abbrev S4x1x1024 : Shape := ⟨3, ![4, 1, 1024]⟩
abbrev S1x1x1024 : Shape := ⟨3, ![1, 1, 1024]⟩
abbrev S4x8192 : Shape := ⟨2, ![4, 8192]⟩
abbrev S4x8192x1 : Shape := ⟨3, ![4, 8192, 1]⟩
abbrev S4x256 : Shape := ⟨2, ![4, 256]⟩
abbrev S4x256x1 : Shape := ⟨3, ![4, 256, 1]⟩
abbrev S33792x1024 : Shape := ⟨2, ![33792, 1024]⟩

abbrev nBuf : Space → Nat
  | .hbm => 172
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x6144, .f32⟩
  | 3 => ⟨S6144, .f32⟩
  | 4 => ⟨S4x8448x3072, .f32⟩
  | 5 => ⟨S4x8448x1024, .f32⟩
  | 6 => ⟨S4x8448x512, .f32⟩
  | 7 => ⟨S4x8448x512, .f32⟩
  | 8 => ⟨S512, .f32⟩
  | 9 => ⟨S512, .f32⟩
  | 10 => ⟨S4x128x128, .f32⟩
  | 11 => ⟨S4x128, .f32⟩
  | 12 => ⟨S512x1024, .f32⟩
  | 13 => ⟨S512x1024, .f32⟩
  | 14 => ⟨S512x1024, .f32⟩
  | 15 => ⟨S1024x1024, .f32⟩
  | 16 => ⟨S1024, .f32⟩
  | 17 => ⟨S4x8448x3072, .f32⟩
  | 18 => ⟨S4x8448x3072, .f32⟩
  | 19 => ⟨S_, .f32⟩
  | 20 => ⟨S4x8448x3072, .f32⟩
  | 21 => ⟨S4x8448x3072, .f32⟩
  | 22 => ⟨S_, .f32⟩
  | 23 => ⟨S4x8448x3072, .f32⟩
  | 24 => ⟨S4x8448x3072, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S4x8448x1024, .f32⟩
  | 33 => ⟨S4x8448x1024, .f32⟩
  | 34 => ⟨S_, .f32⟩
  | 35 => ⟨S4x8448x1024, .f32⟩
  | 36 => ⟨S4x8448x1024, .f32⟩
  | 37 => ⟨S4x8448x1024, .f32⟩
  | 38 => ⟨S4x8448x1024, .f32⟩
  | 39 => ⟨S4x8448x1024, .f32⟩
  | 40 => ⟨S4x8448x1024, .f32⟩
  | 41 => ⟨S_, .f32⟩
  | 42 => ⟨S4x8448x1024, .f32⟩
  | 43 => ⟨S4x8448x1024, .f32⟩
  | 44 => ⟨S_, .f32⟩
  | 45 => ⟨S4x8448x1024, .f32⟩
  | 46 => ⟨S4x8448x1024, .f32⟩
  | 47 => ⟨S4x8448x1024, .f32⟩
  | 48 => ⟨S4x8448x512, .f32⟩
  | 49 => ⟨S4x8448x512, .f32⟩
  | 50 => ⟨S_, .f32⟩
  | 51 => ⟨S4x8448, .f32⟩
  | 52 => ⟨S4x8448x1, .f32⟩
  | 53 => ⟨S_, .f32⟩
  | 54 => ⟨S4x8448x1, .f32⟩
  | 55 => ⟨S4x8448x1, .f32⟩
  | 56 => ⟨S4x8448x512, .f32⟩
  | 57 => ⟨S4x8448x512, .f32⟩
  | 58 => ⟨S4x8448x512, .f32⟩
  | 59 => ⟨S4x8448x512, .f32⟩
  | 60 => ⟨S4x8448x512, .f32⟩
  | 61 => ⟨S_, .f32⟩
  | 62 => ⟨S4x8448, .f32⟩
  | 63 => ⟨S4x8448x1, .f32⟩
  | 64 => ⟨S_, .f32⟩
  | 65 => ⟨S4x8448x1, .f32⟩
  | 66 => ⟨S4x8448x1, .f32⟩
  | 67 => ⟨S4x8448x512, .f32⟩
  | 68 => ⟨S4x8448x512, .f32⟩
  | 69 => ⟨S_, .f32⟩
  | 70 => ⟨S4x8448x1, .f32⟩
  | 71 => ⟨S4x8448x1, .f32⟩
  | 72 => ⟨S4x8448x1, .f32⟩
  | 73 => ⟨S4x8448x512, .f32⟩
  | 74 => ⟨S4x8448x512, .f32⟩
  | 75 => ⟨S1x1x512, .f32⟩
  | 76 => ⟨S4x8448x512, .f32⟩
  | 77 => ⟨S4x8448x512, .f32⟩
  | 78 => ⟨S1x1x512, .f32⟩
  | 79 => ⟨S4x8448x512, .f32⟩
  | 80 => ⟨S4x8448x512, .f32⟩
  | 81 => ⟨S4x66x128x4x128, .f32⟩
  | 82 => ⟨S4x4x66x128x128, .f32⟩
  | 83 => ⟨S4x66x128x4x128, .f32⟩
  | 84 => ⟨S128x4, .f32⟩
  | 85 => ⟨S1x1x128x4x1, .f32⟩
  | 86 => ⟨S4x66x128x4x128, .f32⟩
  | 87 => ⟨S4x66x128x4x128, .f32⟩
  | 88 => ⟨S4x8448x512, .f32⟩
  | 89 => ⟨S4x8448x512, .f32⟩
  | 90 => ⟨S4x8448x1024, .f32⟩
  | 91 => ⟨S4x8448x1024, .f32⟩
  | 92 => ⟨S4x8448x1024, .f32⟩
  | 93 => ⟨S4x8448x1024, .f32⟩
  | 94 => ⟨S4x8448x1024, .f32⟩
  | 95 => ⟨S4x8448x1024, .f32⟩
  | 96 => ⟨S4x8448x1024, .f32⟩
  | 97 => ⟨S4x8448x1024, .f32⟩
  | 98 => ⟨S4x8448x1024, .f32⟩
  | 99 => ⟨S4x8448x1024, .f32⟩
  | 100 => ⟨S4x8448x1024, .f32⟩
  | 101 => ⟨S4x8448x1024, .f32⟩
  | 102 => ⟨S4x1024, .f32⟩
  | 103 => ⟨S4x1x1024, .f32⟩
  | 104 => ⟨S4x1024, .f32⟩
  | 105 => ⟨S4x1x1024, .f32⟩
  | 106 => ⟨S4x1024, .f32⟩
  | 107 => ⟨S4x1x1024, .f32⟩
  | 108 => ⟨S1024, .f32⟩
  | 109 => ⟨S1024, .f32⟩
  | 110 => ⟨S1024, .f32⟩
  | 111 => ⟨S4x8192x1024, .f32⟩
  | 112 => ⟨S4x8192x1024, .f32⟩
  | 113 => ⟨S4x8192x1024, .f32⟩
  | 114 => ⟨S4x8192x1024, .f32⟩
  | 115 => ⟨S4x256x1024, .f32⟩
  | 116 => ⟨S1x1x1024, .f32⟩
  | 117 => ⟨S4x256x1024, .f32⟩
  | 118 => ⟨S4x256x1024, .f32⟩
  | 119 => ⟨S4x256x1024, .f32⟩
  | 120 => ⟨S4x8192x1024, .f32⟩
  | 121 => ⟨S_, .f32⟩
  | 122 => ⟨S4x8192, .f32⟩
  | 123 => ⟨S4x8192x1, .f32⟩
  | 124 => ⟨S_, .f32⟩
  | 125 => ⟨S4x8192x1, .f32⟩
  | 126 => ⟨S4x8192x1, .f32⟩
  | 127 => ⟨S_, .f32⟩
  | _ => ⟨S4x8192x1024, .f32⟩

abbrev hbmTy0_1 (i : Nat) : BufTy := match i % 128 with
  | 0 => ⟨S4x8192x1, .f32⟩
  | 1 => ⟨S4x8192x1, .f32⟩
  | 2 => ⟨S4x8192x1, .f32⟩
  | 3 => ⟨S4x8192x1024, .f32⟩
  | 4 => ⟨S4x8192x1024, .f32⟩
  | 5 => ⟨S1x1x1024, .f32⟩
  | 6 => ⟨S4x8192x1024, .f32⟩
  | 7 => ⟨S4x8192x1024, .f32⟩
  | 8 => ⟨S_, .f32⟩
  | 9 => ⟨S4x1x1024, .f32⟩
  | 10 => ⟨S4x1x1024, .f32⟩
  | 11 => ⟨S4x8192x1024, .f32⟩
  | 12 => ⟨S4x8192x1024, .f32⟩
  | 13 => ⟨S4x8192x1024, .f32⟩
  | 14 => ⟨S4x8192x1024, .f32⟩
  | 15 => ⟨S4x256x1024, .f32⟩
  | 16 => ⟨S_, .f32⟩
  | 17 => ⟨S4x256, .f32⟩
  | 18 => ⟨S4x256x1, .f32⟩
  | 19 => ⟨S_, .f32⟩
  | 20 => ⟨S4x256x1, .f32⟩
  | 21 => ⟨S4x256x1, .f32⟩
  | 22 => ⟨S_, .f32⟩
  | 23 => ⟨S4x256x1, .f32⟩
  | 24 => ⟨S4x256x1, .f32⟩
  | 25 => ⟨S4x256x1, .f32⟩
  | 26 => ⟨S4x256x1024, .f32⟩
  | 27 => ⟨S4x256x1024, .f32⟩
  | 28 => ⟨S1x1x1024, .f32⟩
  | 29 => ⟨S4x256x1024, .f32⟩
  | 30 => ⟨S4x256x1024, .f32⟩
  | 31 => ⟨S_, .f32⟩
  | 32 => ⟨S1024, .f32⟩
  | 33 => ⟨S1024, .f32⟩
  | 34 => ⟨S1x1x1024, .f32⟩
  | 35 => ⟨S4x256x1024, .f32⟩
  | 36 => ⟨S4x256x1024, .f32⟩
  | 37 => ⟨S1x1x1024, .f32⟩
  | 38 => ⟨S4x256x1024, .f32⟩
  | 39 => ⟨S4x256x1024, .f32⟩
  | 40 => ⟨S4x8448x1024, .f32⟩
  | 41 => ⟨S33792x1024, .f32⟩
  | 42 => ⟨S4x8448x1024, .f32⟩
  | 43 => ⟨S33792x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_cst_3 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_4 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_5 : Ref sig .tc := ⟨.hbm, 41, rfl⟩
abbrev main_v18 : Ref sig .tc := ⟨.hbm, 42, rfl⟩
abbrev main_v19 : Ref sig .tc := ⟨.hbm, 43, rfl⟩
abbrev main_cst_6 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_7 : Ref sig .tc := ⟨.hbm, 50, rfl⟩
abbrev main_v25 : Ref sig .tc := ⟨.hbm, 51, rfl⟩
abbrev main_v26 : Ref sig .tc := ⟨.hbm, 52, rfl⟩
abbrev main_cst_8 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_9 : Ref sig .tc := ⟨.hbm, 61, rfl⟩
abbrev main_v34 : Ref sig .tc := ⟨.hbm, 62, rfl⟩
abbrev main_v35 : Ref sig .tc := ⟨.hbm, 63, rfl⟩
abbrev main_cst_10 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_11 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_12 : Ref sig .tc := ⟨.hbm, 121, rfl⟩
abbrev main_v91 : Ref sig .tc := ⟨.hbm, 122, rfl⟩
abbrev main_v92 : Ref sig .tc := ⟨.hbm, 123, rfl⟩
abbrev main_cst_13 : Ref sig .tc := ⟨.hbm, 124, rfl⟩
abbrev main_v93 : Ref sig .tc := ⟨.hbm, 125, rfl⟩
abbrev main_v94 : Ref sig .tc := ⟨.hbm, 126, rfl⟩
abbrev main_cst_14 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_15 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_16 : Ref sig .tc := ⟨.hbm, 144, rfl⟩
abbrev main_v110 : Ref sig .tc := ⟨.hbm, 145, rfl⟩
abbrev main_v111 : Ref sig .tc := ⟨.hbm, 146, rfl⟩
abbrev main_cst_17 : Ref sig .tc := ⟨.hbm, 147, rfl⟩
abbrev main_v112 : Ref sig .tc := ⟨.hbm, 148, rfl⟩
abbrev main_v113 : Ref sig .tc := ⟨.hbm, 149, rfl⟩
abbrev main_cst_18 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_19 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩

abbrev nD : Nat := 1
abbrev τ : Topo := Topo.v7x

variable {F : FTy → Type} [FloatOps F]
-- ==== Kernel5.lean ====
abbrev S4x8192x1024 : Shape := ⟨3, ![4, 8192, 1024]⟩
abbrev S32768x6x1024 : Shape := ⟨3, ![32768, 6, 1024]⟩
abbrev S32768x6 : Shape := ⟨2, ![32768, 6]⟩
abbrev S32768x1024 : Shape := ⟨2, ![32768, 1024]⟩
abbrev S4x6144 : Shape := ⟨2, ![4, 6144]⟩
abbrev S_ : Shape := ⟨0, ![]⟩
abbrev S8x6144 : Shape := ⟨2, ![8, 6144]⟩
abbrev S8x1x6144 : Shape := ⟨3, ![8, 1, 6144]⟩
abbrev S4x8448x1024 : Shape := ⟨3, ![4, 8448, 1024]⟩
abbrev S33792x1024 : Shape := ⟨2, ![33792, 1024]⟩
abbrev S32768x8 : Shape := ⟨2, ![32768, 8]⟩
abbrev S6x32768x1024 : Shape := ⟨3, ![6, 32768, 1024]⟩
abbrev S1x256x1024 : Shape := ⟨3, ![1, 256, 1024]⟩
abbrev S256x8 : Shape := ⟨2, ![256, 8]⟩
abbrev S256x1024 : Shape := ⟨2, ![256, 1024]⟩
abbrev S1x1x6144 : Shape := ⟨3, ![1, 1, 6144]⟩
abbrev S256x512 : Shape := ⟨2, ![256, 512]⟩
abbrev S256x1 : Shape := ⟨2, ![256, 1]⟩
abbrev S1x1x1024 : Shape := ⟨3, ![1, 1, 1024]⟩
abbrev S1x1024 : Shape := ⟨2, ![1, 1024]⟩

abbrev nBuf : Space → Nat
  | .hbm => 20
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S32768x6x1024, .f32⟩
  | .hbm, ⟨2, _⟩ => ⟨S32768x6, .f32⟩
  | .hbm, ⟨3, _⟩ => ⟨S32768x1024, .f32⟩
  | .hbm, ⟨4, _⟩ => ⟨S4x6144, .f32⟩
  | .hbm, ⟨5, _⟩ => ⟨S_, .i32⟩
  | .hbm, ⟨6, _⟩ => ⟨S_, .f32⟩
  | .hbm, ⟨7, _⟩ => ⟨S8x6144, .f32⟩
  | .hbm, ⟨8, _⟩ => ⟨S8x1x6144, .f32⟩
  | .hbm, ⟨9, _⟩ => ⟨S_, .i32⟩
  | .hbm, ⟨10, _⟩ => ⟨S_, .f32⟩
  | .hbm, ⟨11, _⟩ => ⟨S4x8448x1024, .f32⟩
  | .hbm, ⟨12, _⟩ => ⟨S33792x1024, .f32⟩
  | .hbm, ⟨13, _⟩ => ⟨S_, .i32⟩
  | .hbm, ⟨14, _⟩ => ⟨S_, .f32⟩
  | .hbm, ⟨15, _⟩ => ⟨S32768x8, .f32⟩
  | .hbm, ⟨16, _⟩ => ⟨S32768x6x1024, .bf16⟩
  | .hbm, ⟨17, _⟩ => ⟨S6x32768x1024, .bf16⟩
  | .hbm, ⟨18, _⟩ => ⟨S32768x1024, .bf16⟩
  | .hbm, ⟨19, _⟩ => ⟨S32768x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S256x8, .f32⟩
  | .local _ .vmem, ⟨13, _⟩ => ⟨S256x8, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1x6144, .f32⟩
  | .local _ .vmem, ⟨19, _⟩ => ⟨S1x1x6144, .f32⟩
  | .local _ .vmem, ⟨20, _⟩ => ⟨S256x1024, .f32⟩
  | .local _ .vmem, ⟨21, _⟩ => ⟨S256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32 : BitVec 32 := 33#32
  let v17 : BitVec 32 := Scalar.muli v16 c33_i32
  let c32_i32_4 : BitVec 32 := 32#32
  let c0_i32_5 : BitVec 32 := 0#32
  let v18 : BitVec 1 := Scalar.cmpi .eq c32_i32_4 c0_i32_5
  let c1_i32_6 : BitVec 32 := 1#32
  let v19 : BitVec 32 := Scalar.select v18 c1_i32_6 c32_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_10 : BitVec 32 := 0#32
  let c0_i32_11 : BitVec 32 := 0#32
  ![v28.toNat, c0_i32_10.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32 : BitVec 32 := 33#32
  let v17 : BitVec 32 := Scalar.muli v16 c33_i32
  let c32_i32_4 : BitVec 32 := 32#32
  let c0_i32_5 : BitVec 32 := 0#32
  let v18 : BitVec 1 := Scalar.cmpi .eq c32_i32_4 c0_i32_5
  let c1_i32_6 : BitVec 32 := 1#32
  let v19 : BitVec 32 := Scalar.select v18 c1_i32_6 c32_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c33_i32_10 : BitVec 32 := 33#32
  let c0_i32_11 : BitVec 32 := 0#32
  let v29 : BitVec 1 := Scalar.cmpi .eq c33_i32_10 c0_i32_11
  let c1_i32_12 : BitVec 32 := 1#32
  let v30 : BitVec 32 := Scalar.select v29 c1_i32_12 c33_i32_10
  let v31 : BitVec 32 := Scalar.remsi v28 v30
  let c0_i32_13 : BitVec 32 := 0#32
  let v32 : BitVec 1 := Scalar.cmpi .ne v31 c0_i32_13
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let v36 : BitVec 1 := Scalar.andi v35 v32
  let v37 : BitVec 32 := Scalar.addi v31 v30
  let v38 : BitVec 32 := Scalar.select v36 v37 v31
  let c32_i32_16 : BitVec 32 := 32#32
  let v39 : BitVec 1 := Scalar.cmpi .eq v38 c32_i32_16
  let c33_i32_17 : BitVec 32 := 33#32
  let v40 : BitVec 32 := Scalar.divsi v28 c33_i32_17
  let c0_i32_18 : BitVec 32 := 0#32
  let v41 : BitVec 1 := Scalar.cmpi .sgt v28 c0_i32_18
  let v42 : BitVec 32 := Scalar.extui v41
  let c0_i32_19 : BitVec 32 := 0#32
  let v43 : BitVec 1 := Scalar.cmpi .slt v28 c0_i32_19
  let v44 : BitVec 32 := Scalar.extui v43
  let v45 : BitVec 32 := Scalar.subi v42 v44
  let c0_i32_20 : BitVec 32 := 0#32
  let v46 : BitVec 1 := Scalar.cmpi .sgt c33_i32_17 c0_i32_20
  let v47 : BitVec 32 := Scalar.extui v46
  let c0_i32_21 : BitVec 32 := 0#32
  let v48 : BitVec 1 := Scalar.cmpi .slt c33_i32_17 c0_i32_21
  let v49 : BitVec 32 := Scalar.extui v48
  let v50 : BitVec 32 := Scalar.subi v47 v49
  let v51 : BitVec 1 := Scalar.cmpi .ne v45 v50
  let v52 : BitVec 32 := Scalar.remsi v28 c33_i32_17
  let c0_i32_22 : BitVec 32 := 0#32
  let v53 : BitVec 1 := Scalar.cmpi .ne v52 c0_i32_22
  let v54 : BitVec 1 := Scalar.andi v51 v53
  let c1_i32_23 : BitVec 32 := 1#32
  let v55 : BitVec 32 := Scalar.subi v40 c1_i32_23
  let v56 : BitVec 32 := Scalar.select v54 v55 v40
  let c4_i32 : BitVec 32 := 4#32
  let v57 : BitVec 32 := Scalar.select v39 c4_i32 v56
  let c0_i32_24 : BitVec 32 := 0#32
  let c0_i32_25 : BitVec 32 := 0#32
  let c0_i32_26 : BitVec 32 := 0#32
  ![v57.toNat, c0_i32_24.toNat, c0_i32_25.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x6144 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S4x8192x1024 : Shape := ⟨3, ![4, 8192, 1024]⟩
abbrev S32768x6x1024 : Shape := ⟨3, ![32768, 6, 1024]⟩
abbrev S32768x6 : Shape := ⟨2, ![32768, 6]⟩
abbrev S32768x1024 : Shape := ⟨2, ![32768, 1024]⟩
abbrev S4x6144 : Shape := ⟨2, ![4, 6144]⟩
abbrev S32768x6x1 : Shape := ⟨3, ![32768, 6, 1]⟩
abbrev S_ : Shape := ⟨0, ![]⟩
abbrev S4x1024 : Shape := ⟨2, ![4, 1024]⟩
abbrev S4x1x1024 : Shape := ⟨3, ![4, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S32768x6x1024, .f32⟩
  | .hbm, ⟨2, _⟩ => ⟨S32768x6, .f32⟩
  | .hbm, ⟨3, _⟩ => ⟨S32768x1024, .f32⟩
  | .hbm, ⟨4, _⟩ => ⟨S4x6144, .f32⟩
  | .hbm, ⟨5, _⟩ => ⟨S32768x6x1, .f32⟩
  | .hbm, ⟨6, _⟩ => ⟨S32768x6x1024, .f32⟩
  | .hbm, ⟨7, _⟩ => ⟨S32768x6x1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S4x1024, .f32⟩
  | .hbm, ⟨12, _⟩ => ⟨S4x1x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel6.lean ====
abbrev S33792x1024 : Shape := ⟨2, ![33792, 1024]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S33792x1024, .f32⟩
  | .hbm, ⟨1, _⟩ => ⟨S1024x256, .f32⟩
  | .hbm, ⟨2, _⟩ => ⟨S1024x256, .f32⟩
  | .hbm, ⟨3, _⟩ => ⟨S256x1024, .f32⟩
  | .hbm, ⟨4, _⟩ => ⟨S33792x1024, .bf16⟩
  | .hbm, ⟨5, _⟩ => ⟨S1024x256, .bf16⟩
  | .hbm, ⟨6, _⟩ => ⟨S1024x256, .bf16⟩
  | .hbm, ⟨7, _⟩ => ⟨S256x1024, .bf16⟩
  | .hbm, ⟨8, _⟩ => ⟨S33792x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S256x1024, .bf16⟩
  | .local _ .vmem, ⟨5, _⟩ => ⟨S1024x1024, .bf16⟩
  | .local _ .vmem, ⟨6, _⟩ => ⟨S1024x1024, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S33792x1024 : Shape := ⟨2, ![33792, 1024]⟩
abbrev S1024x256 : Shape := ⟨2, ![1024, 256]⟩
abbrev S256x1024 : Shape := ⟨2, ![256, 1024]⟩
abbrev S33792x256 : Shape := ⟨2, ![33792, 256]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024x256, .f32⟩
  | .hbm, ⟨2, _⟩ => ⟨S1024x256, .f32⟩
  | .hbm, ⟨3, _⟩ => ⟨S256x1024, .f32⟩
  | .hbm, ⟨4, _⟩ => ⟨S33792x256, .f32⟩
  | .hbm, ⟨5, _⟩ => ⟨S33792x256, .f32⟩
  | .hbm, ⟨6, _⟩ => ⟨S33792x256, .f32⟩
  | .hbm, ⟨7, _⟩ => ⟨S_, .f32⟩
  | .hbm, ⟨8, _⟩ => ⟨S33792x256, .f32⟩
  | .hbm, ⟨9, _⟩ => ⟨S33792x256, .f32⟩
  | .hbm, ⟨10, _⟩ => ⟨S_, .f32⟩
  | .hbm, ⟨11, _⟩ => ⟨S33792x256, .f32⟩
  | .hbm, ⟨12, _⟩ => ⟨S33792x256, .f32⟩
  | .hbm, ⟨13, _⟩ => ⟨S33792x256, .f32⟩
  | .hbm, ⟨14, _⟩ => ⟨S33792x256, .f32⟩
  | .hbm, ⟨15, _⟩ => ⟨S33792x256, .f32⟩
  | .hbm, ⟨16, _⟩ => ⟨S33792x1024, .f32⟩
  | .hbm, ⟨17, _⟩ => ⟨S33792x1024, .bf16⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Proof.RunB.lean ====
/-
  The run of the kernel body at the context tile (the second branch). The text is the generated run of that case with one
  step more: the branch not taken is dropped before the taken branch's parts are opened.
-/
module

public import proofs.«01_k».proof.Proof.Gen.KernelIdeal.Frame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 32, 65, … 263: 8 of 264), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1x4x256x128 .bf16) (harg3 : arg3.IsWhole) (arg4 : Memref sig .tc .vmem S1x4x8448x128 .bf16) (harg4 : arg4.IsWhole) (arg5 : Memref sig .tc .vmem S1x4x33x80x256 .bf16) (harg5 : arg5.IsWhole) (arg6 : Memref sig .tc .vmem S1x256x256 .bf16) (harg6 : arg6.IsWhole) (arg7 : Memref sig .tc .vmem S4x2x1280x256 .f32) (harg7 : arg7.IsWhole) (hc0 : ¬cond0_0 i) (hc1 : cond0_1 i)
    (x0 : Vec F S1x4x256x128 .bf16) (x1 : Vec F S1x4x8448x128 .bf16) (x2 : Vec F S1x4x33x80x256 .bf16) :
    Σ' (L3 : List (View.Piece (Elt F) S1x256x256 .bf16)), { LT0 : List (View.Piece (Elt F) S4x2x1280x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LT0)) -∗ K ⟨⟩))
          ⊢ wp frame (wpE (defs₀ (F := F)) Variants.none c none) E (cc0_attention i arg3 harg3 arg4 harg4 arg5 harg5 arg6 harg6 arg7 harg7) K } := by
  refine ⟨?_, ?_, fun E K => ?run⟩
  case run =>
    simp only [cc0_attention_eq_skeleton]; unfold cc0_attention_skel
    rw [dif_neg (c := k0_cond1 i = 1#1) hc0]
    simp only [k0_part47_eq_skeleton, k0_part48_eq_skeleton, k0_part49_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Gen

end
-- ==== Proof.Frame.lean ====
/-
  The frame run of the kernel: the generated text, over the run of the context tile in `RunB`.
-/
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 3 tile its block (1 store of `S1x256x256`, checked by the kernel's evaluation: Lib/Ring.lean `Piece.tiledL`, linear in the pieces, through a loop's `@[irreducible]` trip theorem too), so they cover it. -/
theorem cover0_A_3 (c : Dev nD) (i : grid0.Coords) (arg3 : Memref sig .tc .vmem S1x4x256x128 .bf16) (harg3 : arg3.IsWhole) (arg4 : Memref sig .tc .vmem S1x4x8448x128 .bf16) (harg4 : arg4.IsWhole) (arg5 : Memref sig .tc .vmem S1x4x33x80x256 .bf16) (harg5 : arg5.IsWhole) (arg6 : Memref sig .tc .vmem S1x256x256 .bf16) (harg6 : arg6.IsWhole) (arg7 : Memref sig .tc .vmem S4x2x1280x256 .f32) (harg7 : arg7.IsWhole) (hc0 : cond0_0 i) (hc1 : ¬cond0_1 i)
    (x0 : Vec F S1x4x256x128 .bf16) (x1 : Vec F S1x4x8448x128 .bf16) (x2 : Vec F S1x4x33x80x256 .bf16) (y : S1x256x256.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S1x256x256.size (by sl_kernel_rfl) y

/-- What case A leaves in output 3's staging buffer: its pieces read back over junk. -/
def out0_A_3 (c : Dev nD) (i : grid0.Coords) (arg3 : Memref sig .tc .vmem S1x4x256x128 .bf16) (harg3 : arg3.IsWhole) (arg4 : Memref sig .tc .vmem S1x4x8448x128 .bf16) (harg4 : arg4.IsWhole) (arg5 : Memref sig .tc .vmem S1x4x33x80x256 .bf16) (harg5 : arg5.IsWhole) (arg6 : Memref sig .tc .vmem S1x256x256 .bf16) (harg6 : arg6.IsWhole) (arg7 : Memref sig .tc .vmem S4x2x1280x256 .f32) (harg7 : arg7.IsWhole) (hc0 : cond0_0 i) (hc1 : ¬cond0_1 i)
    (x0 : Vec F S1x4x256x128 .bf16) (x1 : Vec F S1x4x8448x128 .bf16) (x2 : Vec F S1x4x33x80x256 .bf16) : Vec F S1x256x256 .bf16 :=
  VO0_3.read (Elt F) (VO0_3.writes (Elt F) VO0_3.junk (kernelRun0_A c i arg3 harg3 arg4 harg4 arg5 harg5 arg6 harg6 arg7 harg7 hc0 hc1 x0 x1 x2).1)

/-- Case B's pieces for output 3 tile its block (1 store of `S1x256x256`, checked by the kernel's evaluation: Lib/Ring.lean `Piece.tiledL`, linear in the pieces, through a loop's `@[irreducible]` trip theorem too), so they cover it. -/
theorem cover0_B_3 (c : Dev nD) (i : grid0.Coords) (arg3 : Memref sig .tc .vmem S1x4x256x128 .bf16) (harg3 : arg3.IsWhole) (arg4 : Memref sig .tc .vmem S1x4x8448x128 .bf16) (harg4 : arg4.IsWhole) (arg5 : Memref sig .tc .vmem S1x4x33x80x256 .bf16) (harg5 : arg5.IsWhole) (arg6 : Memref sig .tc .vmem S1x256x256 .bf16) (harg6 : arg6.IsWhole) (arg7 : Memref sig .tc .vmem S4x2x1280x256 .f32) (harg7 : arg7.IsWhole) (hc0 : ¬cond0_0 i) (hc1 : cond0_1 i)
    (x0 : Vec F S1x4x256x128 .bf16) (x1 : Vec F S1x4x8448x128 .bf16) (x2 : Vec F S1x4x33x80x256 .bf16) (y : S1x256x256.Idx) :
    ∃ pc ∈ (kernelRun0_B c i arg3 harg3 arg4 harg4 arg5 harg5 arg6 harg6 arg7 harg7 hc0 hc1 x0 x1 x2).1, y ∈ pc.1.set :=
  View.cover_of_tiledL (kernelRun0_B c i arg3 harg3 arg4 harg4 arg5 harg5 arg6 harg6 arg7 harg7 hc0 hc1 x0 x1 x2).1 S1x256x256.size (by sl_kernel_rfl) y

/-- What case B leaves in output 3's staging buffer: its pieces read back over junk. -/
def out0_B_3 (c : Dev nD) (i : grid0.Coords) (arg3 : Memref sig .tc .vmem S1x4x256x128 .bf16) (harg3 : arg3.IsWhole) (arg4 : Memref sig .tc .vmem S1x4x8448x128 .bf16) (harg4 : arg4.IsWhole) (arg5 : Memref sig .tc .vmem S1x4x33x80x256 .bf16) (harg5 : arg5.IsWhole) (arg6 : Memref sig .tc .vmem S1x256x256 .bf16) (harg6 : arg6.IsWhole) (arg7 : Memref sig .tc .vmem S4x2x1280x256 .f32) (harg7 : arg7.IsWhole) (hc0 : ¬cond0_0 i) (hc1 : cond0_1 i)
    (x0 : Vec F S1x4x256x128 .bf16) (x1 : Vec F S1x4x8448x128 .bf16) (x2 : Vec F S1x4x33x80x256 .bf16) : Vec F S1x256x256 .bf16 :=
  VO0_3.read (Elt F) (VO0_3.writes (Elt F) VO0_3.junk (kernelRun0_B c i arg3 harg3 arg4 harg4 arg5 harg5 arg6 harg6 arg7 harg7 hc0 hc1 x0 x1 x2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x256 .bf16
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (by (try dsimp only) <;> omega)) (fun h => (fun h => by (try dsimp only at h); omega) ((hcond0_1 ⟨0, hn⟩).mp h)) (iblk m c 0 ⟨0, hn⟩) (iblk m c 1 ⟨0, hn⟩) (iblk m c 2 ⟨0, hn⟩)
  | n + 1, hn =>
    if h0 : (n + 1) % 33 ≤ 31 then
      if h1 : (n + 1) % 33 = 32 then
        False.elim (by have hN : n + 1 < 264 := lt_of_lt_of_eq hn (show cfg0.N = 264 from N_0); omega)
      else
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩)
    else
      if h1 : (n + 1) % 33 = 32 then
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩)
      else
        False.elim (by have hN : n + 1 < 264 := lt_of_lt_of_eq hn (show cfg0.N = 264 from N_0); omega)

/-- `outsAt0` at a point of case A: that case's contents. -/
theorem outsAt0_A (c : Dev nD) (t : Fin cfg0.N) (h0 : t.val % 33 ≤ 31) (h1 : ¬t.val % 33 = 32) :
    outsAt0 m c t.val t.isLt = out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t) := by
  obtain ⟨n, hn⟩ := t
  cases n with
  | zero => exact rfl
  | succ n => exact (dif_pos h0).trans ((dif_neg h1).trans rfl)

/-- `outsAt0` at a point of case B: that case's contents. -/
theorem outsAt0_B (c : Dev nD) (t : Fin cfg0.N) (h0 : ¬t.val % 33 ≤ 31) (h1 : t.val % 33 = 32) :
    outsAt0 m c t.val t.isLt = out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) := by
  obtain ⟨n, hn⟩ := t
  cases n with
  | zero => exact (by exfalso; (try dsimp only at h0); exact by omega)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 264 := lt_of_lt_of_eq t.isLt (show cfg0.N = 264 from N_0)
  by_cases h0 : t.val % 33 ≤ 31
  · by_cases h1 : t.val % 33 = 32
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_A t ((hcond0_0 t).mpr h0) (fun h => h1 ((hcond0_1 t).mp h))], after0_3]
      rw [outsAt0_A m c t h0 h1]
      unfold out0_A_3
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%fT0, HS0⟩⟩
      isplitl [HS0 Hg]
      · isplitl [HS0]
        · iexists _; unfold owns; iexists _; isplitr
          swap; · iexact HS0
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _)
  · by_cases h1 : t.val % 33 = 32
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_B t (fun h => h0 ((hcond0_0 t).mp h)) ((hcond0_1 t).mpr h1)], after0_3]
      rw [outsAt0_B m c t h0 h1]
      unfold out0_B_3
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) ((hcond0_1 t).mpr h1) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%fT0, HS0⟩⟩
      isplitl [HS0 Hg]
      · isplitl [HS0]
        · iexists _; unfold owns; iexists _; isplitr
          swap; · iexact HS0
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Value.lean ====
/-
  The frame run with the result array named block by block: the generated text, over `Frame`.
-/
module

public import proofs.«01_k».proof.Proof.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`), read through the window's block. -/
theorem flushed3 (c : Dev nD) (t : Fin cfg0.N) :
    (dats m 0 c).flushed 3 t = (cfg0.win 3).cut (grid0.coords t) (outsAt0 m c t.val t.isLt) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 33 ≤ 31) (h1 : ¬t.val % 33 = 32) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  simp only [flushed3, outsAt0_A m c t h0 h1]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 33 ≤ 31) (h1 : t.val % 33 = 32) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)) := by
  simp only [flushed3, outsAt0_B m c t h0 h1]

-- no `blocks3`: window 3's index map is injective over its 264 points, but past 200 points that is decided here only for a window whose block index on one axis is the point's position;
-- the final array is still the frame's `arrAt`, to read with Lib/Pipeline/Value.lean's lemmas by hand

/-- An index that no flushing point's block covers keeps output window 3's array contents at region entry. -/
theorem entry3 (c : Dev nD) (i : S4x8448x512.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v23) = (dats m 0 c).arrAt 3 cfg0.N :=
  (h c).1 3

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v23) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post3 m r h c,
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Value

end
-- ==== Proof.Block.lean ====
/-
  What one grid point computes, as a function of its blocks: the stages of the running softmax, head by head, and
  the block that the point stores.
-/
module

public import proofs.«01_k».proof.Proof.RunB
public import Idealize.ShloMosaic.Lib.Pointwise
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic

variable {F : FTy → Type} [FloatOps F]

/-- A table of scores or weights: `n` keys by 256 queries. -/
abbrev Keys (n : ℕ) : Shape := ⟨2, ![n, 256]⟩

/-- What the stages carry for one head: the running maximum and the running sums. -/
abbrev Carry (F : FTy → Type) [FloatOps F] : Type := FVec F S1x256 .f32 × FVec F S80x256 .f32

/-- No key absorbed yet. -/
def start : Carry F := (constant S1x256 .f32 0xFF800000#32, constant S80x256 .f32 0x00000000#32)

/-- The running maximum with a table of scores taken in. -/
def newMax {n : ℕ} (hr : (Keys n).Reduces [0] S256) (s : FVec F (Keys n) .f32) (m : FVec F S1x256 .f32) : FVec F S1x256 .f32 :=
  maximumf m (shapeCast S1x256 (multiReduction .maximumf [0] S256 s 0xFF800000#32 hr (.inl rfl) rfl) shapeCasts_S256_S1x256)

/-- The weights of a table of scores against a maximum. -/
def weights {n : ℕ} (hb : S1x256.Broadcasts (Keys n)) (s : FVec F (Keys n) .f32) (m : FVec F S1x256 .f32) : FVec F (Keys n) .bf16 :=
  truncf .bf16 (exp2 (subf s (broadcastTo (Keys n) m hb))) bitsLt_bf16_f32

/-- The running sums brought from the maximum `m` to the maximum `m'`. -/
def rescale (m m' : FVec F S1x256 .f32) (acc : FVec F S80x256 .f32) : FVec F S80x256 .f32 :=
  mulf (broadcastTo S80x256 (exp2 (subf m m')) broadcasts_S1x256_S80x256) acc

/-- One block of 256 keys added to the running sums. -/
def addBlock (p : FVec F S256x256 .bf16) (v : Vec F S1x1x1x80x256 .bf16) (acc : FVec F S80x256 .f32) : FVec F S80x256 .f32 :=
  addf acc (matmul dot_S80x256_S256x256_S80x256_1_0_0_1_n_n none (shapeCast S80x256 v shapeCasts_S1x1x1x80x256_S80x256) p
    (constant S80x256 .f32 0x00000000#32))

/-- The queries of one head. -/
def qHead (x0 : Vec F S1x4x256x128 .bf16) (h : ℕ) (hh : h < 4 := by decide) : Vec F S1x1x256x128 .bf16 :=
  View.ld x0 (Rect.unit (s := S1x4x256x128) ![0, h, 0, 0] S1x1x256x128.size
    (by intro a; fin_cases a <;> simp <;> omega))

/-- The keys of one head from key `a` on. -/
def kHead (n : ℕ) (x1 : Vec F S1x4x8448x128 .bf16) (h a : ℕ) (hh : h < 4) (ha : a + n ≤ 8448) :
    Vec F (⟨4, ![1, 1, n, 128]⟩ : Shape) .bf16 :=
  View.ld x1 (Rect.unit (s := S1x4x8448x128) ![0, h, a, 0] (⟨4, ![1, 1, n, 128]⟩ : Shape).size
    (by intro a; fin_cases a <;> simp <;> omega))

/-- One block of one head's values. -/
def vHead (x2 : Vec F S1x4x33x80x256 .bf16) (h b : ℕ) (hh : h < 4) (hb : b < 33) : Vec F S1x1x1x80x256 .bf16 :=
  View.ld x2 (Rect.unit (s := S1x4x33x80x256) ![0, h, b, 0, 0] S1x1x1x80x256.size
    (by intro a; fin_cases a <;> simp <;> omega))

/-- The scores of 1280 keys, as they come back from the score buffer. -/
def scores5 (k : Vec F S1x1x1280x128 .bf16) (q : Vec F S1x1x256x128 .bf16) : FVec F (Keys 1280) .f32 :=
  shapeCast S1280x256 (shapeCast S1x1x1280x256
    (matmul dot_S1280x128_S256x128_S1280x256_1_1_0_0_n_n none (shapeCast S1280x128 k shapeCasts_S1x1x1280x128_S1280x128)
      (shapeCast S256x128 q shapeCasts_S1x1x256x128_S256x128) (constant S1280x256 .f32 0x00000000#32))
    shapeCasts_S1280x256_S1x1x1280x256) shapeCasts_S1x1x1280x256_S1280x256

/-- The scores of 1024 keys. -/
def scores4 (k : Vec F S1x1x1024x128 .bf16) (q : Vec F S1x1x256x128 .bf16) : FVec F (Keys 1024) .f32 :=
  shapeCast S1024x256 (shapeCast S1x1x1024x256
    (matmul dot_S1024x128_S256x128_S1024x256_1_1_0_0_n_n none (shapeCast S1024x128 k shapeCasts_S1x1x1024x128_S1024x128)
      (shapeCast S256x128 q shapeCasts_S1x1x256x128_S256x128) (constant S1024x256 .f32 0x00000000#32))
    shapeCasts_S1024x256_S1x1x1024x256) shapeCasts_S1x1x1024x256_S1024x256

/-- The scores of 256 keys. -/
def scores1 (k : Vec F S1x1x256x128 .bf16) (q : Vec F S1x1x256x128 .bf16) : FVec F (Keys 256) .f32 :=
  shapeCast S256x256 (shapeCast S1x1x256x256
    (matmul dot_S256x128_S256x128_S256x256_1_1_0_0_n_n none (shapeCast S256x128 k shapeCasts_S1x1x256x128_S256x128)
      (shapeCast S256x128 q shapeCasts_S1x1x256x128_S256x128) (constant S256x256 .f32 0x00000000#32))
    shapeCasts_S256x256_S1x1x256x256) shapeCasts_S1x1x256x256_S256x256

section Stages

variable (x0 : Vec F S1x4x256x128 .bf16) (x1 : Vec F S1x4x8448x128 .bf16) (x2 : Vec F S1x4x33x80x256 .bf16)

/-- A stage of five blocks: 1280 keys from block `b` on. -/
def step5 (h b : ℕ) (hh : h < 4) (hb : b + 5 ≤ 33) (st : Carry F) : Carry F :=
  have s := scores5 (kHead 1280 x1 h (256 * b) hh (by omega)) (qHead x0 h hh)
  have m' := newMax reduces_S1280x256_S256 s st.1
  have p := weights broadcasts_S1x256_S1280x256 s m'
  (m',
    addBlock (extractStridedSlice S256x256 ![1024, 0] p slices_S1280x256_o1024_0_S256x256) (vHead x2 h (b + 4) hh (by omega)) <|
    addBlock (extractStridedSlice S256x256 ![768, 0] p slices_S1280x256_o768_0_S256x256) (vHead x2 h (b + 3) hh (by omega)) <|
    addBlock (extractStridedSlice S256x256 ![512, 0] p slices_S1280x256_o512_0_S256x256) (vHead x2 h (b + 2) hh (by omega)) <|
    addBlock (extractStridedSlice S256x256 ![256, 0] p slices_S1280x256_o256_0_S256x256) (vHead x2 h (b + 1) hh (by omega)) <|
    addBlock (extractStridedSlice S256x256 ![0, 0] p slices_S1280x256_o0_0_S256x256) (vHead x2 h b hh (by omega)) <|
    rescale st.1 m' st.2)

/-- A stage of four blocks: 1024 keys from block `b` on. -/
def step4 (h b : ℕ) (hh : h < 4) (hb : b + 4 ≤ 33) (st : Carry F) : Carry F :=
  have s := scores4 (kHead 1024 x1 h (256 * b) hh (by omega)) (qHead x0 h hh)
  have m' := newMax reduces_S1024x256_S256 s st.1
  have p := weights broadcasts_S1x256_S1024x256 s m'
  (m',
    addBlock (extractStridedSlice S256x256 ![768, 0] p slices_S1024x256_o768_0_S256x256) (vHead x2 h (b + 3) hh (by omega)) <|
    addBlock (extractStridedSlice S256x256 ![512, 0] p slices_S1024x256_o512_0_S256x256) (vHead x2 h (b + 2) hh (by omega)) <|
    addBlock (extractStridedSlice S256x256 ![256, 0] p slices_S1024x256_o256_0_S256x256) (vHead x2 h (b + 1) hh (by omega)) <|
    addBlock (extractStridedSlice S256x256 ![0, 0] p slices_S1024x256_o0_0_S256x256) (vHead x2 h b hh (by omega)) <|
    rescale st.1 m' st.2)

/-- A stage of one block. -/
def step1 (h b : ℕ) (hh : h < 4) (hb : b + 1 ≤ 33) (st : Carry F) : Carry F :=
  have s := scores1 (kHead 256 x1 h (256 * b) hh (by omega)) (qHead x0 h hh)
  have m' := newMax reduces_S256x256_S256 s st.1
  have p := weights broadcasts_S1x256_S256x256 s m'
  (m', addBlock p (vHead x2 h b hh (by omega)) (rescale st.1 m' st.2))

/-- All the stages of a tile of latent queries. -/
def headA (h : ℕ) (hh : h < 4) : Carry F :=
  step4 x0 x1 x2 h 24 hh (by decide) <| step4 x0 x1 x2 h 20 hh (by decide) <| step4 x0 x1 x2 h 16 hh (by decide) <|
  step4 x0 x1 x2 h 12 hh (by decide) <| step4 x0 x1 x2 h 8 hh (by decide) <| step4 x0 x1 x2 h 4 hh (by decide) <|
  step4 x0 x1 x2 h 0 hh (by decide) <| step5 x0 x1 x2 h 28 hh (by decide) start

/-- The one stage of the tile of context queries. -/
def headB (h : ℕ) (hh : h < 4) : Carry F := step1 x0 x1 x2 h 32 hh (by decide) start

end Stages

/-- One head's result: the sums divided by the sum of the weights. -/
def quotient (acc : FVec F S80x256 .f32) : FVec F S64x256 .f32 :=
  divf (extractStridedSlice S64x256 ![0, 0] acc slices_S80x256_o0_0_S64x256)
    (broadcastTo S64x256 (extractStridedSlice S1x256 ![64, 0] acc slices_S80x256_o64_0_S1x256) broadcasts_S1x256_S64x256)

/-- The four heads side by side, queries by features. -/
def joined (a b c d : FVec F S80x256 .f32) : FVec F S1x256x256 .bf16 :=
  shapeCast S1x256x256 (truncf .bf16 (transpose S256x256 [1, 0]
    (concatenate S256x256 0 [⟨S64x256, quotient a⟩, ⟨S64x256, quotient b⟩, ⟨S64x256, quotient c⟩, ⟨S64x256, quotient d⟩]
      concatenates_S64x256_S64x256_S64x256_S64x256_S256x256_d0) transposes_S256x256_p1_0_S256x256) bitsLt_bf16_f32)
    shapeCasts_S256x256_S1x256x256

/-- The block of a tile of latent queries. -/
def blockA (x0 : Vec F S1x4x256x128 .bf16) (x1 : Vec F S1x4x8448x128 .bf16) (x2 : Vec F S1x4x33x80x256 .bf16) : FVec F S1x256x256 .bf16 :=
  joined (headA x0 x1 x2 0 (by decide)).2 (headA x0 x1 x2 1 (by decide)).2 (headA x0 x1 x2 2 (by decide)).2 (headA x0 x1 x2 3 (by decide)).2

/-- The block of the tile of context queries. -/
def blockB (x0 : Vec F S1x4x256x128 .bf16) (x1 : Vec F S1x4x8448x128 .bf16) (x2 : Vec F S1x4x33x80x256 .bf16) : FVec F S1x256x256 .bf16 :=
  joined (headB x0 x1 x2 0 (by decide)).2 (headB x0 x1 x2 1 (by decide)).2 (headB x0 x1 x2 2 (by decide)).2 (headB x0 x1 x2 3 (by decide)).2

section Runs

variable (c : Dev nD) (i : grid0.Coords) (arg3 : Memref sig .tc .vmem S1x4x256x128 .bf16) (harg3 : arg3.IsWhole)
  (arg4 : Memref sig .tc .vmem S1x4x8448x128 .bf16) (harg4 : arg4.IsWhole) (arg5 : Memref sig .tc .vmem S1x4x33x80x256 .bf16) (harg5 : arg5.IsWhole)
  (arg6 : Memref sig .tc .vmem S1x256x256 .bf16) (harg6 : arg6.IsWhole) (arg7 : Memref sig .tc .vmem S4x2x1280x256 .f32) (harg7 : arg7.IsWhole)
  (x0 : Vec F S1x4x256x128 .bf16) (x1 : Vec F S1x4x8448x128 .bf16) (x2 : Vec F S1x4x33x80x256 .bf16)

set_option maxHeartbeats 4000000 in
/-- The context tile's run stores `blockB`. -/
theorem run_B (hc0 : ¬cond0_0 i) (hc1 : cond0_1 i) :
    (kernelRun0_B c i arg3 harg3 arg4 harg4 arg5 harg5 arg6 harg6 arg7 harg7 hc0 hc1 x0 x1 x2).1
      = [⟨Rect.unit ![0, 0, 0] S1x256x256.size inb_S1x256x256_S1x256x256_0_0_0, blockB x0 x1 x2⟩] := by
  unfold kernelRun0_B
  dsimp only
  sl_unfold_words
  simp (disch := decide) only [↓View.readCov_skip, ↓View.readCov_cons_toLoadRect, View.readAt_eq_ld, harg3.read_unread,
    harg4.read_unread, harg5.read_unread]
  unfold_payloads
  rfl

set_option maxHeartbeats 4000000 in
/-- A latent tile's run stores `blockA`. -/
theorem run_A (hc0 : cond0_0 i) (hc1 : ¬cond0_1 i) :
    (kernelRun0_A c i arg3 harg3 arg4 harg4 arg5 harg5 arg6 harg6 arg7 harg7 hc0 hc1 x0 x1 x2).1
      = [⟨Rect.unit ![0, 0, 0] S1x256x256.size inb_S1x256x256_S1x256x256_0_0_0, blockA x0 x1 x2⟩] := by
  unfold kernelRun0_A
  dsimp only
  sl_unfold_words
  simp (disch := decide) only [↓View.readCov_skip, ↓View.readCov_cons_toLoadRect, View.readAt_eq_ld, harg3.read_unread,
    harg4.read_unread, harg5.read_unread]
  unfold_payloads
  rfl

end Runs

end Cert.KernelIdeal.Gen

end
-- ==== Proof.Online.lean ====
/-
  The mathematics of the attention, with no program in it: a running maximum and a rescaled running sum, taken over
  the keys in any order and in any groups, end in the softmax-weighted sum of the values. The scores are real
  numbers; the values are any extended reals.
-/
module

public import Idealize.ShloMosaic.Lib.Pointwise

@[expose] public section

noncomputable section

namespace Cert.Attn

open Idealize.ShloMosaic

/-- A nonnegative real factor goes into a finite sum of extended reals. -/
theorem mul_sum_of_nonneg {ι : Type*} (S : Finset ι) (f : ι → EReal) (c : ℝ) (hc : 0 ≤ c) :
    (c : EReal) * ∑ j ∈ S, f j = ∑ j ∈ S, (c : EReal) * f j := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- The same with the factor on the right. -/
theorem sum_mul_of_nonneg {ι : Type*} (S : Finset ι) (f : ι → EReal) (c : ℝ) (hc : 0 ≤ c) :
    (∑ j ∈ S, f j) * (c : EReal) = ∑ j ∈ S, f j * (c : EReal) := by
  rw [mul_comm, mul_sum_of_nonneg S f c hc]
  exact Finset.sum_congr rfl fun _ _ => mul_comm _ _

/-- A finite sum of reals, as an extended real. -/
theorem coe_sum {ι : Type*} (S : Finset ι) (f : ι → ℝ) :
    ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- The greatest score of a set of keys; `⊥` for no keys. -/
def top {ι : Type*} (s : ι → ℝ) (S : Finset ι) : EReal := S.sup fun j => (s j : EReal)

/-- The greatest of finitely many real scores is one of them. -/
theorem top_coe {ι : Type*} (s : ι → ℝ) (S : Finset ι) (h : S.Nonempty) : ∃ M : ℝ, top s S = (M : EReal) := by
  obtain ⟨j, -, hj⟩ := Finset.exists_mem_eq_sup S h fun j => (s j : EReal)
  exact ⟨s j, hj⟩

/-- The values weighted by `2` to the score's distance from `m`. -/
def weighted {ι : Type*} (s : ι → ℝ) (v : ι → EReal) (S : Finset ι) (m : EReal) : EReal :=
  ∑ j ∈ S, v j * Ideal.exp2 ((s j : EReal) - m)

/-- The weighted sum against a real maximum has real weights. -/
theorem weighted_coe {ι : Type*} (s : ι → ℝ) (v : ι → EReal) (S : Finset ι) (M : ℝ) :
    weighted s v S M = ∑ j ∈ S, v j * ((Real.rpow 2 (s j - M) : ℝ) : EReal) := by
  unfold weighted
  refine Finset.sum_congr rfl fun j _ => ?_
  rw [← EReal.coe_sub, Ideal.exp2_coe]

/-- ONE STAGE. From the state of the keys `S`, the state of `S` and a further nonempty group `T` is the old sum
    rescaled to the new maximum, plus the group's own weighted sum. -/
theorem stage {ι : Type*} [DecidableEq ι] (s : ι → ℝ) (v : ι → EReal) (S T : Finset ι) (hT : T.Nonempty)
    (hd : Disjoint S T) :
    Ideal.exp2 (top s S - top s (S ∪ T)) * weighted s v S (top s S) + weighted s v T (top s (S ∪ T))
      = weighted s v (S ∪ T) (top s (S ∪ T)) := by
  obtain ⟨M', hM'⟩ := top_coe s (S ∪ T) (hT.mono Finset.subset_union_right)
  rw [hM']
  have hsplit : weighted s v (S ∪ T) M' = weighted s v S M' + weighted s v T M' := Finset.sum_union hd
  rw [hsplit]
  refine congrArg (· + _) ?_
  rcases S.eq_empty_or_nonempty with rfl | hS
  · simp [weighted]
  · obtain ⟨M, hM⟩ := top_coe s S hS
    rw [hM, ← EReal.coe_sub, Ideal.exp2_coe, weighted_coe, weighted_coe,
      mul_sum_of_nonneg _ _ (Real.rpow 2 (M - M')) (show 0 ≤ (2:ℝ) ^ (M - M') from Real.rpow_nonneg (by norm_num) _)]
    refine Finset.sum_congr rfl fun j _ => ?_
    rw [mul_left_comm, ← EReal.coe_mul]
    congr 2
    change (2:ℝ) ^ (M - M') * (2:ℝ) ^ (s j - M) = (2:ℝ) ^ (s j - M')
    rw [← Real.rpow_add (by norm_num)]
    congr 1; ring

/-- The greatest score of two sets of keys. -/
theorem top_union {ι : Type*} [DecidableEq ι] (s : ι → ℝ) (S T : Finset ι) :
    max (top s S) (top s T) = top s (S ∪ T) := Finset.sup_union.symm

/-- The softmax-weighted sum of the values, its weights real. -/
def soft {ι : Type*} (t : ι → ℝ) (v : ι → EReal) (S : Finset ι) : EReal :=
  ∑ j ∈ S, v j * ((Real.exp (t j) / ∑ i ∈ S, Real.exp (t i) : ℝ) : EReal)

/-- THE END OF THE STAGES: the weighted sum divided by the sum of the weights is the softmax-weighted sum, at the
    scores in base `e`. -/
theorem div_weighted {ι : Type*} (s : ι → ℝ) (v : ι → EReal) (S : Finset ι) (hS : S.Nonempty) :
    Ideal.div (weighted s v S (top s S)) (weighted s (fun _ => 1) S (top s S))
      = soft (fun j => s j * Real.log 2) v S := by
  obtain ⟨M, hM⟩ := top_coe s S hS
  have hw : ∀ j, Real.rpow 2 (s j - M) = Real.exp (s j * Real.log 2) * Real.exp (-(M * Real.log 2)) := by
    intro j
    change (2:ℝ) ^ (s j - M) = _
    rw [Real.rpow_def_of_pos (by norm_num), ← Real.exp_add]
    congr 1; ring
  have hpos : 0 < ∑ i ∈ S, Real.exp (s i * Real.log 2) := Finset.sum_pos (fun _ _ => Real.exp_pos _) hS
  have hl : weighted s (fun _ => 1) S M
      = (((∑ i ∈ S, Real.exp (s i * Real.log 2)) * Real.exp (-(M * Real.log 2)) : ℝ) : EReal) := by
    rw [weighted_coe, Finset.sum_mul, coe_sum]
    exact Finset.sum_congr rfl fun j _ => by rw [one_mul, hw]
  rw [hM, hl, Ideal.div_coe (mul_pos hpos (Real.exp_pos _)).ne', weighted_coe,
    sum_mul_of_nonneg _ _ _ (by positivity)]
  refine Finset.sum_congr rfl fun j _ => ?_
  rw [mul_assoc, ← EReal.coe_mul, hw]
  congr 2
  have := (Real.exp_pos (-(M * Real.log 2))).ne'
  field_simp

/-- The softmax as the reference writes it: the scores less their maximum, exponentiated, each divided by the sum. -/
theorem soft_of_exp {ι : Type*} (t : ι → ℝ) (v : ι → EReal) (S : Finset ι) (hS : S.Nonempty) :
    ∑ j ∈ S, Ideal.div (Ideal.exp ((t j : EReal) - top t S)) (∑ i ∈ S, Ideal.exp ((t i : EReal) - top t S)) * v j
      = soft t v S := by
  obtain ⟨M, hM⟩ := top_coe t S hS
  have hw : ∀ j, Ideal.exp ((t j : EReal) - M) = ((Real.exp (t j) * Real.exp (-M) : ℝ) : EReal) := by
    intro j
    rw [← EReal.coe_sub, Ideal.exp_coe, ← Real.exp_add, sub_eq_add_neg]
  have hpos : 0 < ∑ i ∈ S, Real.exp (t i) := Finset.sum_pos (fun _ _ => Real.exp_pos _) hS
  have hl : ∑ i ∈ S, Ideal.exp ((t i : EReal) - M) = (((∑ i ∈ S, Real.exp (t i)) * Real.exp (-M) : ℝ) : EReal) := by
    rw [Finset.sum_mul, coe_sum]
    exact Finset.sum_congr rfl fun j _ => hw j
  rw [hM, hl]
  refine Finset.sum_congr rfl fun j _ => ?_
  rw [Ideal.div_coe (mul_pos hpos (Real.exp_pos _)).ne', hw, ← EReal.coe_mul, mul_comm]
  congr 2
  have := (Real.exp_pos (-M)).ne'
  field_simp

end Cert.Attn

end
-- ==== Proof.Steps.lean ====
/-
  The stages of one grid point read at an index: each stage takes the state of the keys absorbed so far to the state
  of those keys and its own, and the stored block is the softmax-weighted sum of the values.
-/
module

public import proofs.«01_k».proof.Proof.Block
public import proofs.«01_k».proof.Proof.Online
public import Idealize.ShloMosaic.Lib.Pointwise.IndexVar

@[expose] public section

set_option maxRecDepth 16384

noncomputable section

namespace Cert.KernelIdeal.Gen

open Idealize.ShloMosaic Cert.Attn

/-- The word of −∞. -/
theorem ofBits_negInf : Ideal.ofBits .f32 0xFF800000#32 = ⊥ := by
  simp [Ideal.ofBits, Ideal.ieee]

/-- The greatest score of the keys `a … a + n - 1`. -/
theorem sup_Ico (n a : ℕ) (s : ℕ → ℝ) :
    (Finset.univ.sup fun k : Fin n => ((s (a + k.val) : ℝ) : EReal)) = top s (Finset.Ico a (a + n)) := by
  refine le_antisymm (Finset.sup_le fun k _ => ?_) (Finset.sup_le fun j hj => ?_)
  · exact Finset.le_sup (f := fun j => ((s j : ℝ) : EReal)) (Finset.mem_Ico.mpr ⟨Nat.le_add_right _ _, by omega⟩)
  · obtain ⟨h1, h2⟩ := Finset.mem_Ico.mp hj
    have := Finset.le_sup (f := fun k : Fin n => ((s (a + k.val) : ℝ) : EReal)) (Finset.mem_univ ⟨j - a, by omega⟩)
    simpa [Nat.add_sub_cancel' h1] using this

/-- A sum over the keys `a … a + n - 1`. -/
theorem sum_Ico (n a : ℕ) (f : ℕ → EReal) : ∑ k : Fin n, f (a + k.val) = ∑ j ∈ Finset.Ico a (a + n), f j := by
  rw [Finset.sum_Ico_eq_sum_range, Nat.add_sub_cancel_left, Finset.sum_range]

/-- Neighbouring groups of keys. -/
theorem weighted_Ico (s : ℕ → ℝ) (v : ℕ → EReal) (a b c : ℕ) (m : EReal) (hab : a ≤ b) (hbc : b ≤ c) :
    weighted s v (Finset.Ico a b) m + weighted s v (Finset.Ico b c) m = weighted s v (Finset.Ico a c) m :=
  Finset.sum_Ico_consecutive _ hab hbc

section Reads

/-- The greatest entry of each column taken into the running maximum. -/
theorem newMax_apply {n : ℕ} (hr : (Keys n).Reduces [0] S256) (s : FVec Ideal (Keys n) .f32) (m : FVec Ideal S1x256 .f32) (i : Fin 256)
    (hfold : ∀ i : Fin 256, multiReduction .maximumf [0] S256 s 0xFF800000#32 hr (.inl rfl) rfl (ix1 i)
      = Finset.univ.fold max (Ideal.ofBits .f32 0xFF800000#32) fun k : Fin n => s (ix2 k i)) :
    newMax hr s m (ix2 0 i) = max (m (ix2 0 i)) (Finset.univ.sup fun k : Fin n => s (ix2 k i)) := by
  unfold newMax
  generalize hv : multiReduction .maximumf [0] S256 s 0xFF800000#32 hr (.inl rfl) rfl = w at hfold
  pointwise
  rw [hfold, ofBits_negInf]
  rfl

theorem weights_apply {n : ℕ} (hb : S1x256.Broadcasts (Keys n)) (s : FVec Ideal (Keys n) .f32) (m : FVec Ideal S1x256 .f32) (k : Fin n) (i : Fin 256) :
    weights hb s m (ix2 k i) = Ideal.exp2 (s (ix2 k i) - m (ix2 0 i)) := by
  pointwise [weights]
  rfl

theorem rescale_apply (m m' : FVec Ideal S1x256 .f32) (acc : FVec Ideal S80x256 .f32) (r : Fin 80) (i : Fin 256) :
    rescale m m' acc (ix2 r i) = Ideal.exp2 (m (ix2 0 i) - m' (ix2 0 i)) * acc (ix2 r i) := by
  pointwise [rescale]
  rfl

theorem addBlock_apply (p : FVec Ideal S256x256 .bf16) (v : Vec Ideal S1x1x1x80x256 .bf16) (acc : FVec Ideal S80x256 .f32) (r : Fin 80) (i : Fin 256) :
    addBlock p v acc (ix2 r i) = acc (ix2 r i) + ∑ k : Fin 256, v (ix5 0 0 0 r k) * p (ix2 k i) := by
  pointwise [addBlock]

theorem vHead_apply (x2 : Vec Ideal S1x4x33x80x256 .bf16) (h b : ℕ) (hh : h < 4) (hb : b < 33) (r : Fin 80) (k : Fin 256) :
    vHead x2 h b hh hb (ix5 0 0 0 r k) = x2 (ix5 0 ⟨h, hh⟩ ⟨b, hb⟩ r k) := by
  pointwise [vHead]

theorem quotient_apply (acc : FVec Ideal S80x256 .f32) (r : Fin 64) (i : Fin 256) :
    quotient acc (ix2 r i) = Ideal.div (acc (ix2 ⟨r, by omega⟩ i)) (acc (ix2 64 i)) := by
  pointwise [quotient]

/-- The stored block at query `i`, head `h`, feature `r`. -/
theorem joined_apply (A : Fin 4 → FVec Ideal S80x256 .f32) (i : Fin 256) (h : Fin 4) (r : Fin 64) :
    joined (A 0) (A 1) (A 2) (A 3) (ix3 0 i ⟨64 * h + r, by omega⟩) = quotient (A h) (ix2 r i) := by
  pointwise [joined]
  fin_cases h
  · rw [dif_pos (by simp)]; simp
  · rw [dif_neg (by simp), dif_pos (by simp)]; simp
  · rw [dif_neg (by simp; omega), dif_neg (by simp; omega), dif_pos (by simp; omega)]; congr 2; apply Fin.ext; simp; omega
  · rw [dif_neg (by simp; omega), dif_neg (by simp; omega), dif_neg (by simp; omega)]; congr 2; apply Fin.ext; simp; omega

end Reads

section State

variable (kx : ℕ → Fin 128 → ℝ) (qx : Fin 256 → Fin 128 → ℝ) (vx : Fin 80 → ℕ → EReal)

/-- The score of key `j` for query `i`. -/
def score (i : Fin 256) (j : ℕ) : ℝ := ∑ d, kx j d * qx i d

/-- The carry is the state of the keys `S`. -/
structure Holds (S : Finset ℕ) (st : Carry Ideal) : Prop where
  max : ∀ i, st.1 (ix2 0 i) = top (score kx qx i) S
  acc : ∀ r i, st.2 (ix2 r i) = weighted (score kx qx i) (vx r) S (top (score kx qx i) S)

/-- Before the first stage: no keys. -/
theorem holds_start : Holds kx qx vx ∅ start where
  max i := by pointwise [start]; rw [ofBits_negInf]; rfl
  acc r i := by pointwise [start]; rfl

/-- What a point's blocks hold of head `h`: real queries and keys, and the values. -/
structure Blocks (x0 : Vec Ideal S1x4x256x128 .bf16) (x1 : Vec Ideal S1x4x8448x128 .bf16) (x2 : Vec Ideal S1x4x33x80x256 .bf16)
    (h : Fin 4) : Prop where
  q : ∀ i d, x0 (ix4 0 h i d) = ((qx i d : ℝ) : EReal)
  k : ∀ (j : Fin 8448) d, x1 (ix4 0 h j d) = ((kx j d : ℝ) : EReal)
  v : ∀ r (b : Fin 33) (k : Fin 256), x2 (ix5 0 h b r k) = vx r (256 * b + k)

variable {kx qx vx} {x0 : Vec Ideal S1x4x256x128 .bf16} {x1 : Vec Ideal S1x4x8448x128 .bf16} {x2 : Vec Ideal S1x4x33x80x256 .bf16}

/-- A sum of products of the blocks is the real score. -/
theorem Blocks.score {h : Fin 4} (B : Blocks kx qx vx x0 x1 x2 h) (j : Fin 8448) (i : Fin 256) :
    ∑ d : Fin 128, x1 (ix4 0 h j d) * x0 (ix4 0 h i d) = ((score kx qx i j : ℝ) : EReal) := by
  unfold Gen.score
  rw [coe_sum]
  exact Finset.sum_congr rfl fun d _ => by rw [B.q, B.k, EReal.coe_mul]

/-- The scores that a stage reads back from the score buffer are the real scores of its keys. -/
def Scored (kx : ℕ → Fin 128 → ℝ) (qx : Fin 256 → Fin 128 → ℝ) {n : ℕ} (a : ℕ) (s : FVec Ideal (Keys n) .f32) : Prop :=
  ∀ (k : Fin n) (i : Fin 256), s (ix2 k i) = ((score kx qx i (a + k) : ℝ) : EReal)

theorem scored5 {h : ℕ} {hh : h < 4} (B : Blocks kx qx vx x0 x1 x2 ⟨h, hh⟩) (a : ℕ) (ha : a + 1280 ≤ 8448) :
    Scored kx qx a (scores5 (kHead 1280 x1 h a hh ha) (qHead x0 h hh)) := fun k i => by
  pointwise [scores5, kHead, qHead]
  exact B.score ⟨a + k, by omega⟩ i

theorem scored4 {h : ℕ} {hh : h < 4} (B : Blocks kx qx vx x0 x1 x2 ⟨h, hh⟩) (a : ℕ) (ha : a + 1024 ≤ 8448) :
    Scored kx qx a (scores4 (kHead 1024 x1 h a hh ha) (qHead x0 h hh)) := fun k i => by
  pointwise [scores4, kHead, qHead]
  exact B.score ⟨a + k, by omega⟩ i

theorem scored1 {h : ℕ} {hh : h < 4} (B : Blocks kx qx vx x0 x1 x2 ⟨h, hh⟩) (a : ℕ) (ha : a + 256 ≤ 8448) :
    Scored kx qx a (scores1 (kHead 256 x1 h a hh ha) (qHead x0 h hh)) := fun k i => by
  pointwise [scores1, kHead, qHead]
  exact B.score ⟨a + k, by omega⟩ i

/-- A stage's new maximum is the greatest score of the keys so far and its own. -/
theorem newMax_scored {n a : ℕ} {s : FVec Ideal (Keys n) .f32} (hs : Scored kx qx a s) {hr : (Keys n).Reduces [0] S256} {S : Finset ℕ}
    {m : FVec Ideal S1x256 .f32} (hm : ∀ i, m (ix2 0 i) = top (score kx qx i) S)
    (hfold : ∀ i : Fin 256, multiReduction .maximumf [0] S256 s 0xFF800000#32 hr (.inl rfl) rfl (ix1 i)
      = Finset.univ.fold max (Ideal.ofBits .f32 0xFF800000#32) fun k : Fin n => s (ix2 k i)) (i : Fin 256) :
    newMax hr s m (ix2 0 i) = top (score kx qx i) (S ∪ Finset.Ico a (a + n)) := by
  rw [newMax_apply hr s m i hfold, hm, ← top_union, ← sup_Ico]
  exact congrArg _ (Finset.sup_congr rfl fun k _ => hs k i)

/-- One block of a stage's keys adds its weighted values. -/
theorem addBlock_scored {h : ℕ} {hh : h < 4} (B : Blocks kx qx vx x0 x1 x2 ⟨h, hh⟩) {n a b : ℕ} {s : FVec Ideal (Keys n) .f32}
    (hs : Scored kx qx a s) (hb : b < 33) {p : FVec Ideal S256x256 .bf16} {m' : FVec Ideal S1x256 .f32} (o : ℕ) (ho : o + 256 ≤ n)
    (hp : ∀ (k i : Fin 256), p (ix2 k i) = Ideal.exp2 (s (ix2 ⟨o + k, by omega⟩ i) - m' (ix2 0 i))) (hab : a + o = 256 * b)
    (acc : FVec Ideal S80x256 .f32) (r : Fin 80) (i : Fin 256) :
    addBlock p (vHead x2 h b hh hb) acc (ix2 r i)
      = acc (ix2 r i) + weighted (score kx qx i) (vx r) (Finset.Ico (256 * b) (256 * (b + 1))) (m' (ix2 0 i)) := by
  rw [addBlock_apply]
  refine congrArg _ ?_
  unfold weighted
  rw [Nat.mul_add, ← sum_Ico]
  refine Finset.sum_congr rfl fun k _ => ?_
  rw [vHead_apply, B.v, hp, hs, show a + (⟨o + k, by omega⟩ : Fin n).val = 256 * b + k by simp only; omega]

/-- A stage of five blocks. -/
theorem holds_step5 {h : ℕ} {hh : h < 4} (B : Blocks kx qx vx x0 x1 x2 ⟨h, hh⟩) {S : Finset ℕ} {st : Carry Ideal}
    (H : Holds kx qx vx S st) (b : ℕ) (hb : b + 5 ≤ 33) (hd : Disjoint S (Finset.Ico (256 * b) (256 * b + 1280))) :
    Holds kx qx vx (S ∪ Finset.Ico (256 * b) (256 * b + 1280)) (step5 x0 x1 x2 h b hh hb st) := by
  have hs := scored5 B (256 * b) (by omega)
  generalize hsc : scores5 (kHead 1280 x1 h (256 * b) hh (by omega)) (qHead x0 h hh) = s at hs
  have hmax : ∀ i, newMax reduces_S1280x256_S256 s st.1 (ix2 0 i) = _ := newMax_scored hs H.max fun i => by pointwise
  unfold step5
  dsimp only
  rw [hsc]
  generalize newMax reduces_S1280x256_S256 s st.1 = m' at hmax
  refine ⟨hmax, fun r i => ?_⟩
  dsimp only
  have hp := fun k i => weights_apply broadcasts_S1x256_S1280x256 s m' k i
  generalize weights broadcasts_S1x256_S1280x256 s m' = p at hp
  rw [addBlock_scored B hs _ (m' := m') 1024 (by decide) (fun k i => by pointwise; exact hp _ i) (by omega),
    addBlock_scored B hs _ (m' := m') 768 (by decide) (fun k i => by pointwise; exact hp _ i) (by omega),
    addBlock_scored B hs _ (m' := m') 512 (by decide) (fun k i => by pointwise; exact hp _ i) (by omega),
    addBlock_scored B hs _ (m' := m') 256 (by decide) (fun k i => by pointwise; exact hp _ i) (by omega),
    addBlock_scored B hs _ (m' := m') 0 (by decide) (fun k i => by pointwise; simpa using hp _ i) (by omega),
    rescale_apply, H.max, H.acc, hmax, add_assoc, add_assoc, add_assoc, add_assoc,
    ← stage _ _ _ _ ⟨256 * b, by simp⟩ hd]
  refine congrArg _ ?_
  rw [weighted_Ico _ _ _ _ _ _ (by omega) (by omega), weighted_Ico _ _ _ _ _ _ (by omega) (by omega),
    weighted_Ico _ _ _ _ _ _ (by omega) (by omega), weighted_Ico _ _ _ _ _ _ (by omega) (by omega)]
  rfl

/-- A stage of four blocks. -/
theorem holds_step4 {h : ℕ} {hh : h < 4} (B : Blocks kx qx vx x0 x1 x2 ⟨h, hh⟩) {S : Finset ℕ} {st : Carry Ideal}
    (H : Holds kx qx vx S st) (b : ℕ) (hb : b + 4 ≤ 33) (hd : Disjoint S (Finset.Ico (256 * b) (256 * b + 1024))) :
    Holds kx qx vx (S ∪ Finset.Ico (256 * b) (256 * b + 1024)) (step4 x0 x1 x2 h b hh hb st) := by
  have hs := scored4 B (256 * b) (by omega)
  generalize hsc : scores4 (kHead 1024 x1 h (256 * b) hh (by omega)) (qHead x0 h hh) = s at hs
  have hmax : ∀ i, newMax reduces_S1024x256_S256 s st.1 (ix2 0 i) = _ := newMax_scored hs H.max fun i => by pointwise
  unfold step4
  dsimp only
  rw [hsc]
  generalize newMax reduces_S1024x256_S256 s st.1 = m' at hmax
  refine ⟨hmax, fun r i => ?_⟩
  dsimp only
  have hp := fun k i => weights_apply broadcasts_S1x256_S1024x256 s m' k i
  generalize weights broadcasts_S1x256_S1024x256 s m' = p at hp
  rw [addBlock_scored B hs _ (m' := m') 768 (by decide) (fun k i => by pointwise; exact hp _ i) (by omega),
    addBlock_scored B hs _ (m' := m') 512 (by decide) (fun k i => by pointwise; exact hp _ i) (by omega),
    addBlock_scored B hs _ (m' := m') 256 (by decide) (fun k i => by pointwise; exact hp _ i) (by omega),
    addBlock_scored B hs _ (m' := m') 0 (by decide) (fun k i => by pointwise; simpa using hp _ i) (by omega),
    rescale_apply, H.max, H.acc, hmax, add_assoc, add_assoc, add_assoc,
    ← stage _ _ _ _ ⟨256 * b, by simp⟩ hd]
  refine congrArg _ ?_
  rw [weighted_Ico _ _ _ _ _ _ (by omega) (by omega), weighted_Ico _ _ _ _ _ _ (by omega) (by omega),
    weighted_Ico _ _ _ _ _ _ (by omega) (by omega)]
  rfl

/-- A stage of one block. -/
theorem holds_step1 {h : ℕ} {hh : h < 4} (B : Blocks kx qx vx x0 x1 x2 ⟨h, hh⟩) {S : Finset ℕ} {st : Carry Ideal}
    (H : Holds kx qx vx S st) (b : ℕ) (hb : b + 1 ≤ 33) (hd : Disjoint S (Finset.Ico (256 * b) (256 * b + 256))) :
    Holds kx qx vx (S ∪ Finset.Ico (256 * b) (256 * b + 256)) (step1 x0 x1 x2 h b hh hb st) := by
  have hs := scored1 B (256 * b) (by omega)
  generalize hsc : scores1 (kHead 256 x1 h (256 * b) hh (by omega)) (qHead x0 h hh) = s at hs
  have hmax : ∀ i, newMax reduces_S256x256_S256 s st.1 (ix2 0 i) = _ := newMax_scored hs H.max fun i => by pointwise
  unfold step1
  dsimp only
  rw [hsc]
  generalize newMax reduces_S256x256_S256 s st.1 = m' at hmax
  refine ⟨hmax, fun r i => ?_⟩
  dsimp only
  have hp := fun k i => weights_apply broadcasts_S1x256_S256x256 s m' k i
  generalize weights broadcasts_S1x256_S256x256 s m' = p at hp
  rw [addBlock_scored B hs _ (m' := m') 0 (by decide) (fun k i => by simpa using hp k i) (by omega),
    rescale_apply, H.max, H.acc, hmax, ← stage _ _ _ _ ⟨256 * b, by simp⟩ hd, Nat.mul_add]

/-- After all its stages a tile of latent queries has absorbed every key. -/
theorem holds_headA {h : ℕ} {hh : h < 4} (B : Blocks kx qx vx x0 x1 x2 ⟨h, hh⟩) :
    Holds kx qx vx (Finset.range 8448) (headA x0 x1 x2 h hh) := by
  have H := holds_step5 B (holds_start kx qx vx) 28 (by decide) (by simp)
  have H := holds_step4 B H 0 (by decide) (by rw [Finset.disjoint_left]; simp; omega)
  have H := holds_step4 B H 4 (by decide) (by rw [Finset.disjoint_left]; simp; omega)
  have H := holds_step4 B H 8 (by decide) (by rw [Finset.disjoint_left]; simp; omega)
  have H := holds_step4 B H 12 (by decide) (by rw [Finset.disjoint_left]; simp; omega)
  have H := holds_step4 B H 16 (by decide) (by rw [Finset.disjoint_left]; simp; omega)
  have H := holds_step4 B H 20 (by decide) (by rw [Finset.disjoint_left]; simp; omega)
  have H := holds_step4 B H 24 (by decide) (by rw [Finset.disjoint_left]; simp; omega)
  refine Eq.mp (congrArg (fun S => Holds kx qx vx S (headA x0 x1 x2 h hh)) ?_) H
  ext j
  simp only [Finset.mem_union, Finset.mem_Ico, Finset.mem_range, Finset.notMem_empty, false_or]
  omega

/-- The tile of context queries absorbs the keys of the last block. -/
theorem holds_headB {h : ℕ} {hh : h < 4} (B : Blocks kx qx vx x0 x1 x2 ⟨h, hh⟩) :
    Holds kx qx vx (Finset.Ico 8192 8448) (headB x0 x1 x2 h hh) := by
  have H := holds_step1 B (holds_start kx qx vx) 32 (by decide) (by simp)
  rwa [Finset.empty_union] at H

/-- A state whose row 64 sums the weights ends in the softmax-weighted sum. -/
theorem Holds.quotient {S : Finset ℕ} {st : Carry Ideal} (H : Holds kx qx vx S st) (hS : S.Nonempty) (h1 : ∀ j ∈ S, vx 64 j = 1)
    (r : Fin 64) (i : Fin 256) :
    quotient st.2 (ix2 r i) = soft (fun j => score kx qx i j * Real.log 2) (vx ⟨r, by omega⟩) S := by
  rw [quotient_apply, H.acc, H.acc, ← div_weighted _ _ _ hS]
  refine congrArg _ (Finset.sum_congr rfl fun j hj => ?_)
  rw [h1 j hj]

end State

end Cert.KernelIdeal.Gen

end
-- ==== Proof.Spec.lean ====
/-
  What the layer's attention computes, as a function of its queries, keys and values: both programs are shown to end with it.
-/
module

public import proofs.«01_k».proof.Proof.Online
public import Idealize.ShloMosaic.Lib.Pointwise.IndexVar

@[expose] public section

noncomputable section

namespace Cert.Attn

open Idealize.ShloMosaic Idealize.ShloMosaic.Pointwise

/-- The latent positions of a head, then its context positions, as one sequence of 8448. -/
def both {n : ℕ} (l : FVec Ideal ⟨4, ![4, 8, 8192, n]⟩ .f32) (c : FVec Ideal ⟨4, ![4, 8, 256, n]⟩ .f32) (b : Fin 4) (h : Fin 8) (j : ℕ)
    (d : Fin n) : EReal :=
  if hj : j < 8192 then l (ix4 b h ⟨j, hj⟩ d) else if hc : j - 8192 < 256 then c (ix4 b h ⟨j - 8192, hc⟩ d) else 0

/-- Every element of the array is a real number. -/
def IsReal {s : Shape} (x : FVec Ideal s .f32) : Prop := ∀ i, (((x i : EReal).toReal : ℝ) : EReal) = x i

theorem both_real {n : ℕ} {l : FVec Ideal ⟨4, ![4, 8, 8192, n]⟩ .f32} {c : FVec Ideal ⟨4, ![4, 8, 256, n]⟩ .f32} (hl : IsReal l) (hc : IsReal c)
    (b : Fin 4) (h : Fin 8) (j : ℕ) (d : Fin n) : (((both l c b h j d).toReal : ℝ) : EReal) = both l c b h j d := by
  unfold both
  split_ifs
  · exact hl _
  · exact hc _
  · simp

section

variable (ql : FVec Ideal ⟨4, ![4, 8, 8192, 96]⟩ .f32) (qc kc : FVec Ideal ⟨4, ![4, 8, 256, 96]⟩ .f32)
  (kl : FVec Ideal ⟨4, ![4, 8, 8192, 96]⟩ .f32) (vc : FVec Ideal ⟨4, ![4, 8, 256, 64]⟩ .f32) (vl : FVec Ideal ⟨4, ![4, 8, 8192, 64]⟩ .f32)

/-- The scaled score of query `i` and key `j` of a head. -/
def logit (b : Fin 4) (h : Fin 8) (i j : ℕ) : ℝ :=
  (∑ d : Fin 96, (both ql qc b h i d).toReal * (both kl kc b h j d).toReal) / √96

/-- The keys that a query sees: a latent query all of them, a context query those of the context. -/
def seen (i : ℕ) : Finset ℕ := if i < 8192 then Finset.range 8448 else Finset.Ico 8192 8448

theorem seen_nonempty (i : ℕ) : (seen i).Nonempty := by
  unfold seen
  split_ifs
  · exact ⟨0, by simp⟩
  · exact ⟨8192, by simp⟩

/-- Feature `r` of head `h` at query `i`: the softmax of the scores against the values. -/
def attend (b : Fin 4) (h : Fin 8) (i : ℕ) (r : Fin 64) : EReal :=
  soft (logit ql qc kc kl b h i) (fun j => both vl vc b h j r) (seen i)

/-- The whole result: the heads side by side. -/
def result : FVec Ideal ⟨3, ![4, 8448, 512]⟩ .bf16 := fun i =>
  attend ql qc kc kl vc vl (i 0) ⟨(i 2).val / 64, by have : (i 2).val < 512 := (i 2).isLt; omega⟩ (i 1).val
    ⟨(i 2).val % 64, Nat.mod_lt _ (by decide)⟩

theorem result_apply (b : Fin 4) (i : Fin 8448) (h : Fin 8) (r : Fin 64) :
    result ql qc kc kl vc vl (ix3 b i ⟨64 * h + r, by omega⟩) = attend ql qc kc kl vc vl b h i r := by
  show attend ql qc kc kl vc vl b ⟨(64 * h.val + r) / 64, _⟩ i ⟨(64 * h.val + r) % 64, _⟩ = _
  congr 1
  · apply Fin.ext; show (64 * h.val + r) / 64 = h; omega
  · apply Fin.ext; show (64 * h.val + r) % 64 = r; omega

end

/-- The same keys in another order. -/
theorem soft_image (t : ℕ → ℝ) (v : ℕ → EReal) (S : Finset ℕ) (σ : ℕ → ℕ) (hσ : Set.InjOn σ S) :
    soft (fun j => t (σ j)) (fun j => v (σ j)) S = soft t v (S.image σ) := by
  unfold soft
  rw [Finset.sum_image hσ, Finset.sum_image hσ]

/-- The words of the numbers 96 and 2. -/
theorem ofBits_96 : Ideal.ofBits .f32 0x42C00000#32 = ((96 : ℝ) : EReal) := by
  simp [Ideal.ofBits, Ideal.ieee, ← EReal.coe_mul]
  norm_num

theorem ofBits_2 : Ideal.ofBits .f32 0x40000000#32 = ((2 : ℝ) : EReal) := by
  simp [Ideal.ofBits, Ideal.ieee, ← EReal.coe_mul]
  norm_num

/-- The scale of the queries. -/
theorem scale_eq : Ideal.div 1 (Ideal.sqrt (Ideal.ofBits .f32 0x42C00000#32) * Ideal.log (Ideal.ofBits .f32 0x40000000#32))
    = ((1 / (√96 * Real.log 2) : ℝ) : EReal) := by
  rw [ofBits_96, ofBits_2, Ideal.sqrt_coe, if_neg (by norm_num), Ideal.log_coe, if_neg (by norm_num), ← EReal.coe_mul,
    Ideal.div_coe (by have := Real.log_pos (x := 2) (by norm_num); positivity), one_mul]

end Cert.Attn

end
-- ==== Proof.Host.lean ====
/-
  What the kernel's three input arrays hold at an index, as a function of the arguments.
-/
module

public import proofs.«01_k».proof.Proof.Value
public import proofs.«01_k».proof.Proof.Steps
public import proofs.«01_k».proof.Proof.Spec
public import Idealize.ShloMosaic.Lib.StableHlo.ReadAt

@[expose] public section

noncomputable section

namespace Cert.KernelIdeal.Gen

open Cert.KernelIdeal Idealize.ShloMosaic Idealize.ShloMosaic.TcCoe Idealize.SL.Sem Idealize.ShloMosaic.Pointwise Cert.Attn

variable (m : (ℓ : Loc nD τ sig) → Buf (Elt Ideal) ℓ)

/-- The arguments as launched. -/
abbrev argQl (c : Dev nD) : FVec Ideal S4x8x8192x96 .f32 := m ((c : Thread nD τ).loc main_arg0)
abbrev argQc (c : Dev nD) : FVec Ideal S4x8x256x96 .f32 := m ((c : Thread nD τ).loc main_arg1)
abbrev argKc (c : Dev nD) : FVec Ideal S4x8x256x96 .f32 := m ((c : Thread nD τ).loc main_arg2)
abbrev argKl (c : Dev nD) : FVec Ideal S4x8x8192x96 .f32 := m ((c : Thread nD τ).loc main_arg3)
abbrev argVc (c : Dev nD) : FVec Ideal S4x8x256x64 .f32 := m ((c : Thread nD τ).loc main_arg4)
abbrev argVl (c : Dev nD) : FVec Ideal S4x8x8192x64 .f32 := m ((c : Thread nD τ).loc main_arg5)

/-- The joined sequence at a position below 8448. -/
theorem both_dite {n : ℕ} (l : FVec Ideal ⟨4, ![4, 8, 8192, n]⟩ .f32) (c : FVec Ideal ⟨4, ![4, 8, 256, n]⟩ .f32) (b : Fin 4) (h : Fin 8) (j : ℕ)
    (d : Fin n) (hj : j < 8448) :
    (if hl : j < 8192 then l (ix4 b h ⟨j, hl⟩ d) else c (ix4 b h ⟨j - 8192, by omega⟩ d) : EReal) = both l c b h j d := by
  unfold both
  by_cases hl : j < 8192
  · rw [dif_pos hl, dif_pos hl]
  · rw [dif_neg hl, dif_neg hl, dif_pos (by omega)]

/-- The queries: the joined sequence scaled, and zeros beyond lane 96. -/
theorem V_q (c : Dev nD) (b : Fin 4) (h : Fin 8) (j : Fin 8448) (d : Fin 128) :
    (V m c main_v8 : FVec Ideal S4x8x8448x128 .bf16) (ix4 b h j d)
      = (if hd : d.val < 96 then both (argQl m c) (argQc m c) b h j ⟨d, hd⟩ * ((1 / (√96 * Real.log 2) : ℝ) : EReal) else 0 : EReal) := by
  unfold V
  after_reads_at
  after_reads_simp
  rw [← scale_eq]
  by_cases hd : d.val < 96
  · rw [dif_pos hd, dif_pos hd, ← both_dite _ _ _ _ _ _ j.isLt]
  · rw [dif_neg hd, dif_neg hd]
    exact congrArg (fun x : ℝ => (x : EReal)) Int.cast_zero

/-- The keys: the joined sequence, and zeros beyond lane 96. -/
theorem V_k (c : Dev nD) (b : Fin 4) (h : Fin 8) (j : Fin 8448) (d : Fin 128) :
    (V m c main_v11 : FVec Ideal S4x8x8448x128 .bf16) (ix4 b h j d)
      = (if hd : d.val < 96 then both (argKl m c) (argKc m c) b h j ⟨d, hd⟩ else 0 : EReal) := by
  unfold V
  after_reads_at
  after_reads_simp
  by_cases hd : d.val < 96
  · rw [dif_pos hd, dif_pos hd, ← both_dite _ _ _ _ _ _ j.isLt]
  · rw [dif_neg hd, dif_neg hd]
    exact congrArg (fun x : ℝ => (x : EReal)) Int.cast_zero

/-- The values: feature by feature in blocks of 256 positions, then a row of ones and rows of zeros. -/
theorem V_v (c : Dev nD) (b : Fin 4) (h : Fin 8) (j : Fin 33) (r : Fin 80) (d : Fin 256) :
    (V m c main_v22 : FVec Ideal S4x8x33x80x256 .bf16) (ix5 b h j r d)
      = (if hr : r.val < 64 then both (argVl m c) (argVc m c) b h (256 * j + d) ⟨r, hr⟩ else if r.val = 64 then 1 else 0 : EReal) := by
  rw [show 256 * j.val + d.val = j.val * 256 + d.val by omega]
  unfold V
  after_reads_at
  after_reads_at
  after_reads_simp
  by_cases hr : r.val < 64
  · rw [dif_pos hr, dif_pos hr]
    exact both_dite (argVl m c) (argVc m c) b h _ ⟨r, hr⟩ (by omega)
  · rw [dif_neg hr, dif_neg hr]
    dsimp only [id]
    pointwise
    have key : ∀ r : Fin 80, ¬r.val < 64 → IntOp.cmpi .eq (BitVec.ofNat 32 (r.val - 64)) 0#32 = if r.val = 64 then 1#1 else 0#1 := by decide
    rw [key r hr]
    split_ifs <;> rfl

end Cert.KernelIdeal.Gen

end
-- ==== Proof.Array.lean ====
/-
  The kernel's result array: block by block the attention of the arguments.
-/
module

public import proofs.«01_k».proof.Proof.Host

@[expose] public section

noncomputable section

namespace Cert.KernelIdeal.Gen

open Cert.KernelIdeal Idealize.ShloMosaic Idealize.ShloMosaic.TcCoe Idealize.SL.Sem Idealize.ShloMosaic.Pointwise Cert.Attn

variable (m : (ℓ : Loc nD τ sig) → Buf (Elt Ideal) ℓ)

/-! ## Where the blocks lie: point `t` is batch `t / 66`, head group `t / 33 % 2`, query tile `t % 33` -/

theorem index_0 : ∀ t : Fin cfg0.N, win0_0.index t (0 : Fin 4) = t.val / 66 ∧ win0_0.index t (1 : Fin 4) = t.val / 33 % 2
    ∧ win0_0.index t (2 : Fin 4) = t.val % 33 ∧ win0_0.index t (3 : Fin 4) = 0 := (by decide +kernel : ∀ t : Fin grid0.N, _)
theorem index_1 : ∀ t : Fin cfg0.N, win0_1.index t (0 : Fin 4) = t.val / 66 ∧ win0_1.index t (1 : Fin 4) = t.val / 33 % 2
    ∧ win0_1.index t (2 : Fin 4) = 0 ∧ win0_1.index t (3 : Fin 4) = 0 := (by decide +kernel : ∀ t : Fin grid0.N, _)
theorem index_2 : ∀ t : Fin cfg0.N, win0_2.index t (0 : Fin 5) = t.val / 66 ∧ win0_2.index t (1 : Fin 5) = t.val / 33 % 2
    ∧ win0_2.index t (2 : Fin 5) = 0 ∧ win0_2.index t (3 : Fin 5) = 0 ∧ win0_2.index t (4 : Fin 5) = 0 :=
  (by decide +kernel : ∀ t : Fin grid0.N, _)
theorem index_3 : ∀ t : Fin cfg0.N, win0_3.index t (0 : Fin 3) = t.val / 66 ∧ win0_3.index t (1 : Fin 3) = t.val % 33
    ∧ win0_3.index t (2 : Fin 3) = t.val / 33 % 2 := (by decide +kernel : ∀ t : Fin grid0.N, _)

/-- A point's batch, and its head group's head `h`. -/
def batch (t : Fin cfg0.N) : Fin 4 := ⟨t.val / 66, by have : t.val < 264 := t.isLt.trans_eq N_0; omega⟩
def head (t : Fin cfg0.N) (h : Fin 4) : Fin 8 := ⟨4 * (t.val / 33 % 2) + h.val, by omega⟩

/-- Row `i` of the point's query tile. -/
def row (t : Fin cfg0.N) (i : Fin 256) : Fin 8448 := ⟨256 * (t.val % 33) + i, by omega⟩

theorem iblk_q (c : Dev nD) (t : Fin cfg0.N) (h : Fin 4) (i : Fin 256) (d : Fin 128) :
    (iblk m c 0 t : FVec Ideal S1x4x256x128 .bf16) (ix4 0 h i d)
      = (V m c main_v8 : FVec Ideal S4x8x8448x128 .bf16) (ix4 (batch t) (head t h) (row t i) d) := by
  obtain ⟨e0, e1, e2, e3⟩ := index_0 t
  show V m c main_v8 (((cfg0.win 0).blk t).view.emb (ix4 0 h i d)) = _
  refine congrArg (V m c main_v8) (funext fun a => Fin.ext ?_)
  match a with
  | ⟨0, _⟩ => show win0_0.index t (0 : Fin 4) * 1 + 1 * 0 = t.val / 66; omega
  | ⟨1, _⟩ => show win0_0.index t (1 : Fin 4) * 4 + 1 * h.val = 4 * (t.val / 33 % 2) + h.val; omega
  | ⟨2, _⟩ => show win0_0.index t (2 : Fin 4) * 256 + 1 * i.val = 256 * (t.val % 33) + i.val; omega
  | ⟨3, _⟩ => show win0_0.index t (3 : Fin 4) * 128 + 1 * d.val = d.val; omega

theorem iblk_k (c : Dev nD) (t : Fin cfg0.N) (h : Fin 4) (j : Fin 8448) (d : Fin 128) :
    (iblk m c 1 t : FVec Ideal S1x4x8448x128 .bf16) (ix4 0 h j d)
      = (V m c main_v11 : FVec Ideal S4x8x8448x128 .bf16) (ix4 (batch t) (head t h) j d) := by
  obtain ⟨e0, e1, e2, e3⟩ := index_1 t
  show V m c main_v11 (((cfg0.win 1).blk t).view.emb (ix4 0 h j d)) = _
  refine congrArg (V m c main_v11) (funext fun a => Fin.ext ?_)
  match a with
  | ⟨0, _⟩ => show win0_1.index t (0 : Fin 4) * 1 + 1 * 0 = t.val / 66; omega
  | ⟨1, _⟩ => show win0_1.index t (1 : Fin 4) * 4 + 1 * h.val = 4 * (t.val / 33 % 2) + h.val; omega
  | ⟨2, _⟩ => show win0_1.index t (2 : Fin 4) * 8448 + 1 * j.val = j.val; omega
  | ⟨3, _⟩ => show win0_1.index t (3 : Fin 4) * 128 + 1 * d.val = d.val; omega

theorem iblk_v (c : Dev nD) (t : Fin cfg0.N) (h : Fin 4) (b : Fin 33) (r : Fin 80) (k : Fin 256) :
    (iblk m c 2 t : FVec Ideal S1x4x33x80x256 .bf16) (ix5 0 h b r k)
      = (V m c main_v22 : FVec Ideal S4x8x33x80x256 .bf16) (ix5 (batch t) (head t h) b r k) := by
  obtain ⟨e0, e1, e2, e3, e4⟩ := index_2 t
  show V m c main_v22 (((cfg0.win 2).blk t).view.emb (ix5 0 h b r k)) = _
  refine congrArg (V m c main_v22) (funext fun a => Fin.ext ?_)
  match a with
  | ⟨0, _⟩ => show win0_2.index t (0 : Fin 5) * 1 + 1 * 0 = t.val / 66; omega
  | ⟨1, _⟩ => show win0_2.index t (1 : Fin 5) * 4 + 1 * h.val = 4 * (t.val / 33 % 2) + h.val; omega
  | ⟨2, _⟩ => show win0_2.index t (2 : Fin 5) * 33 + 1 * b.val = b.val; omega
  | ⟨3, _⟩ => show win0_2.index t (3 : Fin 5) * 80 + 1 * r.val = r.val; omega
  | ⟨4, _⟩ => show win0_2.index t (4 : Fin 5) * 256 + 1 * k.val = k.val; omega

/-! ## What the blocks hold -/

/-- The real arguments of the claim. -/
structure Reals (c : Dev nD) : Prop where
  ql : IsReal (argQl m c)
  qc : IsReal (argQc m c)
  kc : IsReal (argKc m c)
  kl : IsReal (argKl m c)

/-- A head's keys, a tile's queries and a head's values, as the kernel holds them. -/
def keyOf (c : Dev nD) (b : Fin 4) (h : Fin 8) (j : ℕ) (d : Fin 128) : ℝ :=
  if hd : d.val < 96 then (both (argKl m c) (argKc m c) b h j ⟨d, hd⟩).toReal else 0
def queryOf (c : Dev nD) (b : Fin 4) (h : Fin 8) (j : ℕ) (d : Fin 128) : ℝ :=
  if hd : d.val < 96 then (both (argQl m c) (argQc m c) b h j ⟨d, hd⟩).toReal * (1 / (√96 * Real.log 2)) else 0
def valueOf (c : Dev nD) (b : Fin 4) (h : Fin 8) (r : Fin 80) (j : ℕ) : EReal :=
  if hr : r.val < 64 then both (argVl m c) (argVc m c) b h j ⟨r, hr⟩ else if r.val = 64 then 1 else 0

variable {m}

theorem blocks {c : Dev nD} (R : Reals m c) (t : Fin cfg0.N) (h : Fin 4) :
    Blocks (keyOf m c (batch t) (head t h)) (fun i => queryOf m c (batch t) (head t h) (row t i)) (valueOf m c (batch t) (head t h))
      (iblk m c 0 t) (iblk m c 1 t) (iblk m c 2 t) h where
  q i d := by
    rw [iblk_q, V_q]
    unfold queryOf
    split_ifs
    · rw [EReal.coe_mul, both_real R.ql R.qc]
    · rfl
  k j d := by
    rw [iblk_k, V_k]
    unfold keyOf
    split_ifs
    · rw [both_real R.kl R.kc]
    · rfl
  v r b k := by
    rw [iblk_v, V_v]
    rfl

/-- The kernel's score, in powers of two, is the attention's scaled score, in powers of e. -/
theorem score_eq (c : Dev nD) (b : Fin 4) (h : Fin 8) (qi : Fin 256 → ℕ) (i : Fin 256) (j : ℕ) :
    score (keyOf m c b h) (fun i => queryOf m c b h (qi i)) i j * Real.log 2
      = logit (argQl m c) (argQc m c) (argKc m c) (argKl m c) b h (qi i) j := by
  have hl : Real.log 2 ≠ 0 := (Real.log_pos (by norm_num)).ne'
  have hs : √96 ≠ 0 := by positivity
  unfold score logit
  rw [Fin.sum_univ_add (a := 96) (b := 32) fun d : Fin (96 + 32) => keyOf m c b h j d * queryOf m c b h (qi i) d,
    Finset.sum_eq_zero (s := Finset.univ) (f := fun d : Fin 32 => _) (fun d _ => by
      unfold keyOf; rw [dif_neg (by simp), zero_mul]), add_zero, Finset.sum_mul, Finset.sum_div]
  refine Finset.sum_congr rfl fun d _ => ?_
  unfold keyOf queryOf
  have hd : (Fin.castAdd 32 d).val < 96 := d.isLt
  rw [dif_pos hd, dif_pos hd]
  show (both (argKl m c) (argKc m c) b h j d).toReal * ((both (argQl m c) (argQc m c) b h (qi i) d).toReal * _) * _ = _
  field_simp

/-! ## What a point writes back -/

theorem zeros3 : (![0, 0, 0] : Fin 3 → Nat) = fun _ => 0 := funext fun a => by fin_cases a <;> rfl

theorem headA_at {c : Dev nD} (R : Reals m c) (t : Fin cfg0.N) (ht : t.val % 33 ≤ 31) (h : Fin 4) (r : Fin 64) (i : Fin 256) :
    quotient (headA (iblk m c 0 t) (iblk m c 1 t) (iblk m c 2 t) h.val h.isLt).2 (ix2 r i)
      = attend (argQl m c) (argQc m c) (argKc m c) (argKl m c) (argVc m c) (argVl m c) (batch t) (head t h) (row t i) r := by
  rw [(holds_headA (blocks R t h)).quotient ⟨0, by simp⟩ (fun j _ => rfl)]
  unfold attend seen
  rw [if_pos (show (row t i).val < 8192 by unfold row; dsimp only; omega)]
  congr 1
  · exact funext fun j => score_eq c _ _ (fun i => (row t i).val) i j
  · exact funext fun j => dif_pos r.isLt

theorem headB_at {c : Dev nD} (R : Reals m c) (t : Fin cfg0.N) (ht : t.val % 33 = 32) (h : Fin 4) (r : Fin 64) (i : Fin 256) :
    quotient (headB (iblk m c 0 t) (iblk m c 1 t) (iblk m c 2 t) h.val h.isLt).2 (ix2 r i)
      = attend (argQl m c) (argQc m c) (argKc m c) (argKl m c) (argVc m c) (argVl m c) (batch t) (head t h) (row t i) r := by
  rw [(holds_headB (blocks R t h)).quotient ⟨8192, by simp⟩ (fun j _ => rfl)]
  unfold attend seen
  rw [if_neg (show ¬(row t i).val < 8192 by unfold row; dsimp only; omega)]
  congr 1
  · exact funext fun j => score_eq c _ _ (fun i => (row t i).val) i j
  · exact funext fun j => dif_pos r.isLt

/-- The attention of the arguments. -/
abbrev answer (m : (ℓ : Loc nD τ sig) → Buf (Elt Ideal) ℓ) (c : Dev nD) : FVec Ideal S4x8448x512 .bf16 :=
  result (argQl m c) (argQc m c) (argKc m c) (argKl m c) (argVc m c) (argVl m c)

/-- The result array's element under element (`i`, head `h`, feature `r`) of the point's block. -/
theorem answer_emb (c : Dev nD) (t : Fin cfg0.N) (i : Fin 256) (h : Fin 4) (r : Fin 64) :
    ((cfg0.win 3).blk t).view.read (Elt Ideal) (answer m c) (ix3 0 i ⟨64 * h + r, by omega⟩)
      = attend (argQl m c) (argQc m c) (argKc m c) (argKl m c) (argVc m c) (argVl m c) (batch t) (head t h) (row t i) r := by
  obtain ⟨e0, e1, e2⟩ := index_3 t
  rw [← result_apply]
  show answer m c (((cfg0.win 3).blk t).view.emb (ix3 0 i ⟨64 * h + r, by omega⟩)) = _
  refine congrArg (answer m c) (funext fun a => Fin.ext ?_)
  match a with
  | ⟨0, _⟩ => show win0_3.index t (0 : Fin 3) * 1 + 1 * 0 = t.val / 66; omega
  | ⟨1, _⟩ => show win0_3.index t (1 : Fin 3) * 256 + 1 * i.val = 256 * (t.val % 33) + i.val; omega
  | ⟨2, _⟩ =>
    show win0_3.index t (2 : Fin 3) * 256 + 1 * (64 * h.val + r.val) = 64 * (4 * (t.val / 33 % 2) + h.val) + r.val
    omega

/-- A block's index as query, head and feature. -/
theorem block_index (y : S1x256x256.Idx) : ∃ (i : Fin 256) (h : Fin 4) (r : Fin 64), y = ix3 0 i ⟨64 * h + r, by omega⟩ := by
  have h1 : (y 1).val < 256 := (y 1).isLt
  have h2 : (y 2).val < 256 := (y 2).isLt
  have h0 : (y 0).val < 1 := (y 0).isLt
  refine ⟨⟨(y 1).val, h1⟩, ⟨(y 2).val / 64, by omega⟩, ⟨(y 2).val % 64, by omega⟩, funext fun a => Fin.ext ?_⟩
  match a with
  | ⟨0, _⟩ => show (y 0).val = 0; omega
  | ⟨1, _⟩ => rfl
  | ⟨2, _⟩ => show (y 2).val = 64 * ((y 2).val / 64) + (y 2).val % 64; omega

theorem flushed_eq {c : Dev nD} (R : Reals m c) (t : Fin cfg0.N) :
    (dats m 0 c).flushed 3 t = ((cfg0.win 3).blk t).view.read (Elt Ideal) (answer m c) := by
  rcases Nat.lt_or_ge (t.val % 33) 32 with ht | ht
  · rw [Value.flushed3_A m c t (by omega) (by omega)]
    unfold out0_A_3
    rw [View.read_writes_junk_eq_canon, run_A, View.canon_unit_zero zeros3]
    funext y
    obtain ⟨i, h, r, rfl⟩ := block_index y
    refine Eq.trans ?_ (answer_emb c t i h r).symm
    rw [← headA_at R t (by omega)]
    exact joined_apply (fun h : Fin 4 => (headA (iblk m c 0 t) (iblk m c 1 t) (iblk m c 2 t) h.val h.isLt).2) i h r
  · have ht : t.val % 33 = 32 := by omega
    rw [Value.flushed3_B m c t (by omega) ht]
    unfold out0_B_3
    rw [View.read_writes_junk_eq_canon, run_B, View.canon_unit_zero zeros3]
    funext y
    obtain ⟨i, h, r, rfl⟩ := block_index y
    refine Eq.trans ?_ (answer_emb c t i h r).symm
    rw [← headB_at R t ht]
    exact joined_apply (fun h : Fin 4 => (headB (iblk m c 0 t) (iblk m c 1 t) (iblk m c 2 t) h.val h.isLt).2) i h r

/-- Every element of the result lies in some point's block. -/
theorem covered (i : S4x8448x512.Idx) : ∃ t : Fin cfg0.N, (cfg0.win 3).flush t = true ∧ i ∈ ((cfg0.win 3).blk t).view.set := by
  have h0 : (i 0).val < 4 := (i 0).isLt
  have h1 : (i 1).val < 8448 := (i 1).isLt
  have h2 : (i 2).val < 512 := (i 2).isLt
  have hN : cfg0.N = 264 := N_0
  obtain ⟨t, ht⟩ : ∃ t : Fin cfg0.N, t.val = 66 * (i 0).val + 33 * ((i 2).val / 256) + (i 1).val / 256 := ⟨⟨_, by omega⟩, rfl⟩
  refine ⟨t, flush0_3 t, ?_⟩
  obtain ⟨e0, e1, e2⟩ := index_3 t
  show i ∈ ((View.whole main_v23).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

/-- The result array after the run is the attention of the arguments. -/
theorem final {c : Dev nD} (R : Reals m c) : (dats m 0 c).arrAt 3 cfg0.N = answer m c :=
  (dats m 0 c).arrAt_eq_of_cover 3 (answer m c) (fun t _ => flushed_eq R t) covered

end Cert.KernelIdeal.Gen

end
-- ==== Proof.Finite.lean ====
/-
  The precondition, read at an index: the queries and keys are real numbers.
-/
module

public import proofs.«01_k».proof.Defs
public import proofs.«01_k».proof.Proof.Gen.Pre_scores_finite
public import proofs.«01_k».proof.Proof.Array

@[expose] public section

noncomputable section

namespace Cert.KernelIdeal.Gen

open Cert.KernelIdeal Idealize.ShloMosaic Idealize.ShloMosaic.TcCoe Idealize.SL.Sem Idealize.ShloMosaic.Pointwise Cert.Attn

theorem ofBits_inf : Ideal.ofBits .f32 0x7F800000#32 = ⊤ := by simp [Ideal.ofBits, Ideal.ieee]

/-- A number whose magnitude is less than infinity is real. -/
theorem real_of_lt (x : EReal) (h : Ideal.cmp .olt (max x (-x)) (Ideal.ofBits .f32 0x7F800000#32) = 1#1) : (x.toReal : EReal) = x := by
  rw [ofBits_inf] at h
  induction x with
  | bot => simp [Ideal.cmp] at h
  | top => simp [Ideal.cmp] at h
  | coe r => simp

/-- Under the precondition the queries and keys are real numbers. -/
theorem reals {m : (ℓ : Loc nD τ sig) → Buf (Elt Ideal) ℓ} (h : Cert.Pre_KernelIdeal_scores_finite m) (c : Dev nD) : Reals m c := by
  obtain ⟨hq, hqc, hkc, hk⟩ := h c
  exact ⟨fun i => real_of_lt _ (congrFun hq i), fun i => real_of_lt _ (congrFun hqc i),
    fun i => real_of_lt _ (congrFun hkc i), fun i => real_of_lt _ (congrFun hk i)⟩

end Cert.KernelIdeal.Gen

end
-- ==== Proof.Reference.lean ====
/-
  The reference's result at an index: the attention of its arguments.
-/
module

public import proofs.«01_k».proof.Proof.Gen.ReferenceIdeal.Read
public import proofs.«01_k».proof.Proof.Steps
public import proofs.«01_k».proof.Proof.Spec

@[expose] public section

noncomputable section

namespace Cert.ReferenceIdeal.Read

open Cert.ReferenceIdeal Cert.ReferenceIdeal.Gen Idealize.ShloMosaic Idealize.ShloMosaic.TcCoe Idealize.SL.Sem Idealize.ShloMosaic.Pointwise Cert.Attn

/-- A maximum over the last axis, started from −∞. -/
theorem reduceMax_apply {n k : ℕ} (y : FVec Ideal ⟨4, ![4, 8, n, k]⟩ .f32) (z : FVec Ideal ⟨0, ![]⟩ .f32)
    (hz : z (Shape.Idx.first (by decide)) = (⊥ : EReal))
    (h' : (⟨4, ![4, 8, n, k]⟩ : Shape).ReducesTo [3] ⟨3, ![4, 8, n]⟩) (h : (⟨4, ![4, 8, n, k]⟩ : Shape).Reduces [3] ⟨3, ![4, 8, n]⟩)
    (hu : 0 < (⟨0, ![]⟩ : Shape).numel) (b : Fin 4) (g : Fin 8) (i : Fin n) :
    Host.reduce FloatOps.maximumf y z h' hu (ix3 b g i) = (Finset.univ.sup fun j : Fin k => (y (ix4 b g i j) : EReal)) := by
  rw [Host.reduce_eq_fold_single FloatOps.maximumf y z h' h hu]
  have hz : z (Shape.Idx.first hu) = (⊥ : EReal) := hz
  rw [hz]
  refine Finset.fold_congr fun j _ => congrArg y (funext fun a => Fin.ext ?_)
  match a with
  | ⟨0, _⟩ => rfl
  | ⟨1, _⟩ => rfl
  | ⟨2, _⟩ => rfl
  | ⟨3, _⟩ => rfl

variable (x0 : FVec Ideal S4x8x8192x96 .f32) (x1 x2 : FVec Ideal S4x8x256x96 .f32) (x3 : FVec Ideal S4x8x8192x96 .f32)
  (x4 : FVec Ideal S4x8x256x64 .f32) (x5 : FVec Ideal S4x8x8192x64 .f32)

/-- The reference's keys come context first: where its key `j` stands in the joined sequence. -/
def place (j : ℕ) : ℕ := if j < 256 then 8192 + j else j - 256

theorem both_place {n : ℕ} (l : FVec Ideal ⟨4, ![4, 8, 8192, n]⟩ .f32) (c : FVec Ideal ⟨4, ![4, 8, 256, n]⟩ .f32) (b : Fin 4) (h : Fin 8)
    (j : ℕ) (d : Fin n) (hj : j < 8448) :
    (if hc : j < 256 then c (ix4 b h ⟨j, hc⟩ d) else l (ix4 b h ⟨j - 256, by omega⟩ d) : EReal) = both l c b h (place j) d := by
  unfold both place
  by_cases hc : j < 256
  · have e : ∀ p, (⟨8192 + j - 8192, p⟩ : Fin 256) = ⟨j, hc⟩ := fun p => Fin.ext (Nat.add_sub_cancel_left ..)
    rw [dif_pos hc, if_pos hc, dif_neg (by omega), dif_pos (by omega), e]
  · rw [dif_neg hc, if_neg hc, dif_pos (by omega)]

theorem div_root (a : ℝ) : ((a / √96 : ℝ) : EReal) = (a : EReal) * ((1 / √96 : ℝ) : EReal) := by
  rw [← EReal.coe_mul, mul_one_div]

/-- The joined arrays from row 8192 on are the context's. -/
theorem both_context {n : ℕ} (l : FVec Ideal ⟨4, ![4, 8, 8192, n]⟩ .f32) (c : FVec Ideal ⟨4, ![4, 8, 256, n]⟩ .f32) (b : Fin 4) (h : Fin 8)
    (j : Fin 256) (d : Fin n) : both l c b h (8192 + j) d = c (ix4 b h j d) := by
  have e : ∀ p, (⟨8192 + j.val - 8192, p⟩ : Fin 256) = j := fun p => Fin.ext (Nat.add_sub_cancel_left ..)
  unfold both
  rw [dif_neg (by omega), dif_pos (by omega), e]

/-- The scaled scores of the latent queries. -/
theorem v5_at (h0 : IsReal x0) (h1 : IsReal x1) (h2 : IsReal x2) (h3 : IsReal x3) (b : Fin 4) (h : Fin 8) (i : Fin 8192) (j : Fin 8448) :
    val_main_v5 (F := Ideal) x0 x2 x3 (ix4 b h i j) = ((logit x0 x1 x2 x3 b h i (place j) : ℝ) : EReal) := by
  pointwise [val_main_v5, val_main_v4, val_main_v3, val_main_cst, val_main_v2, val_main_v0]
  unfold logit
  rw [div_root, coe_sum, ofBits_96, Ideal.sqrt_coe, if_neg (by norm_num), Ideal.div_coe (by positivity)]
  congr 1
  refine Finset.sum_congr rfl fun d _ => ?_
  rw [EReal.coe_mul, both_real h0 h1, both_real h3 h2, ← both_place _ _ _ _ _ _ j.isLt]
  unfold both
  rw [dif_pos i.isLt]

/-- The scaled scores of the context queries. -/
theorem v21_at (h0 : IsReal x0) (h1 : IsReal x1) (h2 : IsReal x2) (h3 : IsReal x3) (b : Fin 4) (h : Fin 8) (i : Fin 256) (j : Fin 256) :
    val_main_v21 (F := Ideal) x1 x2 (ix4 b h i j) = ((logit x0 x1 x2 x3 b h (8192 + i) (8192 + j) : ℝ) : EReal) := by
  pointwise [val_main_v21, val_main_v20, val_main_v19, val_main_cst_3, val_main_v18]
  unfold logit
  rw [div_root, coe_sum, ofBits_96, Ideal.sqrt_coe, if_neg (by norm_num), Ideal.div_coe (by positivity)]
  congr 1
  refine Finset.sum_congr rfl fun d _ => ?_
  rw [EReal.coe_mul, both_real h0 h1, both_real h3 h2, both_context, both_context]

/-- The greatest score of the first `n` keys. -/
theorem sup_range (n : ℕ) (t : ℕ → ℝ) : (Finset.univ.sup fun k : Fin n => ((t k.val : ℝ) : EReal)) = top t (Finset.range n) := by
  have := Cert.KernelIdeal.Gen.sup_Ico n 0 t
  simp only [Nat.zero_add] at this
  rw [this, Finset.range_eq_Ico]

theorem v8_at (t : ℕ → ℝ) (b : Fin 4) (h : Fin 8) (i : Fin 8192)
    (ht : ∀ j : Fin 8448, val_main_v5 (F := Ideal) x0 x2 x3 (ix4 b h i j) = ((t j : ℝ) : EReal)) :
    val_main_v8 (F := Ideal) x0 x2 x3 (ix3 b h i) = top t (Finset.range 8448) := by
  rw [val_main_v8_apply, val_main_v7_apply, val_main_cst_1_apply]
  unfold val_main_v6
  rw [reduceMax_apply _ _ (Cert.KernelIdeal.Gen.ofBits_negInf) _ (by decide), ← sup_range]
  simp only [ht]
  show max (Ideal.ofBits .f32 0xFF800000#32) _ = _
  rw [Cert.KernelIdeal.Gen.ofBits_negInf, max_eq_right bot_le]

theorem v24_at (t : ℕ → ℝ) (b : Fin 4) (h : Fin 8) (i : Fin 256)
    (ht : ∀ j : Fin 256, val_main_v21 (F := Ideal) x1 x2 (ix4 b h i j) = ((t j : ℝ) : EReal)) :
    val_main_v24 (F := Ideal) x1 x2 (ix3 b h i) = top t (Finset.range 256) := by
  rw [val_main_v24_apply, val_main_v23_apply, val_main_cst_5_apply]
  unfold val_main_v22
  rw [reduceMax_apply _ _ (Cert.KernelIdeal.Gen.ofBits_negInf) _ (by decide), ← sup_range]
  simp only [ht]
  show max (Ideal.ofBits .f32 0xFF800000#32) _ = _
  rw [Cert.KernelIdeal.Gen.ofBits_negInf, max_eq_right bot_le]

/-- The softmax of one latent query. -/
theorem v16_at (t : ℕ → ℝ) (b : Fin 4) (h : Fin 8) (i : Fin 8192)
    (ht : ∀ j : Fin 8448, val_main_v5 (F := Ideal) x0 x2 x3 (ix4 b h i j) = ((t j : ℝ) : EReal)) (j : Fin 8448) :
    val_main_v16 (F := Ideal) x0 x2 x3 (ix4 b h i j)
      = Ideal.div (Ideal.exp (t j - top t (Finset.range 8448))) (∑ k ∈ Finset.range 8448, Ideal.exp (t k - top t (Finset.range 8448))) := by
  have hm := v8_at x0 x2 x3 t b h i ht
  unfold val_main_v16 val_main_v15 val_main_v14 val_main_v13 val_main_v12 val_main_v11 val_main_v10 val_main_v9
  generalize val_main_v5 (F := Ideal) x0 x2 x3 = y at ht
  generalize val_main_v8 (F := Ideal) x0 x2 x3 = z at hm
  pointwise [val_main_cst_2]
  rw [Finset.sum_range]
  simp only [ht, hm]

theorem v32_at (t : ℕ → ℝ) (b : Fin 4) (h : Fin 8) (i : Fin 256)
    (ht : ∀ j : Fin 256, val_main_v21 (F := Ideal) x1 x2 (ix4 b h i j) = ((t j : ℝ) : EReal)) (j : Fin 256) :
    val_main_v32 (F := Ideal) x1 x2 (ix4 b h i j)
      = Ideal.div (Ideal.exp (t j - top t (Finset.range 256))) (∑ k ∈ Finset.range 256, Ideal.exp (t k - top t (Finset.range 256))) := by
  have hm := v24_at x1 x2 t b h i ht
  unfold val_main_v32 val_main_v31 val_main_v30 val_main_v29 val_main_v28 val_main_v27 val_main_v26 val_main_v25
  generalize val_main_v21 (F := Ideal) x1 x2 = y at ht
  generalize val_main_v24 (F := Ideal) x1 x2 = z at hm
  pointwise [val_main_cst_6]
  rw [Finset.sum_range]
  simp only [ht, hm]

theorem place_image : (Finset.range 8448).image place = Finset.range 8448 := by
  ext j
  simp only [Finset.mem_image, Finset.mem_range]
  unfold place
  constructor
  · rintro ⟨k, hk, rfl⟩
    split_ifs <;> omega
  · intro hj
    by_cases h : j < 8192
    · exact ⟨j + 256, by omega, by rw [if_neg (by omega)]; omega⟩
    · exact ⟨j - 8192, by omega, by rw [if_pos (by omega)]; omega⟩

theorem place_inj : Set.InjOn place (Finset.range 8448) := by
  intro j hj k hk e
  simp only [Finset.coe_range, Set.mem_Iio] at hj hk
  unfold place at e
  split_ifs at e <;> omega

/-- The latent queries' result. -/
theorem v17_at (h0 : IsReal x0) (h1 : IsReal x1) (h2 : IsReal x2) (h3 : IsReal x3) (b : Fin 4) (h : Fin 8) (i : Fin 8192) (r : Fin 64) :
    val_main_v17 (F := Ideal) x0 x2 x3 x4 x5 (ix4 b h i r) = attend x0 x1 x2 x3 x4 x5 b h i r := by
  have hy := v16_at x0 x2 x3 (fun j => logit x0 x1 x2 x3 b h i (place j)) b h i (v5_at x0 x1 x2 x3 h0 h1 h2 h3 b h i)
  unfold val_main_v17
  generalize val_main_v16 (F := Ideal) x0 x2 x3 = y at hy
  have hv : ∀ j : Fin 8448, val_main_v1 (F := Ideal) x4 x5 (ix4 b h j r) = both x5 x4 b h (place j) r := fun j => by
    rw [← both_place _ _ _ _ _ _ j.isLt]
    pointwise [val_main_v1]
  generalize val_main_v1 (F := Ideal) x4 x5 = v at hv
  pointwise
  simp only [hy, hv]
  rw [← Finset.sum_range fun j => Ideal.div (Ideal.exp (((logit x0 x1 x2 x3 b h i (place j) : ℝ) : EReal) - top (fun j => logit x0 x1 x2 x3 b h i (place j)) (Finset.range 8448))) (∑ k ∈ Finset.range 8448, Ideal.exp (((logit x0 x1 x2 x3 b h i (place k) : ℝ) : EReal) - top (fun j => logit x0 x1 x2 x3 b h i (place j)) (Finset.range 8448))) * both x5 x4 b h (place j) r,
    soft_of_exp (t := fun j => logit x0 x1 x2 x3 b h i (place j)) (v := fun j => both x5 x4 b h (place j) r) (Finset.range 8448) ⟨0, by simp⟩,
    soft_image (logit x0 x1 x2 x3 b h i) (fun j => both x5 x4 b h j r) _ place place_inj, place_image]
  unfold attend seen
  rw [if_pos i.isLt]

/-- The context queries' result. -/
theorem v33_at (h0 : IsReal x0) (h1 : IsReal x1) (h2 : IsReal x2) (h3 : IsReal x3) (b : Fin 4) (h : Fin 8) (i : Fin 256) (r : Fin 64) :
    val_main_v33 (F := Ideal) x1 x2 x4 (ix4 b h i r) = attend x0 x1 x2 x3 x4 x5 b h (8192 + i) r := by
  have hy := v32_at x1 x2 (fun j => logit x0 x1 x2 x3 b h (8192 + i) (8192 + j)) b h i (v21_at x0 x1 x2 x3 h0 h1 h2 h3 b h i)
  unfold val_main_v33
  generalize val_main_v32 (F := Ideal) x1 x2 = y at hy
  have hv : ∀ j : Fin 256, (x4 (ix4 b h j r) : EReal) = both x5 x4 b h (8192 + j) r := fun j => (both_context ..).symm
  pointwise
  simp only [hy, hv]
  rw [← Finset.sum_range fun j => Ideal.div (Ideal.exp (((logit x0 x1 x2 x3 b h (8192 + i) (8192 + j) : ℝ) : EReal) - top (fun j => logit x0 x1 x2 x3 b h (8192 + i) (8192 + j)) (Finset.range 256))) (∑ k ∈ Finset.range 256, Ideal.exp (((logit x0 x1 x2 x3 b h (8192 + i) (8192 + k) : ℝ) : EReal) - top (fun j => logit x0 x1 x2 x3 b h (8192 + i) (8192 + j)) (Finset.range 256))) * both x5 x4 b h (8192 + j) r,
    soft_of_exp (t := fun j => logit x0 x1 x2 x3 b h (8192 + i) (8192 + j)) (v := fun j => both x5 x4 b h (8192 + j) r) (Finset.range 256) ⟨0, by simp⟩,
    soft_image (logit x0 x1 x2 x3 b h (8192 + i)) (fun j => both x5 x4 b h j r) _ (8192 + ·) (fun _ _ _ _ e => by simpa using e)]
  unfold attend seen
  rw [if_neg (by omega)]
  refine congrArg (soft _ _) ?_
  ext j
  simp only [Finset.mem_image, Finset.mem_range, Finset.mem_Ico]
  exact ⟨fun ⟨k, hk, e⟩ => by omega, fun hj => ⟨j - 8192, by omega, by omega⟩⟩

/-- The reference's result is the attention of its arguments. -/
theorem result_eq (h0 : IsReal x0) (h1 : IsReal x1) (h2 : IsReal x2) (h3 : IsReal x3) :
    val_main_v39 (F := Ideal) x0 x1 x2 x3 x4 x5 = result x0 x1 x2 x3 x4 x5 := by
  funext y
  obtain ⟨b, i, h, r, rfl⟩ : ∃ (b : Fin 4) (i : Fin 8448) (h : Fin 8) (r : Fin 64), y = ix3 b i ⟨64 * h + r, by omega⟩ := by
    have h2 : (y 2).val < 512 := (y 2).isLt
    refine ⟨y 0, y 1, ⟨(y 2).val / 64, by omega⟩, ⟨(y 2).val % 64, by omega⟩, funext fun a => Fin.ext ?_⟩
    match a with
    | ⟨0, _⟩ => rfl
    | ⟨1, _⟩ => rfl
    | ⟨2, _⟩ => show (y 2).val = 64 * ((y 2).val / 64) + (y 2).val % 64; omega
  rw [result_apply]
  have ha := v17_at x0 x1 x2 x3 x4 x5 h0 h1 h2 h3 b h
  have hb := v33_at x0 x1 x2 x3 x4 x5 h0 h1 h2 h3 b h
  unfold val_main_v39 val_main_v38 val_main_v37 val_main_v36 val_main_v35 val_main_v34
  generalize val_main_v17 (F := Ideal) x0 x2 x3 x4 x5 = y at ha
  generalize val_main_v33 (F := Ideal) x1 x2 x4 = z at hb
  pointwise
  by_cases hi : i.val < 8192
  · rw [dif_pos hi, ha]
  · rw [dif_neg hi, hb]
    exact congrArg (fun k => attend x0 x1 x2 x3 x4 x5 b h k r) (Nat.add_sub_cancel' (Nat.le_of_not_lt hi))

end Cert.ReferenceIdeal.Read

end
-- ==== Proof.SameText.lean ====
/-
  The kernel and its ideal form are one text: their body tables are equal, so a run of the one is a run of the other.
-/
module

public import proofs.«01_k».proof.Defs
public import proofs.«01_k».proof.Proof.Gen.Kernel
public import proofs.«01_k».proof.Proof.Gen.KernelIdeal
public import Idealize.ShloMosaic.Adequacy

@[expose] public section

namespace Cert.SameText

open Idealize.ShloMosaic Idealize.SL.Sem

/-- The two programs have the same kernel body. -/
theorem body : @Cert.Kernel.cc0_attention Bits _ _ = @Cert.KernelIdeal.cc0_attention Bits _ _ := rfl

/-- The two programs have the same table of bodies. -/
theorem defs₀ : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l a
  match l, a with
  | ⟨0, _⟩, (t, s) =>
    dsimp only
    rw [body]
    rfl
  | ⟨_ + 1, h⟩, _ => exact absurd h (Nat.not_lt.2 (Nat.le_add_left _ _))

theorem defs : Cert.Kernel.defs (F := Bits) = Cert.KernelIdeal.defs (F := Bits) :=
  congrArg (Pipeline.defs (Cert.KernelIdeal.pcfgs (F := Bits))) defs₀

theorem main : Cert.Kernel.main (F := Bits) = Cert.KernelIdeal.main (F := Bits) := rfl

end Cert.SameText
-- ==== Proof.InProj.Spec.lean ====
/-
  The input projection as a function of its arguments, at an index.
-/
module

public import proofs.«01_k».proof.Proof.Gen.Kernel2Ideal
public import Idealize.ShloMosaic.Lib.Pointwise

@[expose] public section

noncomputable section

namespace Cert.InProj

open Idealize.ShloMosaic Idealize.ShloMosaic.Pointwise Cert.Kernel2Ideal

/-- A row normed by its root mean square, scaled by the norm's weights and modulated: `t` shifts, `sc` scales. -/
def modulated (x g sc t : Fin 1024 → EReal) (k : Fin 1024) : EReal :=
  x k * Ideal.rsqrt (Ideal.div (∑ j, x j * x j) (Ideal.ofBits .f32 0x44800000#32) + Ideal.ofBits .f32 0x358637BD#32) * g k
    * (1 + sc k) + t k

/-- The column of the weights that stands at column `n` of the call's weights; 6816 where a zero stands. -/
def column (n : ℕ) : ℕ :=
  if n < 3072 then 3744 + n
  else if n < 4096 then 2720 + (n - 3072)
  else if n < 6144 then n - 4096
  else if n < 6400 then 2432 + (n - 6144)
  else if n < 6464 then 6816
  else if n < 6496 then 2688 + (n - 6464)
  else if n < 6528 then 6816
  else 2048 + (n - 6528)

section
variable {n : ℕ}
theorem column_merge (h : n < 3072) : column n = 3744 + n := by unfold column; split_ifs; omega
theorem column_uv (h : ¬n < 3072) (h' : n - 3072 < 1024) : column n = 2720 + (n - 3072) := by unfold column; split_ifs <;> omega
theorem column_ret (h : ¬n - 3072 < 1024) (h' : n - 3072 - 1024 < 2048) : column n = n - 3072 - 1024 := by
  unfold column; split_ifs <;> omega
theorem column_ckv (h : ¬n - 3072 - 1024 < 2048) (h' : n - 3072 - 1024 - 2048 < 256) : column n = 2432 + (n - 3072 - 1024 - 2048) := by
  unfold column; split_ifs <;> omega
theorem column_left (h : ¬n - 3072 - 1024 - 2048 < 256) (h' : n - 3072 - 1024 - 2048 - 256 < 64) : column n = 6816 := by
  unfold column; split_ifs <;> omega
theorem column_kr (h : ¬n - 3072 - 1024 - 2048 - 256 < 64) (h' : n - 3072 - 1024 - 2048 - 256 - 64 < 32) :
    column n = 2688 + (n - 3072 - 1024 - 2048 - 256 - 64) := by unfold column; split_ifs <;> omega
theorem column_right (h : ¬n - 3072 - 1024 - 2048 - 256 - 64 < 32) (h' : n - 3072 - 1024 - 2048 - 256 - 64 - 32 < 32) : column n = 6816 := by
  unfold column; split_ifs <;> omega
theorem column_cq (h : ¬n - 3072 - 1024 - 2048 - 256 - 64 - 32 < 32) : column n = 2048 + (n - 3072 - 1024 - 2048 - 256 - 64 - 32 - 32) := by
  unfold column; split_ifs <;> omega
end

/-- The call's weights. -/
def weight (w : FVec Ideal S1024x6816 .f32) (k : Fin 1024) (n : ℕ) : EReal :=
  if h : column n < 6816 then w (ix2 k ⟨column n, h⟩) else 0

theorem weight_of {w : FVec Ideal S1024x6816 .f32} {k : Fin 1024} {n c : ℕ} (h : c < 6816) (hc : column n = c) :
    weight w k n = w (ix2 k ⟨c, h⟩) := by
  subst hc
  exact dif_pos h

theorem weight_zero {w : FVec Ideal S1024x6816 .f32} {k : Fin 1024} {n : ℕ} (hc : column n = 6816) : weight w k n = 0 := by
  rw [weight, dif_neg (by omega)]

/-- The modulated norm of sample `b`'s row `j`: a latent row below 8192, a context row from there. -/
def normed (x : FVec Ideal S4x8192x1024 .f32) (ctx : FVec Ideal S4x256x1024 .f32) (mod : FVec Ideal S4x6144 .f32) (modC : FVec Ideal S6144 .f32)
    (g : FVec Ideal S1024 .f32) (b : Fin 4) (j : Fin 8448) (k : Fin 1024) : EReal :=
  if h : j.val < 8192 then
    modulated (fun k => x (ix3 b ⟨j, h⟩ k)) (fun k => g (ix1 k)) (fun k => mod (ix2 b ⟨1024 + k, by omega⟩)) (fun k => mod (ix2 b ⟨k, by omega⟩)) k
  else
    modulated (fun k => ctx (ix3 b ⟨j - 8192, by omega⟩ k)) (fun k => g (ix1 k)) (fun k => modC (ix1 ⟨1024 + k, by omega⟩))
      (fun k => modC (ix1 ⟨k, by omega⟩)) k

/-- The projection of sample `b`'s row `j` at the call's column `n`. -/
def project (x : FVec Ideal S4x8192x1024 .f32) (ctx : FVec Ideal S4x256x1024 .f32) (mod : FVec Ideal S4x6144 .f32) (modC : FVec Ideal S6144 .f32)
    (g : FVec Ideal S1024 .f32) (w : FVec Ideal S1024x6816 .f32) (b : Fin 4) (j : Fin 8448) (n : ℕ) : EReal :=
  ∑ k : Fin 1024, normed x ctx mod modC g b j k * weight w k n

/-- The call's result. -/
def result (x : FVec Ideal S4x8192x1024 .f32) (ctx : FVec Ideal S4x256x1024 .f32) (mod : FVec Ideal S4x6144 .f32) (modC : FVec Ideal S6144 .f32)
    (g : FVec Ideal S1024 .f32) (w : FVec Ideal S1024x6816 .f32) : FVec Ideal S33792x6912 .bf16 := fun y =>
  project x ctx mod modC g w ⟨(y 0).val / 8448, Nat.div_lt_of_lt_mul (y 0).isLt⟩ ⟨(y 0).val % 8448, Nat.mod_lt _ (by decide)⟩ (y 1).val

end Cert.InProj

end
-- ==== Proof.InProj.Block.lean ====
/-
  The input projection's block: what one grid point stores, at an index.
-/
module

public import proofs.«01_k».proof.Proof.Gen.Kernel2Ideal.Value
public import proofs.«01_k».proof.Proof.InProj.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Gen

open Idealize.ShloMosaic Idealize.ShloMosaic.TcCoe Idealize.ShloMosaic.Tactic Cert.InProj

/-- The modulated, normed rows that a point keeps in its scratch. -/
def hidden (i : grid0.Coords) (x0 x1 : Vec Ideal S256x1024 .f32) (x2 : Vec Ideal S1x1x6144 .f32) (x3 : Vec Ideal S1x1024 .f32) :
    FVec Ideal S256x1024 .bf16 :=
  k0_pay5 (k0_pay2 (View.ld x2 (Rect.unit ![0, 0, 0] S1x1x1024.size inb_S1x1x6144_S1x1x1024_0_0_0)))
    (k0_pay3 i x1 x0 x3)
    (k0_pay4 (View.ld x2 (Rect.unit ![0, 0, 1024] S1x1x1024.size inb_S1x1x6144_S1x1x1024_0_0_1024)))

/-- A row of the scratch times a chunk of the weights' columns. -/
theorem chunk_apply (h : FVec Ideal S256x1024 .bf16) (w : Vec Ideal S1024x768 .bf16) (i : Fin 256) (j : Fin 768) :
    k0_pay6 h w (ix2 i j) = ∑ k : Fin 1024, h (ix2 i k) * w (ix2 k j) := by
  pointwise [k0_pay6]

/-- An index of a store's tile names the array's index. -/
theorem tile_index {y : S256x6912.Idx} {x : S256x768.Idx} {o : ℕ} (h0 : (y 0).val = (x 0).val) (h1 : (y 1).val = o + (x 1).val) :
    ∃ (i : Fin 256) (j : Fin 768) (ho : o + j.val < 6912), x = ix2 i j ∧ y = ix2 i ⟨o + j, ho⟩ :=
  ⟨x 0, x 1, h1 ▸ (y 1).isLt, eq_ix2 x, (eq_ix2 y).trans (congrArg₂ ix2 (Fin.ext h0) (Fin.ext h1))⟩

/-- The chunk read at column `o` of the weights is their columns from `o`. -/
theorem chunk_at (h : FVec Ideal S256x1024 .bf16) (w : Vec Ideal S1024x6912 .bf16) (o : ℕ)
    (inb : ∀ a, (![0, o] : Fin 2 → ℕ) a + S1024x768.size a ≤ S1024x6912.size a) (i : Fin 256) (j : Fin 768) (ho : o + j.val < 6912) :
    k0_pay6 h (View.ld w (Rect.unit ![0, o] S1024x768.size inb)) (ix2 i j) = ∑ k : Fin 1024, h (ix2 i k) * w (ix2 k ⟨o + j, ho⟩) := by
  rw [chunk_apply]
  refine Finset.sum_congr rfl fun k _ => congrArg (h (ix2 i k) * w ·) (funext fun a => Fin.ext ?_)
  match a with
  | ⟨0, _⟩ => show 0 + 1 * k.val = k.val; omega
  | ⟨1, _⟩ => show o + 1 * j.val = o + j.val; omega

/-- The word that selects a sample's last tile, the context's, is the test of the remainder. -/
theorem context_word : ∀ n : Fin 132,
    Scalar.cmpi CmpIPredicate.eq
      (Scalar.select
        (Scalar.andi
          (Scalar.xori
            (Scalar.cmpi CmpIPredicate.slt
              (Scalar.remsi (BitVec.ofNat 32 n.val) (Scalar.select (Scalar.cmpi CmpIPredicate.eq 33#32 0#32) 1#32 33#32)) 0#32)
            (Scalar.cmpi CmpIPredicate.slt (Scalar.select (Scalar.cmpi CmpIPredicate.eq 33#32 0#32) 1#32 33#32) 0#32))
          (Scalar.cmpi CmpIPredicate.ne
            (Scalar.remsi (BitVec.ofNat 32 n.val) (Scalar.select (Scalar.cmpi CmpIPredicate.eq 33#32 0#32) 1#32 33#32)) 0#32))
        (Scalar.addi
          (Scalar.remsi (BitVec.ofNat 32 n.val) (Scalar.select (Scalar.cmpi CmpIPredicate.eq 33#32 0#32) 1#32 33#32))
          (Scalar.select (Scalar.cmpi CmpIPredicate.eq 33#32 0#32) 1#32 33#32))
        (Scalar.remsi (BitVec.ofNat 32 n.val) (Scalar.select (Scalar.cmpi CmpIPredicate.eq 33#32 0#32) 1#32 33#32)))
      32#32 = if n.val % 33 = 32 then 1#1 else 0#1 := by
  decide +kernel

/-- A row of the scratch: the context's row in a sample's last tile, the latent's in the others. -/
theorem hidden_apply (i : grid0.Coords) (x0 x1 : Vec Ideal S256x1024 .f32) (x2 : Vec Ideal S1x1x6144 .f32) (x3 : Vec Ideal S1x1024 .f32)
    (r : Fin 256) (k : Fin 1024) : hidden i x0 x1 x2 x3 (ix2 r k)
      = modulated (fun j => if (i 0).val % 33 = 32 then x1 (ix2 r j) else x0 (ix2 r j)) (fun j => x3 (ix2 0 j))
          (fun j => x2 (ix3 0 0 ⟨1024 + j, by omega⟩)) (fun j => x2 (ix3 0 0 ⟨j, by omega⟩)) k := by
  pointwise [hidden, k0_pay5, k0_pay4, k0_pay3, k0_pay2]
  rw [context_word (i 0)]
  by_cases h : (i 0).val % 33 = 32
  · simp only [h, if_true, modulated]
    rfl
  · simp only [h, if_false, modulated]
    rfl

set_option maxHeartbeats 4000000 in
theorem block_apply (c : Dev nD) (i : grid0.Coords) (arg1 : Memref sig .tc .vmem S256x1024 .f32) (harg1 : arg1.IsWhole) (arg2 : Memref sig .tc .vmem S256x1024 .f32)
    (harg2 : arg2.IsWhole) (arg3 : Memref sig .tc .vmem S1x1x6144 .f32) (harg3 : arg3.IsWhole) (arg4 : Memref sig .tc .vmem S1x1024 .f32) (harg4 : arg4.IsWhole)
    (arg5 : Memref sig .tc .vmem S1024x6912 .bf16) (harg5 : arg5.IsWhole) (arg6 : Memref sig .tc .vmem S256x6912 .bf16) (harg6 : arg6.IsWhole)
    (arg7 : Memref sig .tc .vmem S256x1024 .bf16) (harg7 : arg7.IsWhole)
    (x0 x1 : Vec Ideal S256x1024 .f32) (x2 : Vec Ideal S1x1x6144 .f32) (x3 : Vec Ideal S1x1024 .f32) (x4 : Vec Ideal S1024x6912 .bf16)
    (y : S256x6912.Idx) :
    out0_A_5 c i arg1 harg1 arg2 harg2 arg3 harg3 arg4 harg4 arg5 harg5 arg6 harg6 arg7 harg7 x0 x1 x2 x3 x4 y
      = ∑ k : Fin 1024, hidden i x0 x1 x2 x3 (ix2 (y 0) k) * x4 (ix2 k (y 1)) := by
  frame_open
  simp (disch := decide) only [↓View.readCov_skip, ↓View.readCov_cons_toLoadRect]
  frame_out
  canon_tiles x h
  case piece8 =>
    obtain ⟨i', j, ho, rfl, rfl⟩ := tile_index (o := 0) h0 (h1.trans (Nat.zero_add _).symm)
    exact chunk_at (hidden i x0 x1 x2 x3) x4 0 _ i' j ho
  all_goals
    obtain ⟨i', j, ho, rfl, rfl⟩ := tile_index h0 h1
    exact chunk_at (hidden i x0 x1 x2 x3) x4 _ _ i' j ho

end Cert.Kernel2Ideal.Gen

end
-- ==== Proof.InProj.Host.lean ====
/-
  What the input projection's operand arrays hold at an index, as a function of the arguments.
-/
module

public import proofs.«01_k».proof.Proof.InProj.Block
public import Idealize.ShloMosaic.Lib.StableHlo.ReadAt

@[expose] public section

set_option maxRecDepth 16384

noncomputable section

namespace Cert.Kernel2Ideal.Gen

open Cert.Kernel2Ideal Idealize.ShloMosaic Idealize.ShloMosaic.TcCoe Idealize.SL.Sem Idealize.ShloMosaic.Pointwise Cert.InProj

variable (m : (ℓ : Loc nD τ sig) → Buf (Elt Ideal) ℓ)

/-- The arguments as launched. -/
abbrev argX (c : Dev nD) : FVec Ideal S4x8192x1024 .f32 := m ((c : Thread nD τ).loc main_arg0)
abbrev argCtx (c : Dev nD) : FVec Ideal S4x256x1024 .f32 := m ((c : Thread nD τ).loc main_arg1)
abbrev argMod (c : Dev nD) : FVec Ideal S4x6144 .f32 := m ((c : Thread nD τ).loc main_arg2)
abbrev argModC (c : Dev nD) : FVec Ideal S6144 .f32 := m ((c : Thread nD τ).loc main_arg3)
abbrev argG (c : Dev nD) : FVec Ideal S1024 .f32 := m ((c : Thread nD τ).loc main_arg4)
abbrev argW (c : Dev nD) : FVec Ideal S1024x6816 .f32 := m ((c : Thread nD τ).loc main_arg5)

theorem V_x (c : Dev nD) (r : Fin 32768) (k : Fin 1024) :
    (V m c main_v3 : FVec Ideal S32768x1024 .f32) (ix2 r k) = argX m c (ix3 ⟨r / 8192, by omega⟩ ⟨r % 8192, by omega⟩ k) := by
  unfold V
  after_reads_at

theorem V_ctx (c : Dev nD) (r : Fin 1024) (k : Fin 1024) :
    (V m c main_v4 : FVec Ideal S1024x1024 .f32) (ix2 r k) = argCtx m c (ix3 ⟨r / 256, by omega⟩ ⟨r % 256, by omega⟩ k) := by
  unfold V
  after_reads_at

theorem V_rows (c : Dev nD) (r : Fin 8) (k : Fin 6144) :
    (V m c main_v5 : FVec Ideal S8x1x6144 .f32) (ix3 r 0 k)
      = (if h : r.val < 4 then argMod m c (ix2 ⟨r, h⟩ k) else if r.val = 4 then argModC m c (ix1 k) else 0 : EReal) := by
  unfold V
  after_reads_at
  after_reads_simp
  by_cases h : r.val < 4
  · rw [dif_pos h, dif_pos h]
  · rw [dif_neg h, dif_neg h]
    by_cases h' : r.val = 4
    · rw [dif_pos (by omega), if_pos h']
      pointwise
    · rw [dif_neg (by omega), if_neg h']
      pointwise

theorem V_g (c : Dev nD) (k : Fin 1024) :
    (V m c main_v6 : FVec Ideal S1x1024 .f32) (ix2 0 k) = argG m c (ix1 k) := by
  unfold V
  after_reads_at

theorem sitofp_zero : FloatOps.sitofp (F := Ideal) .f32 0#32 = (0 : EReal) := congrArg (fun x : ℝ => (x : EReal)) Int.cast_zero

theorem V_w (c : Dev nD) (k : Fin 1024) (n : Fin 6912) :
    (V m c main_v15 : FVec Ideal S1024x6912 .bf16) (ix2 k n) = weight (argW m c) k n.val := by
  unfold V
  after_reads_at
  after_reads_simp
  by_cases h1 : n.val < 3072
  · rw [dif_pos h1, weight_of (by omega) (column_merge h1)]
    pointwise
  rw [dif_neg h1]
  by_cases h2 : n.val - 3072 < 1024
  · rw [dif_pos h2, weight_of (by omega) (column_uv h1 h2)]
    pointwise
  rw [dif_neg h2]
  by_cases h3 : n.val - 3072 - 1024 < 2048
  · rw [dif_pos h3, weight_of (by omega) (column_ret h2 h3)]
    pointwise
  rw [dif_neg h3]
  by_cases h4 : n.val - 3072 - 1024 - 2048 < 256
  · rw [dif_pos h4, weight_of (by omega) (column_ckv h3 h4)]
    pointwise
  rw [dif_neg h4]
  by_cases h5 : n.val - 3072 - 1024 - 2048 - 256 < 128
  · rw [dif_pos h5]
    show pad S1024x128 ![0, 64] ![0, 32] ![0, 0] (extractStridedSlice S1024x32 ![0, 2688] (argW m c) slices_S1024x6816_S1024x32_0_2688)
      (sitofp (F := Ideal) .f32 (constantI S_ 32 0#32)) pads_S1024x32_S1024x128_000_64320 h_S_ (ix2 k ⟨n.val - 3072 - 1024 - 2048 - 256, h5⟩) = _
    pointwise
    by_cases h6 : n.val - 3072 - 1024 - 2048 - 256 < 64
    · rw [dif_neg (by omega), weight_zero (column_left h4 h6)]
      exact sitofp_zero
    by_cases h7 : n.val - 3072 - 1024 - 2048 - 256 - 64 < 32
    · rw [dif_pos ⟨by omega, h7⟩, weight_of (by omega) (column_kr h6 h7)]
    · have h8 : n.val - 3072 - 1024 - 2048 - 256 - 64 - 32 < 32 := by omega
      rw [dif_neg (by omega), weight_zero (column_right h7 h8)]
      exact sitofp_zero
  · have h9 : ¬n.val - 3072 - 1024 - 2048 - 256 - 64 - 32 < 32 := by omega
    have e : 2048 + (n.val - 3072 - 1024 - 2048 - 256 - 64 - 32 - 32) = 2048 + (n.val - 3072 - 1024 - 2048 - 256 - 128) := by omega
    rw [dif_neg h5, weight_of (by omega) ((column_cq h9).trans e)]
    pointwise

end Cert.Kernel2Ideal.Gen

end
-- ==== Proof.InProj.Array.lean ====
/-
  The input projection's result array: tile by tile the projection of the arguments.
-/
module

public import proofs.«01_k».proof.Proof.InProj.Host

@[expose] public section

noncomputable section

namespace Cert.Kernel2Ideal.Gen

open Cert.Kernel2Ideal Idealize.ShloMosaic Idealize.ShloMosaic.TcCoe Idealize.SL.Sem Idealize.ShloMosaic.Pointwise Cert.InProj

variable (m : (ℓ : Loc nD τ sig) → Buf (Elt Ideal) ℓ)

/-! ## Where the blocks lie: point `t` is sample `t / 33`'s tile `t % 33`, the context's where that is 32 -/

theorem index_0 : ∀ t : Fin cfg0.N, win0_0.index t (0 : Fin 2) = t.val / 33 * 32 + min (t.val % 33) 31 ∧ win0_0.index t (1 : Fin 2) = 0 :=
  (by decide +kernel : ∀ t : Fin grid0.N, _)
theorem index_1 : ∀ t : Fin cfg0.N, win0_1.index t (0 : Fin 2) = t.val / 33 ∧ win0_1.index t (1 : Fin 2) = 0 :=
  (by decide +kernel : ∀ t : Fin grid0.N, _)
theorem index_2 : ∀ t : Fin cfg0.N, win0_2.index t (0 : Fin 3) = (if t.val % 33 = 32 then 4 else t.val / 33)
    ∧ win0_2.index t (1 : Fin 3) = 0 ∧ win0_2.index t (2 : Fin 3) = 0 := (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N, win0_4.index t (0 : Fin 2) = 0 ∧ win0_4.index t (1 : Fin 2) = 0 :=
  (by decide +kernel : ∀ t : Fin grid0.N, _)
theorem index_5 : ∀ t : Fin cfg0.N, win0_5.index t (0 : Fin 2) = t.val ∧ win0_5.index t (1 : Fin 2) = 0 :=
  (by decide +kernel : ∀ t : Fin grid0.N, _)
theorem coord_0 : ∀ t : Fin cfg0.N, (grid0.coords t 0).val = t.val := (by decide +kernel : ∀ t : Fin grid0.N, _)

theorem point_lt (t : Fin cfg0.N) : t.val < 132 := t.isLt.trans_eq N_0

/-- A point's sample, and its tile's row `r` in the sample. -/
def sample (t : Fin cfg0.N) : Fin 4 := ⟨t.val / 33, by have := point_lt t; omega⟩
def row (t : Fin cfg0.N) (r : Fin 256) : Fin 8448 := ⟨256 * (t.val % 33) + r, by omega⟩

theorem iblk_x (c : Dev nD) (t : Fin cfg0.N) (ht : t.val % 33 ≠ 32) (r : Fin 256) (k : Fin 1024) :
    (iblk m c 0 t : FVec Ideal S256x1024 .f32) (ix2 r k) = argX m c (ix3 (sample t) ⟨256 * (t.val % 33) + r, by omega⟩ k) := by
  obtain ⟨e0, e1⟩ := index_0 t
  have hN := point_lt t
  refine Eq.trans ?_ ((V_x m c ⟨(t.val / 33 * 32 + t.val % 33) * 256 + r, by omega⟩ k).trans (congrArg (argX m c) (funext fun a => Fin.ext ?_)))
  · show V m c main_v3 (((cfg0.win 0).blk t).view.emb (ix2 r k)) = _
    refine congrArg (V m c main_v3) (funext fun a => Fin.ext ?_)
    match a with
    | ⟨0, _⟩ => show win0_0.index t (0 : Fin 2) * 256 + 1 * r.val = (t.val / 33 * 32 + t.val % 33) * 256 + r.val; omega
    | ⟨1, _⟩ => show win0_0.index t (1 : Fin 2) * 1024 + 1 * k.val = k.val; omega
  · match a with
    | ⟨0, _⟩ => show ((t.val / 33 * 32 + t.val % 33) * 256 + r.val) / 8192 = t.val / 33; omega
    | ⟨1, _⟩ => show ((t.val / 33 * 32 + t.val % 33) * 256 + r.val) % 8192 = 256 * (t.val % 33) + r.val; omega
    | ⟨2, _⟩ => rfl

theorem iblk_ctx (c : Dev nD) (t : Fin cfg0.N) (r : Fin 256) (k : Fin 1024) :
    (iblk m c 1 t : FVec Ideal S256x1024 .f32) (ix2 r k) = argCtx m c (ix3 (sample t) r k) := by
  obtain ⟨e0, e1⟩ := index_1 t
  have hN := point_lt t
  refine Eq.trans ?_ ((V_ctx m c ⟨t.val / 33 * 256 + r, by omega⟩ k).trans (congrArg (argCtx m c) (funext fun a => Fin.ext ?_)))
  · show V m c main_v4 (((cfg0.win 1).blk t).view.emb (ix2 r k)) = _
    refine congrArg (V m c main_v4) (funext fun a => Fin.ext ?_)
    match a with
    | ⟨0, _⟩ => show win0_1.index t (0 : Fin 2) * 256 + 1 * r.val = t.val / 33 * 256 + r.val; omega
    | ⟨1, _⟩ => show win0_1.index t (1 : Fin 2) * 1024 + 1 * k.val = k.val; omega
  · match a with
    | ⟨0, _⟩ => show (t.val / 33 * 256 + r.val) / 256 = t.val / 33; omega
    | ⟨1, _⟩ => show (t.val / 33 * 256 + r.val) % 256 = r.val; omega
    | ⟨2, _⟩ => rfl

/-- The point's row of the modulation. -/
theorem iblk_rows (c : Dev nD) (t : Fin cfg0.N) (q : ℕ) (hq : q < 6144) (n : Fin 8) (hn : (if t.val % 33 = 32 then 4 else t.val / 33) = n.val) :
    (iblk m c 2 t : FVec Ideal S1x1x6144 .f32) (ix3 0 0 ⟨q, hq⟩) = (V m c main_v5 : FVec Ideal S8x1x6144 .f32) (ix3 n 0 ⟨q, hq⟩) := by
  obtain ⟨e0, e1, e2⟩ := index_2 t
  rw [hn] at e0
  show V m c main_v5 (((cfg0.win 2).blk t).view.emb (ix3 0 0 ⟨q, hq⟩)) = _
  refine congrArg (V m c main_v5) (funext fun a => Fin.ext ?_)
  match a with
  | ⟨0, _⟩ => show win0_2.index t (0 : Fin 3) * 1 + 1 * 0 = n.val; omega
  | ⟨1, _⟩ => show win0_2.index t (1 : Fin 3) * 1 + 1 * 0 = 0; omega
  | ⟨2, _⟩ => show win0_2.index t (2 : Fin 3) * 6144 + 1 * q = q; omega

theorem iblk_mod (c : Dev nD) (t : Fin cfg0.N) (ht : t.val % 33 ≠ 32) (q : ℕ) (hq : q < 6144) :
    (iblk m c 2 t : FVec Ideal S1x1x6144 .f32) (ix3 0 0 ⟨q, hq⟩) = argMod m c (ix2 (sample t) ⟨q, hq⟩) := by
  have hs : t.val / 33 < 4 := (sample t).isLt
  rw [iblk_rows m c t q hq ⟨t.val / 33, by omega⟩ (if_neg ht), V_rows, dif_pos hs]
  rfl

theorem iblk_modC (c : Dev nD) (t : Fin cfg0.N) (ht : t.val % 33 = 32) (q : ℕ) (hq : q < 6144) :
    (iblk m c 2 t : FVec Ideal S1x1x6144 .f32) (ix3 0 0 ⟨q, hq⟩) = argModC m c (ix1 ⟨q, hq⟩) := by
  rw [iblk_rows m c t q hq 4 (if_pos ht), V_rows, dif_neg (by decide), if_pos (by decide)]

theorem iblk_g (c : Dev nD) (t : Fin cfg0.N) (k : Fin 1024) :
    (iblk m c 3 t : FVec Ideal S1x1024 .f32) (ix2 0 k) = argG m c (ix1 k) := by
  obtain ⟨e0, e1⟩ := index_3 t
  rw [← V_g]
  show V m c main_v6 (((cfg0.win 3).blk t).view.emb (ix2 0 k)) = _
  refine congrArg (V m c main_v6) (funext fun a => Fin.ext ?_)
  match a with
  | ⟨0, _⟩ => show win0_3.index t (0 : Fin 2) * 1 + 1 * 0 = 0; omega
  | ⟨1, _⟩ => show win0_3.index t (1 : Fin 2) * 1024 + 1 * k.val = k.val; omega

theorem iblk_w (c : Dev nD) (t : Fin cfg0.N) (k : Fin 1024) (n : Fin 6912) :
    (iblk m c 4 t : FVec Ideal S1024x6912 .bf16) (ix2 k n) = weight (argW m c) k n.val := by
  obtain ⟨e0, e1⟩ := index_4 t
  rw [← V_w]
  show V m c main_v15 (((cfg0.win 4).blk t).view.emb (ix2 k n)) = _
  refine congrArg (V m c main_v15) (funext fun a => Fin.ext ?_)
  match a with
  | ⟨0, _⟩ => show win0_4.index t (0 : Fin 2) * 1024 + 1 * k.val = k.val; omega
  | ⟨1, _⟩ => show win0_4.index t (1 : Fin 2) * 6912 + 1 * n.val = n.val; omega

/-! ## What a point writes back -/

/-- The point's scratch is the modulated norm of its rows. -/
theorem hidden_at (c : Dev nD) (t : Fin cfg0.N) (r : Fin 256) (k : Fin 1024) :
    hidden (grid0.coords t) (iblk m c 0 t) (iblk m c 1 t) (iblk m c 2 t) (iblk m c 3 t) (ix2 r k)
      = normed (argX m c) (argCtx m c) (argMod m c) (argModC m c) (argG m c) (sample t) (row t r) k := by
  rw [hidden_apply]
  unfold normed
  by_cases ht : t.val % 33 = 32
  · have hr : ¬(row t r).val < 8192 := by show ¬(256 * (t.val % 33) + r.val < 8192); omega
    have e : ∀ p, (⟨(row t r).val - 8192, p⟩ : Fin 256) = r := fun p => Fin.ext (by show 256 * (t.val % 33) + r.val - 8192 = r.val; omega)
    rw [dif_neg hr]
    simp only [coord_0 t, if_pos ht, iblk_ctx, iblk_modC m c t ht, iblk_g, e]
  · have hr : (row t r).val < 8192 := by show 256 * (t.val % 33) + r.val < 8192; omega
    rw [dif_pos hr]
    simp only [coord_0 t, if_neg ht, iblk_x m c t ht, iblk_mod m c t ht, iblk_g]
    rfl

/-- The projection of the arguments. -/
abbrev answer (m : (ℓ : Loc nD τ sig) → Buf (Elt Ideal) ℓ) (c : Dev nD) : FVec Ideal S33792x6912 .bf16 :=
  result (argX m c) (argCtx m c) (argMod m c) (argModC m c) (argG m c) (argW m c)

theorem answer_emb (c : Dev nD) (t : Fin cfg0.N) (r : Fin 256) (n : Fin 6912) :
    ((cfg0.win 5).blk t).view.read (Elt Ideal) (answer m c) (ix2 r n)
      = project (argX m c) (argCtx m c) (argMod m c) (argModC m c) (argG m c) (argW m c) (sample t) (row t r) n.val := by
  obtain ⟨e0, e1⟩ := index_5 t
  have hN := point_lt t
  show answer m c (((cfg0.win 5).blk t).view.emb (ix2 r n)) = _
  have e : ((cfg0.win 5).blk t).view.emb (ix2 r n) = ix2 (⟨t.val * 256 + r, by omega⟩ : Fin 33792) n := funext fun a => Fin.ext (by
    match a with
    | ⟨0, _⟩ => show win0_5.index t (0 : Fin 2) * 256 + 1 * r.val = t.val * 256 + r.val; omega
    | ⟨1, _⟩ => show win0_5.index t (1 : Fin 2) * 6912 + 1 * n.val = n.val; omega)
  rw [e]
  have eb : ∀ p, (⟨(t.val * 256 + r.val) / 8448, p⟩ : Fin 4) = sample t := fun p => Fin.ext (by
    show (t.val * 256 + r.val) / 8448 = t.val / 33; omega)
  have er : ∀ p, (⟨(t.val * 256 + r.val) % 8448, p⟩ : Fin 8448) = row t r := fun p => Fin.ext (by
    show (t.val * 256 + r.val) % 8448 = 256 * (t.val % 33) + r.val; omega)
  rw [← eb (by have := (sample t).isLt; omega), ← er (Nat.mod_lt _ (by decide))]
  rfl

theorem flushed_eq (c : Dev nD) (t : Fin cfg0.N) :
    (dats m 0 c).flushed 5 t = ((cfg0.win 5).blk t).view.read (Elt Ideal) (answer m c) := by
  rw [Value.flushed5_A m c t]
  funext y
  obtain ⟨r, n, rfl⟩ : ∃ (r : Fin 256) (n : Fin 6912), y = ix2 r n := ⟨y 0, y 1, eq_ix2 y⟩
  rw [answer_emb]
  refine (block_apply _ _ _ _ _ _ _ _ _ _ _ _ _ _ _ _ _ _ _ _ _ _).trans (Finset.sum_congr rfl fun k _ => ?_)
  exact congrArg₂ (· * ·) (hidden_at m c t r k) (iblk_w m c t k n)

/-- Every element of the result lies in some point's block. -/
theorem covered (i : S33792x6912.Idx) : ∃ t : Fin cfg0.N, (cfg0.win 5).flush t = true ∧ i ∈ ((cfg0.win 5).blk t).view.set := by
  have h0 : (i 0).val < 33792 := (i 0).isLt
  have h1 : (i 1).val < 6912 := (i 1).isLt
  have hN : cfg0.N = 132 := N_0
  obtain ⟨t, ht⟩ : ∃ t : Fin cfg0.N, t.val = (i 0).val / 256 := ⟨⟨_, by omega⟩, rfl⟩
  refine ⟨t, flush0_5 t, ?_⟩
  obtain ⟨e0, e1⟩ := index_5 t
  show i ∈ ((View.whole main_v16).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 6912 ≤ (i 1).val ∧ (i 1).val < win0_5.index t (1 : Fin 2) * 6912 + 6912; omega

/-- The result array after the run is the projection of the arguments. -/
theorem final (c : Dev nD) : (dats m 0 c).arrAt 5 cfg0.N = answer m c :=
  (dats m 0 c).arrAt_eq_of_cover 5 (answer m c) (fun t _ => flushed_eq m c t) covered

end Cert.Kernel2Ideal.Gen

end
-- ==== Proof.InProj.Reference.lean ====
/-
  The reference projection's result at an index.
-/
module

public import proofs.«01_k».proof.Proof.Gen.Reference2Ideal.Read
public import proofs.«01_k».proof.Proof.InProj.Spec

@[expose] public section

noncomputable section

namespace Cert.Reference2Ideal.Read

open Cert.Reference2Ideal Cert.Reference2Ideal.Gen Idealize.ShloMosaic Idealize.ShloMosaic.TcCoe Idealize.SL.Sem
open Idealize.ShloMosaic.Pointwise Cert.InProj

variable (x0 : FVec Ideal S4x8192x1024 .f32) (x1 : FVec Ideal S4x256x1024 .f32) (x2 : FVec Ideal S4x6144 .f32) (x3 : FVec Ideal S6144 .f32)
  (x4 : FVec Ideal S1024 .f32) (x5 : FVec Ideal S1024x6816 .f32)

/-- The latent rows' modulated norm. -/
theorem v24_at (b : Fin 4) (j : Fin 8192) (k : Fin 1024) :
    val_main_v24 (F := Ideal) x0 x2 x4 (ix3 b j k) = normed x0 x1 x2 x3 x4 b ⟨j, by omega⟩ k := by
  pointwise [val_main_v24, val_main_v23, val_main_v22, val_main_v21, val_main_v20, val_main_v19, val_main_cst_2, val_main_v18, val_main_v17,
    val_main_v16, val_main_v15, val_main_v14, val_main_v13, val_main_v12, val_main_v11, val_main_cst_1, val_main_v10, val_main_v9, val_main_cst_0,
    val_main_v8, val_main_v7, val_main_cst, val_main_v6, val_main_v3, val_main_v2, val_main_v1, val_main_v0]
  rw [normed, dif_pos j.isLt]
  rfl

/-- The context rows'. -/
theorem v45_at (b : Fin 4) (j : Fin 256) (k : Fin 1024) :
    val_main_v45 (F := Ideal) x1 x3 x4 (ix3 b j k) = normed x0 x1 x2 x3 x4 b ⟨8192 + j, by omega⟩ k := by
  pointwise [val_main_v45, val_main_v44, val_main_v43, val_main_v42, val_main_v41, val_main_v40, val_main_v39, val_main_v38, val_main_cst_6,
    val_main_v37, val_main_v36, val_main_v35, val_main_v34, val_main_v33, val_main_v32, val_main_v31, val_main_v30, val_main_cst_5, val_main_v29,
    val_main_v28, val_main_cst_4, val_main_v27, val_main_v26, val_main_cst_3, val_main_v25, val_main_v5, val_main_v4]
  have e : ∀ p, (⟨8192 + j.val - 8192, p⟩ : Fin 256) = j := fun p => Fin.ext (Nat.add_sub_cancel_left ..)
  rw [normed, dif_neg (Nat.not_lt.mpr (Nat.le_add_right ..)), modulated]
  simp only [e]

/-- The projection before its columns are reordered: the product with column `q` of the weights. -/
theorem v48_at (b : Fin 4) (j : Fin 8448) (q : Fin 6816) :
    val_main_v48 (F := Ideal) x0 x1 x2 x3 x4 x5 (ix3 b j q) = ∑ k : Fin 1024, normed x0 x1 x2 x3 x4 b j k * x5 (ix2 k q) := by
  have h24 := v24_at x0 x1 x2 x3 x4
  have h45 := v45_at x0 x1 x2 x3 x4
  unfold val_main_v48 val_main_v46 val_main_v47
  generalize val_main_v24 (F := Ideal) x0 x2 x4 = y at h24
  generalize val_main_v45 (F := Ideal) x1 x3 x4 = z at h45
  pointwise
  by_cases h : j.val < 8192
  · rw [dif_pos h]
    exact Finset.sum_congr rfl fun k _ => congrArg (· * x5 (ix2 k q)) (h24 b ⟨j, h⟩ k)
  · rw [dif_neg h]
    refine Finset.sum_congr rfl fun k _ => congrArg (· * x5 (ix2 k q)) ((h45 b ⟨j - 8192, by omega⟩ k).trans ?_)
    exact congrArg (fun j => normed x0 x1 x2 x3 x4 b j k) (Fin.ext (Nat.add_sub_of_le (Nat.le_of_not_lt h)))

theorem sum_weight {b : Fin 4} {j : Fin 8448} {n c : ℕ} (h : c < 6816) (hc : column n = c) :
    ∑ k : Fin 1024, normed x0 x1 x2 x3 x4 b j k * x5 (ix2 k ⟨c, h⟩) = project x0 x1 x2 x3 x4 x5 b j n :=
  Finset.sum_congr rfl fun k _ => by rw [weight_of h hc]

theorem project_zero {b : Fin 4} {j : Fin 8448} {n : ℕ} (hn : column n = 6816) : project x0 x1 x2 x3 x4 x5 b j n = 0 :=
  Finset.sum_eq_zero fun k _ => by rw [weight_zero hn, mul_zero]

/-- The projection with its columns reordered. -/
theorem v58_at (b : Fin 4) (j : Fin 8448) (n : Fin 6912) :
    val_main_v58 (F := Ideal) x0 x1 x2 x3 x4 x5 (ix3 b j n) = project x0 x1 x2 x3 x4 x5 b j n.val := by
  have h48 := v48_at x0 x1 x2 x3 x4 x5
  unfold val_main_v58 val_main_v54 val_main_v53 val_main_v52 val_main_v51 val_main_v50 val_main_v49
  generalize val_main_v48 (F := Ideal) x0 x1 x2 x3 x4 x5 = y at h48
  pointwise [val_main_v57, val_main_v56, val_main_v55, val_main_cst_7]
  simp only [h48]
  by_cases h1 : n.val < 3072
  · rw [dif_pos h1]
    exact sum_weight x0 x1 x2 x3 x4 x5 _ (column_merge h1)
  rw [dif_neg h1]
  by_cases h2 : n.val - 3072 < 1024
  · rw [dif_pos h2]
    exact sum_weight x0 x1 x2 x3 x4 x5 _ (column_uv h1 h2)
  rw [dif_neg h2]
  by_cases h3 : n.val - 3072 - 1024 < 2048
  · rw [dif_pos h3]
    exact sum_weight x0 x1 x2 x3 x4 x5 _ (column_ret h2 h3)
  rw [dif_neg h3]
  by_cases h4 : n.val - 3072 - 1024 - 2048 < 256
  · rw [dif_pos h4]
    exact sum_weight x0 x1 x2 x3 x4 x5 _ (column_ckv h3 h4)
  rw [dif_neg h4]
  by_cases h5 : n.val - 3072 - 1024 - 2048 - 256 < 64
  · rw [dif_pos h5]
    exact (project_zero x0 x1 x2 x3 x4 x5 (column_left h4 h5)).symm
  rw [dif_neg h5]
  by_cases h6 : n.val - 3072 - 1024 - 2048 - 256 - 64 < 32
  · rw [dif_pos h6]
    exact sum_weight x0 x1 x2 x3 x4 x5 _ (column_kr h5 h6)
  rw [dif_neg h6]
  by_cases h7 : n.val - 3072 - 1024 - 2048 - 256 - 64 - 32 < 32
  · rw [dif_pos h7]
    exact (project_zero x0 x1 x2 x3 x4 x5 (column_right h6 h7)).symm
  rw [dif_neg h7]
  exact sum_weight x0 x1 x2 x3 x4 x5 _ (column_cq h7)

theorem res_eq : val_main_v60 (F := Ideal) x0 x1 x2 x3 x4 x5 = result x0 x1 x2 x3 x4 x5 := by
  funext y
  obtain ⟨r, n, rfl⟩ : ∃ (r : Fin 33792) (n : Fin 6912), y = ix2 r n := ⟨y 0, y 1, eq_ix2 y⟩
  have h58 := v58_at x0 x1 x2 x3 x4 x5
  unfold val_main_v60 val_main_v59
  generalize val_main_v58 (F := Ideal) x0 x1 x2 x3 x4 x5 = y at h58
  pointwise
  rw [h58]
  rfl

end Cert.Reference2Ideal.Read

end
-- ==== Proof.InProj.SameText.lean ====
/-
  The input projection and its ideal form are one text, so a run of the one is a run of the other.
-/
module

public import proofs.«01_k».proof.Defs
public import proofs.«01_k».proof.Proof.Gen.Kernel2
public import proofs.«01_k».proof.Proof.Gen.Kernel2Ideal
public import Idealize.ShloMosaic.Adequacy

@[expose] public section

namespace Cert.SameText2

open Idealize.ShloMosaic Idealize.SL.Sem

theorem body : @Cert.Kernel2.cc0_in_proj Bits _ _ = @Cert.Kernel2Ideal.cc0_in_proj Bits _ _ := rfl

theorem defs₀ : Cert.Kernel2.defs₀ (F := Bits) = Cert.Kernel2Ideal.defs₀ (F := Bits) := by
  unfold Cert.Kernel2.defs₀ Cert.Kernel2Ideal.defs₀
  refine congrArg (Defs.onTc (nD := Cert.Kernel2Ideal.nD) (τ := Cert.Kernel2Ideal.τ) (sig := Cert.Kernel2Ideal.sig) (Λ := Cert.Kernel2Ideal.Λ₀)) ?_
  funext l a
  match l, a with
  | ⟨0, _⟩, (t, s) =>
    dsimp only
    rw [body]
    rfl
  | ⟨_ + 1, h⟩, _ => exact absurd h (Nat.not_lt.2 (Nat.le_add_left _ _))

theorem defs : Cert.Kernel2.defs (F := Bits) = Cert.Kernel2Ideal.defs (F := Bits) :=
  congrArg (Pipeline.defs (Cert.Kernel2Ideal.pcfgs (F := Bits))) defs₀

theorem main : Cert.Kernel2.main (F := Bits) = Cert.Kernel2Ideal.main (F := Bits) := rfl

end Cert.SameText2
-- ==== Proof.Combine.Spec.lean ====
/-
  The call between the layers as a function of its arguments, at an index: the experts' results weighted and added to the
  shared expert's, the gated residual, and the next layer's projection of it.
-/
module

public import proofs.«01_k».proof.Proof.Gen.Kernel3Ideal
public import proofs.«01_k».proof.Proof.InProj.Spec

@[expose] public section

set_option maxRecDepth 16384

noncomputable section

namespace Cert.Combine

open Idealize.ShloMosaic Idealize.ShloMosaic.Pointwise Cert.Kernel3Ideal

variable (x : FVec Ideal S4x8192x1024 .f32) (ctx : FVec Ideal S4x256x1024 .f32) (y : FVec Ideal S33792x6x1024 .f32)
  (wt : FVec Ideal S33792x6 .f32) (sh : FVec Ideal S33792x1024 .f32) (mp : FVec Ideal S4x6144 .f32) (mpc : FVec Ideal S6144 .f32)

/-- The feed-forward's result for token `r`, the latent tokens before the context's. -/
def ffn (r : Fin 33792) (k : Fin 1024) : EReal := (∑ q : Fin 6, y (ix3 r q k) * wt (ix2 r q)) + sh (ix2 r k)

/-- The latent rows after the gated residual. -/
def latent : FVec Ideal S4x8192x1024 .f32 := fun i =>
  x i + mp (ix2 (i 0) ⟨5120 + (i 2).val, Nat.add_lt_add_left (i 2).isLt 5120⟩)
    * ffn y wt sh ⟨(i 0).val * 8192 + (i 1).val, by have h0 : (i 0).val < 4 := (i 0).isLt; have h1 : (i 1).val < 8192 := (i 1).isLt; omega⟩ (i 2)

/-- The context rows after the gated residual. -/
def context : FVec Ideal S4x256x1024 .f32 := fun i =>
  ctx i + mpc (ix1 ⟨5120 + (i 2).val, Nat.add_lt_add_left (i 2).isLt 5120⟩)
    * ffn y wt sh ⟨32768 + ((i 0).val * 256 + (i 1).val), by have h0 : (i 0).val < 4 := (i 0).isLt; have h1 : (i 1).val < 256 := (i 1).isLt; omega⟩ (i 2)

/-- Row `j` of sample `b` after the gated residual. -/
def combined (b : Fin 4) (j : Fin 8448) (k : Fin 1024) : EReal :=
  if h : j.val < 8192 then latent x y wt sh mp (ix3 b ⟨j, h⟩ k) else context ctx y wt sh mpc (ix3 b ⟨j - 8192, by omega⟩ k)

/-- The call's first result: the rows after the gated residual, sample by sample. -/
def rows : FVec Ideal S33792x1024 .f32 := fun i =>
  combined x ctx y wt sh mp mpc ⟨(i 0).val / 8448, Nat.div_lt_of_lt_mul (i 0).isLt⟩ ⟨(i 0).val % 8448, Nat.mod_lt _ (by decide)⟩ (i 1)

/-- The call's second result: their modulated norm, projected. -/
def projected (md : FVec Ideal S4x6144 .f32) (mdc : FVec Ideal S6144 .f32) (g : FVec Ideal S1024 .f32) (w : FVec Ideal S1024x6816 .f32) :
    FVec Ideal S33792x6912 .bf16 :=
  InProj.result (latent x y wt sh mp) (context ctx y wt sh mpc) md mdc g w

end Cert.Combine

end
-- ==== Proof.Combine.Block.lean ====
/-
  The block of the call between the layers: what one grid point stores, at an index.
-/
module

public import proofs.«01_k».proof.Proof.Gen.Kernel3Ideal.Value
public import proofs.«01_k».proof.Proof.Combine.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Gen

open Idealize.ShloMosaic Idealize.ShloMosaic.TcCoe Idealize.ShloMosaic.Tactic Cert.InProj

section
variable (x0 x1 x2 x3 x4 x5 : Vec Ideal S1x256x1024 .bf16) (x6 : Vec Ideal S256x8 .f32) (x7 : Vec Ideal S256x1024 .f32)
  (x8 : Vec Ideal S256x1024 .bf16) (x9 x10 : Vec Ideal S1x1x6144 .f32) (x11 : Vec Ideal S1x1024 .f32)

/-- The columns below 512 of the first four planes' weighted sum and the shared expert's result, and the fifth plane's. -/
abbrev low : FVec Ideal S256x512 .f32 :=
  k0_pay12 (k0_pay5 (View.ld x8 (Rect.unit ![0, 0] S256x512.size inb_S256x1024_S256x512_0_0)) x0
      (View.ld x6 (Rect.unit ![0, 0] S256x1.size inb_S256x8_S256x1_0_0)) x1 (View.ld x6 (Rect.unit ![0, 1] S256x1.size inb_S256x8_S256x1_0_1)))
    (k0_pay7 x2) (View.ld x6 (Rect.unit ![0, 2] S256x1.size inb_S256x8_S256x1_0_2)) x3
    (View.ld x6 (Rect.unit ![0, 3] S256x1.size inb_S256x8_S256x1_0_3)) x4 (View.ld x6 (Rect.unit ![0, 4] S256x1.size inb_S256x8_S256x1_0_4))

/-- The columns from 512 of the first four planes' weighted sum and the shared expert's result. -/
abbrev high : FVec Ideal S256x512 .f32 :=
  k0_pay10 (k0_pay6 (View.ld x8 (Rect.unit ![0, 512] S256x512.size inb_S256x1024_S256x512_0_512)) x0
      (View.ld x6 (Rect.unit ![0, 0] S256x1.size inb_S256x8_S256x1_0_0)) x1 (View.ld x6 (Rect.unit ![0, 1] S256x1.size inb_S256x8_S256x1_0_1)))
    (k0_pay7 x2) (View.ld x6 (Rect.unit ![0, 2] S256x1.size inb_S256x8_S256x1_0_2)) x3
    (View.ld x6 (Rect.unit ![0, 3] S256x1.size inb_S256x8_S256x1_0_3))

/-- The rows after the gated residual. -/
def residual : FVec Ideal S256x1024 .f32 :=
  k0_pay14 (high x0 x1 x2 x3 x6 x8) (low x0 x1 x2 x3 x4 x6 x8)
    (k0_pay13 x4 (View.ld x6 (Rect.unit ![0, 4] S256x1.size inb_S256x8_S256x1_0_4))) x5
    (View.ld x6 (Rect.unit ![0, 5] S256x1.size inb_S256x8_S256x1_0_5)) (View.ld x6 (Rect.unit ![0, 5] S256x1.size inb_S256x8_S256x1_0_5)) x7
    (View.ld x9 (Rect.unit ![0, 0, 5120] S1x1x1024.size inb_S1x1x6144_S1x1x1024_0_0_5120))

/-- A row after the gated residual: the six planes weighted and added to the shared expert's result, one after another. -/
theorem residual_apply (r : Fin 256) (k : Fin 1024) : residual x0 x1 x2 x3 x4 x5 x6 x7 x8 x9 (ix2 r k)
    = x7 (ix2 r k) + x9 (ix3 0 0 ⟨5120 + k, by omega⟩) * (x8 (ix2 r k) + x0 (ix3 0 r k) * x6 (ix2 r 0) + x1 (ix3 0 r k) * x6 (ix2 r 1)
        + x2 (ix3 0 r k) * x6 (ix2 r 2) + x3 (ix3 0 r k) * x6 (ix2 r 3) + x4 (ix3 0 r k) * x6 (ix2 r 4) + x5 (ix3 0 r k) * x6 (ix2 r 5)) := by
  pointwise [residual, low, high, k0_pay14, k0_pay13, k0_pay12, k0_pay11, k0_pay10, k0_pay9, k0_pay8, k0_pay7, k0_pay6, k0_pay5, k0_pay4, k0_pay3]
  by_cases h : k.val < 512
  · simp only [dif_pos h]
  · have e : ∀ p, (⟨512 + (k.val - 512), p⟩ : Fin 1024) = k := fun p => Fin.ext (by show 512 + (k.val - 512) = k.val; omega)
    simp only [dif_neg h, e]

/-- The modulated norm of any rows. -/
theorem norm_apply (X : FVec Ideal S256x1024 .f32) (r : Fin 256) (k : Fin 1024) :
    k0_pay20 X (k0_pay15 x11) (k0_pay16 (View.ld x10 (Rect.unit ![0, 0, 0] S1x1x1024.size inb_S1x1x6144_S1x1x1024_0_0_0)))
      (k0_pay17 (View.ld x10 (Rect.unit ![0, 0, 1024] S1x1x1024.size inb_S1x1x6144_S1x1x1024_0_0_1024)))
      (shapeCast S256x1 (multiReduction .add [1] S256 (mulf X X) 0x00000000#32 reduces_S256x1024_S256 (.inl rfl) rfl) shapeCasts_S256_S256x1)
      k0_pay19 (ix2 r k)
      = modulated (fun j => X (ix2 r j)) (fun j => x11 (ix2 0 j)) (fun j => x10 (ix3 0 0 ⟨1024 + j, by omega⟩))
          (fun j => x10 (ix3 0 0 ⟨j, by omega⟩)) k := by
  pointwise [k0_pay20, k0_pay19, k0_pay17, k0_pay16, k0_pay15]
  rfl

/-- The modulated, normed rows that a point keeps in its scratch. -/
def hidden : FVec Ideal S256x1024 .bf16 :=
  k0_pay20 (residual x0 x1 x2 x3 x4 x5 x6 x7 x8 x9) (k0_pay15 x11)
    (k0_pay16 (View.ld x10 (Rect.unit ![0, 0, 0] S1x1x1024.size inb_S1x1x6144_S1x1x1024_0_0_0)))
    (k0_pay17 (View.ld x10 (Rect.unit ![0, 0, 1024] S1x1x1024.size inb_S1x1x6144_S1x1x1024_0_0_1024)))
    (k0_pay18 (high x0 x1 x2 x3 x6 x8) (low x0 x1 x2 x3 x4 x6 x8)
      (k0_pay13 x4 (View.ld x6 (Rect.unit ![0, 4] S256x1.size inb_S256x8_S256x1_0_4))) x5
      (View.ld x6 (Rect.unit ![0, 5] S256x1.size inb_S256x8_S256x1_0_5)) (View.ld x6 (Rect.unit ![0, 5] S256x1.size inb_S256x8_S256x1_0_5)) x7
      (View.ld x9 (Rect.unit ![0, 0, 5120] S1x1x1024.size inb_S1x1x6144_S1x1x1024_0_0_5120)))
    k0_pay19

theorem hidden_apply (r : Fin 256) (k : Fin 1024) : hidden x0 x1 x2 x3 x4 x5 x6 x7 x8 x9 x10 x11 (ix2 r k)
    = modulated (fun j => residual x0 x1 x2 x3 x4 x5 x6 x7 x8 x9 (ix2 r j)) (fun j => x11 (ix2 0 j)) (fun j => x10 (ix3 0 0 ⟨1024 + j, by omega⟩))
        (fun j => x10 (ix3 0 0 ⟨j, by omega⟩)) k :=
  norm_apply x10 x11 (residual x0 x1 x2 x3 x4 x5 x6 x7 x8 x9) r k

end

/-- A row of the scratch times a chunk of the weights' columns. -/
theorem chunk_apply (h : FVec Ideal S256x1024 .bf16) (w : Vec Ideal S1024x768 .bf16) (i : Fin 256) (j : Fin 768) :
    k0_pay21 h w (ix2 i j) = ∑ k : Fin 1024, h (ix2 i k) * w (ix2 k j) := by
  pointwise [k0_pay21]

/-- An index of a store's tile names the array's index. -/
theorem tile_index {y : S256x6912.Idx} {x : S256x768.Idx} {o : ℕ} (h0 : (y 0).val = (x 0).val) (h1 : (y 1).val = o + (x 1).val) :
    ∃ (i : Fin 256) (j : Fin 768) (ho : o + j.val < 6912), x = ix2 i j ∧ y = ix2 i ⟨o + j, ho⟩ :=
  ⟨x 0, x 1, h1 ▸ (y 1).isLt, eq_ix2 x, (eq_ix2 y).trans (congrArg₂ ix2 (Fin.ext h0) (Fin.ext h1))⟩

/-- The chunk read at column `o` of the weights is their columns from `o`. -/
theorem chunk_at (h : FVec Ideal S256x1024 .bf16) (w : Vec Ideal S1024x6912 .bf16) (o : ℕ)
    (inb : ∀ a, (![0, o] : Fin 2 → ℕ) a + S1024x768.size a ≤ S1024x6912.size a) (i : Fin 256) (j : Fin 768) (ho : o + j.val < 6912) :
    k0_pay21 h (View.ld w (Rect.unit ![0, o] S1024x768.size inb)) (ix2 i j) = ∑ k : Fin 1024, h (ix2 i k) * w (ix2 k ⟨o + j, ho⟩) := by
  rw [chunk_apply]
  refine Finset.sum_congr rfl fun k _ => congrArg (h (ix2 i k) * w ·) (funext fun a => Fin.ext ?_)
  match a with
  | ⟨0, _⟩ => show 0 + 1 * k.val = k.val; omega
  | ⟨1, _⟩ => show o + 1 * j.val = o + j.val; omega

section
variable (c : Dev nD) (i : grid0.Coords) (arg1 : Memref sig .tc .vmem S1x256x1024 .bf16) (harg1 : arg1.IsWhole)
  (arg2 : Memref sig .tc .vmem S1x256x1024 .bf16) (harg2 : arg2.IsWhole) (arg3 : Memref sig .tc .vmem S1x256x1024 .bf16) (harg3 : arg3.IsWhole)
  (arg4 : Memref sig .tc .vmem S1x256x1024 .bf16) (harg4 : arg4.IsWhole) (arg5 : Memref sig .tc .vmem S1x256x1024 .bf16) (harg5 : arg5.IsWhole)
  (arg6 : Memref sig .tc .vmem S1x256x1024 .bf16) (harg6 : arg6.IsWhole) (arg7 : Memref sig .tc .vmem S256x8 .f32) (harg7 : arg7.IsWhole)
  (arg8 : Memref sig .tc .vmem S256x1024 .f32) (harg8 : arg8.IsWhole) (arg9 : Memref sig .tc .vmem S256x1024 .bf16) (harg9 : arg9.IsWhole)
  (arg10 : Memref sig .tc .vmem S1x1x6144 .f32) (harg10 : arg10.IsWhole) (arg11 : Memref sig .tc .vmem S1x1x6144 .f32) (harg11 : arg11.IsWhole)
  (arg12 : Memref sig .tc .vmem S1x1024 .f32) (harg12 : arg12.IsWhole) (arg13 : Memref sig .tc .vmem S1024x6912 .bf16) (harg13 : arg13.IsWhole)
  (arg14 : Memref sig .tc .vmem S256x1024 .f32) (harg14 : arg14.IsWhole) (arg15 : Memref sig .tc .vmem S256x6912 .bf16) (harg15 : arg15.IsWhole)
  (arg16 : Memref sig .tc .vmem S256x1024 .bf16) (harg16 : arg16.IsWhole)
  (x0 x1 x2 x3 x4 x5 : Vec Ideal S1x256x1024 .bf16) (x6 : Vec Ideal S256x8 .f32) (x7 : Vec Ideal S256x1024 .f32)
  (x8 : Vec Ideal S256x1024 .bf16) (x9 x10 : Vec Ideal S1x1x6144 .f32) (x11 : Vec Ideal S1x1024 .f32) (x12 : Vec Ideal S1024x6912 .bf16)

set_option maxHeartbeats 4000000 in
theorem rows_apply (y : S256x1024.Idx) :
    out0_A_13 c i arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 x0 x1 x2 x3 x4 x5 x6 x7 x8 x9 x10 x11 x12 y
      = residual x0 x1 x2 x3 x4 x5 x6 x7 x8 x9 y := by
  frame_open
  frame_out
  rfl

set_option maxHeartbeats 4000000 in
theorem block_apply (y : S256x6912.Idx) :
    out0_A_14 c i arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 x0 x1 x2 x3 x4 x5 x6 x7 x8 x9 x10 x11 x12 y
      = ∑ k : Fin 1024, hidden x0 x1 x2 x3 x4 x5 x6 x7 x8 x9 x10 x11 (ix2 (y 0) k) * x12 (ix2 k (y 1)) := by
  frame_open
  simp (disch := decide) only [↓View.readCov_skip, ↓View.readCov_cons_toLoadRect]
  frame_out
  canon_tiles x h
  case piece8 =>
    obtain ⟨i', j, ho, rfl, rfl⟩ := tile_index (o := 0) h0 (h1.trans (Nat.zero_add _).symm)
    exact chunk_at (hidden x0 x1 x2 x3 x4 x5 x6 x7 x8 x9 x10 x11) x12 0 _ i' j ho
  all_goals
    obtain ⟨i', j, ho, rfl, rfl⟩ := tile_index h0 h1
    exact chunk_at (hidden x0 x1 x2 x3 x4 x5 x6 x7 x8 x9 x10 x11) x12 _ _ i' j ho

end

end Cert.Kernel3Ideal.Gen

end
-- ==== Proof.Combine.Host.lean ====
/-
  What the operand arrays of the call between the layers hold at an index, as a function of the arguments.
-/
module

public import proofs.«01_k».proof.Proof.Gen.Kernel3Ideal.Value
public import proofs.«01_k».proof.Proof.Combine.Spec
public import Idealize.ShloMosaic.Lib.StableHlo.ReadAt
public import Idealize.ShloMosaic.Lib.Pointwise

@[expose] public section

set_option maxRecDepth 16384

noncomputable section

namespace Cert.Kernel3Ideal.Gen

open Cert.Kernel3Ideal Idealize.ShloMosaic Idealize.ShloMosaic.TcCoe Idealize.SL.Sem Idealize.ShloMosaic.Pointwise Cert.InProj

variable (m : (ℓ : Loc nD τ sig) → Buf (Elt Ideal) ℓ)

/-- The arguments as launched. -/
abbrev argX (c : Dev nD) : FVec Ideal S4x8192x1024 .f32 := m ((c : Thread nD τ).loc main_arg0)
abbrev argCtx (c : Dev nD) : FVec Ideal S4x256x1024 .f32 := m ((c : Thread nD τ).loc main_arg1)
abbrev argY (c : Dev nD) : FVec Ideal S33792x6x1024 .f32 := m ((c : Thread nD τ).loc main_arg2)
abbrev argWt (c : Dev nD) : FVec Ideal S33792x6 .f32 := m ((c : Thread nD τ).loc main_arg3)
abbrev argSh (c : Dev nD) : FVec Ideal S33792x1024 .f32 := m ((c : Thread nD τ).loc main_arg4)
abbrev argModP (c : Dev nD) : FVec Ideal S4x6144 .f32 := m ((c : Thread nD τ).loc main_arg5)
abbrev argModPC (c : Dev nD) : FVec Ideal S6144 .f32 := m ((c : Thread nD τ).loc main_arg6)
abbrev argMod (c : Dev nD) : FVec Ideal S4x6144 .f32 := m ((c : Thread nD τ).loc main_arg7)
abbrev argModC (c : Dev nD) : FVec Ideal S6144 .f32 := m ((c : Thread nD τ).loc main_arg8)
abbrev argG (c : Dev nD) : FVec Ideal S1024 .f32 := m ((c : Thread nD τ).loc main_arg9)
abbrev argW (c : Dev nD) : FVec Ideal S1024x6816 .f32 := m ((c : Thread nD τ).loc main_arg10)

/-- The token at row `r` of the call's arrays, where a sample's latent rows come before its context rows. -/
def token (r : Fin 33792) : Fin 33792 :=
  if r.val % 8448 < 8192 then ⟨r.val / 8448 * 8192 + r.val % 8448, by omega⟩
  else ⟨32768 + (r.val / 8448 * 256 + (r.val % 8448 - 8192)), by omega⟩

theorem token_latent {r : Fin 33792} (h : r.val % 8448 < 8192) : token r = ⟨r.val / 8448 * 8192 + r.val % 8448, by omega⟩ := if_pos h
theorem token_context {r : Fin 33792} (h : ¬r.val % 8448 < 8192) : token r = ⟨32768 + (r.val / 8448 * 256 + (r.val % 8448 - 8192)), by omega⟩ :=
  if_neg h

theorem V_x (c : Dev nD) (r : Fin 33792) (k : Fin 1024) :
    (V m c main_v1 : FVec Ideal S33792x1024 .f32) (ix2 r k)
      = (if h : r.val % 8448 < 8192 then argX m c (ix3 ⟨r / 8448, by omega⟩ ⟨r.val % 8448, h⟩ k)
        else argCtx m c (ix3 ⟨r / 8448, by omega⟩ ⟨r.val % 8448 - 8192, by omega⟩ k) : EReal) := by
  unfold V
  after_reads_at
  rfl

theorem V_wt (c : Dev nD) (r : Fin 33792) (q : Fin 6) :
    (V m c main_v8 : FVec Ideal S33792x8 .f32) (ix2 r ⟨q, by omega⟩) = argWt m c (ix2 (token r) q) := by
  unfold V
  after_reads_at
  after_reads_simp
  by_cases h : r.val % 8448 < 8192
  · refine (dif_pos h).trans (Eq.trans ?_ (congrArg (fun t => argWt m c (ix2 t q)) (token_latent h).symm))
    show shapeCast S4x8192x6 (extractStridedSlice S32768x6 ![0, 0] (argWt m c) slices_S33792x6_S32768x6_0_0) shapeCasts_S32768x6_S4x8192x6
      (ix3 _ _ _) = _
    pointwise
  · refine (dif_neg h).trans (Eq.trans ?_ (congrArg (fun t => argWt m c (ix2 t q)) (token_context h).symm))
    show shapeCast S4x256x6 (extractStridedSlice S1024x6 ![32768, 0] (argWt m c) slices_S33792x6_S1024x6_32768_0) shapeCasts_S1024x6_S4x256x6
      (ix3 _ _ _) = _
    pointwise

theorem V_y (c : Dev nD) (q : Fin 6) (r : Fin 33792) (k : Fin 1024) :
    (V m c main_v16 : FVec Ideal S6x33792x1024 .bf16) (ix3 q r k) = argY m c (ix3 (token r) q k) := by
  unfold V
  after_reads_at
  after_reads_simp
  by_cases h : r.val % 8448 < 8192
  · rw [dif_pos h, token_latent h]
    clean_types
    pointwise
  · rw [dif_neg h, token_context h]
    clean_types
    pointwise

theorem V_sh (c : Dev nD) (r : Fin 33792) (k : Fin 1024) :
    (V m c main_v23 : FVec Ideal S33792x1024 .bf16) (ix2 r k) = argSh m c (ix2 (token r) k) := by
  unfold V
  after_reads_at
  after_reads_simp
  by_cases h : r.val % 8448 < 8192
  · rw [dif_pos h, token_latent h]
    clean_types
    pointwise
  · rw [dif_neg h, token_context h]
    clean_types
    pointwise

theorem V_rowsP (c : Dev nD) (r : Fin 8) (k : Fin 6144) :
    (V m c main_v27 : FVec Ideal S8x1x6144 .f32) (ix3 r 0 k)
      = (if h : r.val < 4 then argModP m c (ix2 ⟨r, h⟩ k) else if r.val = 4 then argModPC m c (ix1 k) else 0 : EReal) := by
  unfold V
  after_reads_at
  after_reads_simp
  by_cases h : r.val < 4
  · rw [dif_pos h, dif_pos h]
  · rw [dif_neg h, dif_neg h]
    by_cases h' : r.val = 4
    · rw [dif_pos (by omega), if_pos h']
      pointwise
    · rw [dif_neg (by omega), if_neg h']
      pointwise

theorem V_rows (c : Dev nD) (r : Fin 8) (k : Fin 6144) :
    (V m c main_v31 : FVec Ideal S8x1x6144 .f32) (ix3 r 0 k)
      = (if h : r.val < 4 then argMod m c (ix2 ⟨r, h⟩ k) else if r.val = 4 then argModC m c (ix1 k) else 0 : EReal) := by
  unfold V
  after_reads_at
  after_reads_simp
  by_cases h : r.val < 4
  · rw [dif_pos h, dif_pos h]
  · rw [dif_neg h, dif_neg h]
    by_cases h' : r.val = 4
    · rw [dif_pos (by omega), if_pos h']
      pointwise
    · rw [dif_neg (by omega), if_neg h']
      pointwise

theorem V_g (c : Dev nD) (k : Fin 1024) :
    (V m c main_v32 : FVec Ideal S1x1024 .f32) (ix2 0 k) = argG m c (ix1 k) := by
  unfold V
  after_reads_at

theorem sitofp_zero : FloatOps.sitofp (F := Ideal) .f32 0#32 = (0 : EReal) := congrArg (fun x : ℝ => (x : EReal)) Int.cast_zero

theorem V_w (c : Dev nD) (k : Fin 1024) (n : Fin 6912) :
    (V m c main_v41 : FVec Ideal S1024x6912 .bf16) (ix2 k n) = weight (argW m c) k n.val := by
  unfold V
  after_reads_at
  after_reads_simp
  by_cases h1 : n.val < 3072
  · rw [dif_pos h1, weight_of (by omega) (column_merge h1)]
    pointwise
  rw [dif_neg h1]
  by_cases h2 : n.val - 3072 < 1024
  · rw [dif_pos h2, weight_of (by omega) (column_uv h1 h2)]
    pointwise
  rw [dif_neg h2]
  by_cases h3 : n.val - 3072 - 1024 < 2048
  · rw [dif_pos h3, weight_of (by omega) (column_ret h2 h3)]
    pointwise
  rw [dif_neg h3]
  by_cases h4 : n.val - 3072 - 1024 - 2048 < 256
  · rw [dif_pos h4, weight_of (by omega) (column_ckv h3 h4)]
    pointwise
  rw [dif_neg h4]
  by_cases h5 : n.val - 3072 - 1024 - 2048 - 256 < 128
  · rw [dif_pos h5]
    show pad S1024x128 ![0, 64] ![0, 32] ![0, 0] (extractStridedSlice S1024x32 ![0, 2688] (argW m c) slices_S1024x6816_S1024x32_0_2688)
      (sitofp (F := Ideal) .f32 (constantI S_ 32 0#32)) pads_S1024x32_S1024x128_000_64320 h_S_ (ix2 k ⟨n.val - 3072 - 1024 - 2048 - 256, h5⟩) = _
    pointwise
    by_cases h6 : n.val - 3072 - 1024 - 2048 - 256 < 64
    · rw [dif_neg (by omega), weight_zero (column_left h4 h6)]
      exact sitofp_zero
    by_cases h7 : n.val - 3072 - 1024 - 2048 - 256 - 64 < 32
    · rw [dif_pos ⟨by omega, h7⟩, weight_of (by omega) (column_kr h6 h7)]
    · have h8 : n.val - 3072 - 1024 - 2048 - 256 - 64 - 32 < 32 := by omega
      rw [dif_neg (by omega), weight_zero (column_right h7 h8)]
      exact sitofp_zero
  · have h9 : ¬n.val - 3072 - 1024 - 2048 - 256 - 64 - 32 < 32 := by omega
    have e : 2048 + (n.val - 3072 - 1024 - 2048 - 256 - 64 - 32 - 32) = 2048 + (n.val - 3072 - 1024 - 2048 - 256 - 128) := by omega
    rw [dif_neg h5, weight_of (by omega) ((column_cq h9).trans e)]
    pointwise

end Cert.Kernel3Ideal.Gen

end
-- ==== Proof.Combine.Array.lean ====
/-
  The two result arrays of the call between the layers: tile by tile the combined rows and their projection.
-/
module

public import proofs.«01_k».proof.Proof.Combine.Block
public import proofs.«01_k».proof.Proof.Combine.Host

@[expose] public section

set_option maxRecDepth 16384

noncomputable section

namespace Cert.Kernel3Ideal.Gen

open Cert.Kernel3Ideal Idealize.ShloMosaic Idealize.ShloMosaic.TcCoe Idealize.SL.Sem Idealize.ShloMosaic.Pointwise Cert.InProj Cert.Combine

variable (m : (ℓ : Loc nD τ sig) → Buf (Elt Ideal) ℓ)

/-! ## Where the blocks lie: point `t` is sample `t / 33`'s tile `t % 33`, the context's where that is 32 -/

theorem index_0 : ∀ t : Fin cfg0.N, win0_0.index t (0 : Fin 3) = 0 ∧ win0_0.index t (1 : Fin 3) = t.val ∧ win0_0.index t (2 : Fin 3) = 0 :=
  (by decide +kernel : ∀ t : Fin grid0.N, _)
theorem index_1 : ∀ t : Fin cfg0.N, win0_1.index t (0 : Fin 3) = 1 ∧ win0_1.index t (1 : Fin 3) = t.val ∧ win0_1.index t (2 : Fin 3) = 0 :=
  (by decide +kernel : ∀ t : Fin grid0.N, _)
theorem index_2 : ∀ t : Fin cfg0.N, win0_2.index t (0 : Fin 3) = 2 ∧ win0_2.index t (1 : Fin 3) = t.val ∧ win0_2.index t (2 : Fin 3) = 0 :=
  (by decide +kernel : ∀ t : Fin grid0.N, _)
theorem index_3 : ∀ t : Fin cfg0.N, win0_3.index t (0 : Fin 3) = 3 ∧ win0_3.index t (1 : Fin 3) = t.val ∧ win0_3.index t (2 : Fin 3) = 0 :=
  (by decide +kernel : ∀ t : Fin grid0.N, _)
theorem index_4 : ∀ t : Fin cfg0.N, win0_4.index t (0 : Fin 3) = 4 ∧ win0_4.index t (1 : Fin 3) = t.val ∧ win0_4.index t (2 : Fin 3) = 0 :=
  (by decide +kernel : ∀ t : Fin grid0.N, _)
theorem index_5 : ∀ t : Fin cfg0.N, win0_5.index t (0 : Fin 3) = 5 ∧ win0_5.index t (1 : Fin 3) = t.val ∧ win0_5.index t (2 : Fin 3) = 0 :=
  (by decide +kernel : ∀ t : Fin grid0.N, _)
theorem index_6 : ∀ t : Fin cfg0.N, win0_6.index t (0 : Fin 2) = t.val ∧ win0_6.index t (1 : Fin 2) = 0 :=
  (by decide +kernel : ∀ t : Fin grid0.N, _)
theorem index_7 : ∀ t : Fin cfg0.N, win0_7.index t (0 : Fin 2) = t.val ∧ win0_7.index t (1 : Fin 2) = 0 :=
  (by decide +kernel : ∀ t : Fin grid0.N, _)
theorem index_8 : ∀ t : Fin cfg0.N, win0_8.index t (0 : Fin 2) = t.val ∧ win0_8.index t (1 : Fin 2) = 0 :=
  (by decide +kernel : ∀ t : Fin grid0.N, _)
theorem index_9 : ∀ t : Fin cfg0.N, win0_9.index t (0 : Fin 3) = (if t.val % 33 = 32 then 4 else t.val / 33)
    ∧ win0_9.index t (1 : Fin 3) = 0 ∧ win0_9.index t (2 : Fin 3) = 0 := (by decide +kernel : ∀ t : Fin grid0.N, _)
theorem index_10 : ∀ t : Fin cfg0.N, win0_10.index t (0 : Fin 3) = (if t.val % 33 = 32 then 4 else t.val / 33)
    ∧ win0_10.index t (1 : Fin 3) = 0 ∧ win0_10.index t (2 : Fin 3) = 0 := (by decide +kernel : ∀ t : Fin grid0.N, _)
theorem index_11 : ∀ t : Fin cfg0.N, win0_11.index t (0 : Fin 2) = 0 ∧ win0_11.index t (1 : Fin 2) = 0 :=
  (by decide +kernel : ∀ t : Fin grid0.N, _)
theorem index_12 : ∀ t : Fin cfg0.N, win0_12.index t (0 : Fin 2) = 0 ∧ win0_12.index t (1 : Fin 2) = 0 :=
  (by decide +kernel : ∀ t : Fin grid0.N, _)
theorem index_13 : ∀ t : Fin cfg0.N, win0_13.index t (0 : Fin 2) = t.val ∧ win0_13.index t (1 : Fin 2) = 0 :=
  (by decide +kernel : ∀ t : Fin grid0.N, _)
theorem index_14 : ∀ t : Fin cfg0.N, win0_14.index t (0 : Fin 2) = t.val ∧ win0_14.index t (1 : Fin 2) = 0 :=
  (by decide +kernel : ∀ t : Fin grid0.N, _)

theorem point_lt (t : Fin cfg0.N) : t.val < 132 := t.isLt.trans_eq N_0

/-- A point's sample, its tile's row `r` in the sample, and that row in the call's arrays. -/
def sample (t : Fin cfg0.N) : Fin 4 := ⟨t.val / 33, by have := point_lt t; omega⟩
def row (t : Fin cfg0.N) (r : Fin 256) : Fin 8448 := ⟨256 * (t.val % 33) + r, by omega⟩
def place (t : Fin cfg0.N) (r : Fin 256) : Fin 33792 := ⟨t.val * 256 + r, by have := point_lt t; omega⟩

/-! ## The operands' blocks -/

/-- An element of the experts' planes. -/
theorem plane_at (c : Dev nD) (e : S6x33792x1024.Idx) (q : Fin 6) (R : Fin 33792) (k : Fin 1024) (h0 : (e 0).val = q.val) (h1 : (e 1).val = R.val)
    (h2 : (e 2).val = k.val) : (V m c main_v16 : FVec Ideal S6x33792x1024 .bf16) e = argY m c (ix3 (token R) q k) := by
  rw [← V_y m c q R k]
  refine congrArg (V m c main_v16) (funext fun a => Fin.ext ?_)
  match a with
  | ⟨0, _⟩ => exact h0
  | ⟨1, _⟩ => exact h1
  | ⟨2, _⟩ => exact h2

theorem iblk_0 (c : Dev nD) (t : Fin cfg0.N) (r : Fin 256) (k : Fin 1024) :
    (iblk m c 0 t : FVec Ideal S1x256x1024 .bf16) (ix3 0 r k) = argY m c (ix3 (token (place t r)) 0 k) := by
  obtain ⟨e0, e1, e2⟩ := index_0 t
  refine plane_at m c (((cfg0.win 0).blk t).view.emb (ix3 0 r k)) 0 (place t r) k ?_ ?_ ?_
  · show win0_0.index t (0 : Fin 3) * 1 + 1 * 0 = 0; omega
  · show win0_0.index t (1 : Fin 3) * 256 + 1 * r.val = t.val * 256 + r.val; omega
  · show win0_0.index t (2 : Fin 3) * 1024 + 1 * k.val = k.val; omega

theorem iblk_1 (c : Dev nD) (t : Fin cfg0.N) (r : Fin 256) (k : Fin 1024) :
    (iblk m c 1 t : FVec Ideal S1x256x1024 .bf16) (ix3 0 r k) = argY m c (ix3 (token (place t r)) 1 k) := by
  obtain ⟨e0, e1, e2⟩ := index_1 t
  refine plane_at m c (((cfg0.win 1).blk t).view.emb (ix3 0 r k)) 1 (place t r) k ?_ ?_ ?_
  · show win0_1.index t (0 : Fin 3) * 1 + 1 * 0 = 1; omega
  · show win0_1.index t (1 : Fin 3) * 256 + 1 * r.val = t.val * 256 + r.val; omega
  · show win0_1.index t (2 : Fin 3) * 1024 + 1 * k.val = k.val; omega

theorem iblk_2 (c : Dev nD) (t : Fin cfg0.N) (r : Fin 256) (k : Fin 1024) :
    (iblk m c 2 t : FVec Ideal S1x256x1024 .bf16) (ix3 0 r k) = argY m c (ix3 (token (place t r)) 2 k) := by
  obtain ⟨e0, e1, e2⟩ := index_2 t
  refine plane_at m c (((cfg0.win 2).blk t).view.emb (ix3 0 r k)) 2 (place t r) k ?_ ?_ ?_
  · show win0_2.index t (0 : Fin 3) * 1 + 1 * 0 = 2; omega
  · show win0_2.index t (1 : Fin 3) * 256 + 1 * r.val = t.val * 256 + r.val; omega
  · show win0_2.index t (2 : Fin 3) * 1024 + 1 * k.val = k.val; omega

theorem iblk_3 (c : Dev nD) (t : Fin cfg0.N) (r : Fin 256) (k : Fin 1024) :
    (iblk m c 3 t : FVec Ideal S1x256x1024 .bf16) (ix3 0 r k) = argY m c (ix3 (token (place t r)) 3 k) := by
  obtain ⟨e0, e1, e2⟩ := index_3 t
  refine plane_at m c (((cfg0.win 3).blk t).view.emb (ix3 0 r k)) 3 (place t r) k ?_ ?_ ?_
  · show win0_3.index t (0 : Fin 3) * 1 + 1 * 0 = 3; omega
  · show win0_3.index t (1 : Fin 3) * 256 + 1 * r.val = t.val * 256 + r.val; omega
  · show win0_3.index t (2 : Fin 3) * 1024 + 1 * k.val = k.val; omega

theorem iblk_4 (c : Dev nD) (t : Fin cfg0.N) (r : Fin 256) (k : Fin 1024) :
    (iblk m c 4 t : FVec Ideal S1x256x1024 .bf16) (ix3 0 r k) = argY m c (ix3 (token (place t r)) 4 k) := by
  obtain ⟨e0, e1, e2⟩ := index_4 t
  refine plane_at m c (((cfg0.win 4).blk t).view.emb (ix3 0 r k)) 4 (place t r) k ?_ ?_ ?_
  · show win0_4.index t (0 : Fin 3) * 1 + 1 * 0 = 4; omega
  · show win0_4.index t (1 : Fin 3) * 256 + 1 * r.val = t.val * 256 + r.val; omega
  · show win0_4.index t (2 : Fin 3) * 1024 + 1 * k.val = k.val; omega

theorem iblk_5 (c : Dev nD) (t : Fin cfg0.N) (r : Fin 256) (k : Fin 1024) :
    (iblk m c 5 t : FVec Ideal S1x256x1024 .bf16) (ix3 0 r k) = argY m c (ix3 (token (place t r)) 5 k) := by
  obtain ⟨e0, e1, e2⟩ := index_5 t
  refine plane_at m c (((cfg0.win 5).blk t).view.emb (ix3 0 r k)) 5 (place t r) k ?_ ?_ ?_
  · show win0_5.index t (0 : Fin 3) * 1 + 1 * 0 = 5; omega
  · show win0_5.index t (1 : Fin 3) * 256 + 1 * r.val = t.val * 256 + r.val; omega
  · show win0_5.index t (2 : Fin 3) * 1024 + 1 * k.val = k.val; omega

theorem iblk_wt (c : Dev nD) (t : Fin cfg0.N) (r : Fin 256) (q : Fin 6) :
    (iblk m c 6 t : FVec Ideal S256x8 .f32) (ix2 r ⟨q, by omega⟩) = argWt m c (ix2 (token (place t r)) q) := by
  obtain ⟨e0, e1⟩ := index_6 t
  rw [← V_wt]
  show V m c main_v8 (((cfg0.win 6).blk t).view.emb (ix2 r ⟨q, _⟩)) = _
  refine congrArg (V m c main_v8) (funext fun a => Fin.ext ?_)
  match a with
  | ⟨0, _⟩ => show win0_6.index t (0 : Fin 2) * 256 + 1 * r.val = t.val * 256 + r.val; omega
  | ⟨1, _⟩ => show win0_6.index t (1 : Fin 2) * 8 + 1 * q.val = q.val; omega

theorem iblk_sh (c : Dev nD) (t : Fin cfg0.N) (r : Fin 256) (k : Fin 1024) :
    (iblk m c 8 t : FVec Ideal S256x1024 .bf16) (ix2 r k) = argSh m c (ix2 (token (place t r)) k) := by
  obtain ⟨e0, e1⟩ := index_8 t
  rw [← V_sh]
  show V m c main_v23 (((cfg0.win 8).blk t).view.emb (ix2 r k)) = _
  refine congrArg (V m c main_v23) (funext fun a => Fin.ext ?_)
  match a with
  | ⟨0, _⟩ => show win0_8.index t (0 : Fin 2) * 256 + 1 * r.val = t.val * 256 + r.val; omega
  | ⟨1, _⟩ => show win0_8.index t (1 : Fin 2) * 1024 + 1 * k.val = k.val; omega

theorem iblk_rows7 (c : Dev nD) (t : Fin cfg0.N) (r : Fin 256) (k : Fin 1024) :
    (iblk m c 7 t : FVec Ideal S256x1024 .f32) (ix2 r k) = (V m c main_v1 : FVec Ideal S33792x1024 .f32) (ix2 (place t r) k) := by
  obtain ⟨e0, e1⟩ := index_7 t
  show V m c main_v1 (((cfg0.win 7).blk t).view.emb (ix2 r k)) = _
  refine congrArg (V m c main_v1) (funext fun a => Fin.ext ?_)
  match a with
  | ⟨0, _⟩ => show win0_7.index t (0 : Fin 2) * 256 + 1 * r.val = t.val * 256 + r.val; omega
  | ⟨1, _⟩ => show win0_7.index t (1 : Fin 2) * 1024 + 1 * k.val = k.val; omega

theorem iblk_x (c : Dev nD) (t : Fin cfg0.N) (ht : t.val % 33 ≠ 32) (r : Fin 256) (k : Fin 1024) :
    (iblk m c 7 t : FVec Ideal S256x1024 .f32) (ix2 r k) = argX m c (ix3 (sample t) ⟨256 * (t.val % 33) + r, by omega⟩ k) := by
  have hN := point_lt t
  have h : (place t r).val % 8448 < 8192 := by show (t.val * 256 + r.val) % 8448 < 8192; omega
  refine (iblk_rows7 m c t r k).trans ((V_x m c (place t r) k).trans ((dif_pos h).trans (congrArg (argX m c) (funext fun a => Fin.ext ?_))))
  match a with
  | ⟨0, _⟩ => show (t.val * 256 + r.val) / 8448 = t.val / 33; omega
  | ⟨1, _⟩ => show (t.val * 256 + r.val) % 8448 = 256 * (t.val % 33) + r.val; omega
  | ⟨2, _⟩ => rfl

theorem iblk_ctx (c : Dev nD) (t : Fin cfg0.N) (ht : t.val % 33 = 32) (r : Fin 256) (k : Fin 1024) :
    (iblk m c 7 t : FVec Ideal S256x1024 .f32) (ix2 r k) = argCtx m c (ix3 (sample t) r k) := by
  have hN := point_lt t
  have h : ¬(place t r).val % 8448 < 8192 := by show ¬(t.val * 256 + r.val) % 8448 < 8192; omega
  refine (iblk_rows7 m c t r k).trans ((V_x m c (place t r) k).trans ((dif_neg h).trans (congrArg (argCtx m c) (funext fun a => Fin.ext ?_))))
  match a with
  | ⟨0, _⟩ => show (t.val * 256 + r.val) / 8448 = t.val / 33; omega
  | ⟨1, _⟩ => show (t.val * 256 + r.val) % 8448 - 8192 = r.val; omega
  | ⟨2, _⟩ => rfl

/-- The point's row of the previous layer's modulation. -/
theorem iblk_rows9 (c : Dev nD) (t : Fin cfg0.N) (q : ℕ) (hq : q < 6144) (n : Fin 8) (hn : (if t.val % 33 = 32 then 4 else t.val / 33) = n.val) :
    (iblk m c 9 t : FVec Ideal S1x1x6144 .f32) (ix3 0 0 ⟨q, hq⟩) = (V m c main_v27 : FVec Ideal S8x1x6144 .f32) (ix3 n 0 ⟨q, hq⟩) := by
  obtain ⟨e0, e1, e2⟩ := index_9 t
  rw [hn] at e0
  show V m c main_v27 (((cfg0.win 9).blk t).view.emb (ix3 0 0 ⟨q, hq⟩)) = _
  refine congrArg (V m c main_v27) (funext fun a => Fin.ext ?_)
  match a with
  | ⟨0, _⟩ => show win0_9.index t (0 : Fin 3) * 1 + 1 * 0 = n.val; omega
  | ⟨1, _⟩ => show win0_9.index t (1 : Fin 3) * 1 + 1 * 0 = 0; omega
  | ⟨2, _⟩ => show win0_9.index t (2 : Fin 3) * 6144 + 1 * q = q; omega

theorem iblk_modP (c : Dev nD) (t : Fin cfg0.N) (ht : t.val % 33 ≠ 32) (q : ℕ) (hq : q < 6144) :
    (iblk m c 9 t : FVec Ideal S1x1x6144 .f32) (ix3 0 0 ⟨q, hq⟩) = argModP m c (ix2 (sample t) ⟨q, hq⟩) := by
  have hs : t.val / 33 < 4 := (sample t).isLt
  rw [iblk_rows9 m c t q hq ⟨t.val / 33, by omega⟩ (if_neg ht), V_rowsP, dif_pos hs]
  rfl

theorem iblk_modPC (c : Dev nD) (t : Fin cfg0.N) (ht : t.val % 33 = 32) (q : ℕ) (hq : q < 6144) :
    (iblk m c 9 t : FVec Ideal S1x1x6144 .f32) (ix3 0 0 ⟨q, hq⟩) = argModPC m c (ix1 ⟨q, hq⟩) := by
  rw [iblk_rows9 m c t q hq 4 (if_pos ht), V_rowsP, dif_neg (by decide), if_pos (by decide)]

/-- The point's row of this layer's modulation. -/
theorem iblk_rows10 (c : Dev nD) (t : Fin cfg0.N) (q : ℕ) (hq : q < 6144) (n : Fin 8) (hn : (if t.val % 33 = 32 then 4 else t.val / 33) = n.val) :
    (iblk m c 10 t : FVec Ideal S1x1x6144 .f32) (ix3 0 0 ⟨q, hq⟩) = (V m c main_v31 : FVec Ideal S8x1x6144 .f32) (ix3 n 0 ⟨q, hq⟩) := by
  obtain ⟨e0, e1, e2⟩ := index_10 t
  rw [hn] at e0
  show V m c main_v31 (((cfg0.win 10).blk t).view.emb (ix3 0 0 ⟨q, hq⟩)) = _
  refine congrArg (V m c main_v31) (funext fun a => Fin.ext ?_)
  match a with
  | ⟨0, _⟩ => show win0_10.index t (0 : Fin 3) * 1 + 1 * 0 = n.val; omega
  | ⟨1, _⟩ => show win0_10.index t (1 : Fin 3) * 1 + 1 * 0 = 0; omega
  | ⟨2, _⟩ => show win0_10.index t (2 : Fin 3) * 6144 + 1 * q = q; omega

theorem iblk_mod (c : Dev nD) (t : Fin cfg0.N) (ht : t.val % 33 ≠ 32) (q : ℕ) (hq : q < 6144) :
    (iblk m c 10 t : FVec Ideal S1x1x6144 .f32) (ix3 0 0 ⟨q, hq⟩) = argMod m c (ix2 (sample t) ⟨q, hq⟩) := by
  have hs : t.val / 33 < 4 := (sample t).isLt
  rw [iblk_rows10 m c t q hq ⟨t.val / 33, by omega⟩ (if_neg ht), V_rows, dif_pos hs]
  rfl

theorem iblk_modC (c : Dev nD) (t : Fin cfg0.N) (ht : t.val % 33 = 32) (q : ℕ) (hq : q < 6144) :
    (iblk m c 10 t : FVec Ideal S1x1x6144 .f32) (ix3 0 0 ⟨q, hq⟩) = argModC m c (ix1 ⟨q, hq⟩) := by
  rw [iblk_rows10 m c t q hq 4 (if_pos ht), V_rows, dif_neg (by decide), if_pos (by decide)]

theorem iblk_g (c : Dev nD) (t : Fin cfg0.N) (k : Fin 1024) :
    (iblk m c 11 t : FVec Ideal S1x1024 .f32) (ix2 0 k) = argG m c (ix1 k) := by
  obtain ⟨e0, e1⟩ := index_11 t
  rw [← V_g]
  show V m c main_v32 (((cfg0.win 11).blk t).view.emb (ix2 0 k)) = _
  refine congrArg (V m c main_v32) (funext fun a => Fin.ext ?_)
  match a with
  | ⟨0, _⟩ => show win0_11.index t (0 : Fin 2) * 1 + 1 * 0 = 0; omega
  | ⟨1, _⟩ => show win0_11.index t (1 : Fin 2) * 1024 + 1 * k.val = k.val; omega

theorem iblk_w (c : Dev nD) (t : Fin cfg0.N) (k : Fin 1024) (n : Fin 6912) :
    (iblk m c 12 t : FVec Ideal S1024x6912 .bf16) (ix2 k n) = weight (argW m c) k n.val := by
  obtain ⟨e0, e1⟩ := index_12 t
  rw [← V_w]
  show V m c main_v41 (((cfg0.win 12).blk t).view.emb (ix2 k n)) = _
  refine congrArg (V m c main_v41) (funext fun a => Fin.ext ?_)
  match a with
  | ⟨0, _⟩ => show win0_12.index t (0 : Fin 2) * 1024 + 1 * k.val = k.val; omega
  | ⟨1, _⟩ => show win0_12.index t (1 : Fin 2) * 6912 + 1 * n.val = n.val; omega

/-! ## What a point writes back -/

/-- The kernel adds the six weighted planes to the shared result one after another, the reference their sum. -/
theorem sum_order (s : EReal) (a : Fin 6 → EReal) : s + a 0 + a 1 + a 2 + a 3 + a 4 + a 5 = (∑ q, a q) + s := by
  rw [Fin.sum_univ_six]
  ac_rfl

/-- The point's rows after the gated residual, by the token at each. -/
abbrev residualAt (c : Dev nD) (t : Fin cfg0.N) : FVec Ideal S256x1024 .f32 :=
  residual (iblk m c 0 t) (iblk m c 1 t) (iblk m c 2 t) (iblk m c 3 t) (iblk m c 4 t) (iblk m c 5 t) (iblk m c 6 t) (iblk m c 7 t)
    (iblk m c 8 t) (iblk m c 9 t)

/-- The row the residual starts from, and the gate. -/
abbrev tileX (c : Dev nD) (t : Fin cfg0.N) (r : Fin 256) (k : Fin 1024) : EReal := (iblk m c 7 t : FVec Ideal S256x1024 .f32) (ix2 r k)
abbrev tileGate (c : Dev nD) (t : Fin cfg0.N) (k : Fin 1024) : EReal :=
  (iblk m c 9 t : FVec Ideal S1x1x6144 .f32) (ix3 0 0 ⟨5120 + k, by omega⟩)

theorem residual_ffn (c : Dev nD) (t : Fin cfg0.N) (r : Fin 256) (k : Fin 1024) :
    residualAt m c t (ix2 r k) = tileX m c t r k + tileGate m c t k * ffn (argY m c) (argWt m c) (argSh m c) (token (place t r)) k := by
  refine (residual_apply _ _ _ _ _ _ _ _ _ _ r k).trans (congrArg (fun z => tileX m c t r k + tileGate m c t k * z) ?_)
  refine Eq.trans ?_ (sum_order (argSh m c (ix2 (token (place t r)) k)) fun q => argY m c (ix3 (token (place t r)) q k) * argWt m c (ix2 (token (place t r)) q))
  exact congrArg₂ (· + ·) (congrArg₂ (· + ·) (congrArg₂ (· + ·) (congrArg₂ (· + ·) (congrArg₂ (· + ·) (congrArg₂ (· + ·) (iblk_sh m c t r k)
    (congrArg₂ (· * ·) (iblk_0 m c t r k) (iblk_wt m c t r 0))) (congrArg₂ (· * ·) (iblk_1 m c t r k) (iblk_wt m c t r 1)))
    (congrArg₂ (· * ·) (iblk_2 m c t r k) (iblk_wt m c t r 2))) (congrArg₂ (· * ·) (iblk_3 m c t r k) (iblk_wt m c t r 3)))
    (congrArg₂ (· * ·) (iblk_4 m c t r k) (iblk_wt m c t r 4))) (congrArg₂ (· * ·) (iblk_5 m c t r k) (iblk_wt m c t r 5))

/-- The combined rows of the arguments. -/
abbrev latentRows (c : Dev nD) : FVec Ideal S4x8192x1024 .f32 := latent (argX m c) (argY m c) (argWt m c) (argSh m c) (argModP m c)
abbrev contextRows (c : Dev nD) : FVec Ideal S4x256x1024 .f32 := context (argCtx m c) (argY m c) (argWt m c) (argSh m c) (argModPC m c)

theorem residual_latent (c : Dev nD) (t : Fin cfg0.N) (ht : t.val % 33 ≠ 32) (r : Fin 256) (k : Fin 1024) :
    residualAt m c t (ix2 r k) = latentRows m c (ix3 (sample t) ⟨256 * (t.val % 33) + r, by omega⟩ k) := by
  have hN := point_lt t
  have h : (place t r).val % 8448 < 8192 := by show (t.val * 256 + r.val) % 8448 < 8192; omega
  have e : token (place t r) = ⟨t.val / 33 * 8192 + (256 * (t.val % 33) + r.val), by omega⟩ := (token_latent h).trans (Fin.ext (by
    show (t.val * 256 + r.val) / 8448 * 8192 + (t.val * 256 + r.val) % 8448 = t.val / 33 * 8192 + (256 * (t.val % 33) + r.val); omega))
  refine (residual_ffn m c t r k).trans ?_
  rw [show tileX m c t r k = _ from iblk_x m c t ht r k, show tileGate m c t k = _ from iblk_modP m c t ht _ _, e]
  rfl

theorem residual_context (c : Dev nD) (t : Fin cfg0.N) (ht : t.val % 33 = 32) (r : Fin 256) (k : Fin 1024) :
    residualAt m c t (ix2 r k) = contextRows m c (ix3 (sample t) r k) := by
  have hN := point_lt t
  have h : ¬(place t r).val % 8448 < 8192 := by show ¬(t.val * 256 + r.val) % 8448 < 8192; omega
  have e : token (place t r) = ⟨32768 + (t.val / 33 * 256 + r.val), by omega⟩ := (token_context h).trans (Fin.ext (by
    show 32768 + ((t.val * 256 + r.val) / 8448 * 256 + ((t.val * 256 + r.val) % 8448 - 8192)) = 32768 + (t.val / 33 * 256 + r.val); omega))
  refine (residual_ffn m c t r k).trans ?_
  rw [show tileX m c t r k = _ from iblk_ctx m c t ht r k, show tileGate m c t k = _ from iblk_modPC m c t ht _ _, e]
  rfl

/-- The point's rows are the combined rows of its tile. -/
theorem residual_at (c : Dev nD) (t : Fin cfg0.N) (r : Fin 256) (k : Fin 1024) :
    residualAt m c t (ix2 r k)
      = combined (argX m c) (argCtx m c) (argY m c) (argWt m c) (argSh m c) (argModP m c) (argModPC m c) (sample t) (row t r) k := by
  unfold combined
  by_cases ht : t.val % 33 = 32
  · have hr : ¬(row t r).val < 8192 := by show ¬(256 * (t.val % 33) + r.val < 8192); omega
    have e : ∀ p, (⟨(row t r).val - 8192, p⟩ : Fin 256) = r := fun p => Fin.ext (by show 256 * (t.val % 33) + r.val - 8192 = r.val; omega)
    rw [dif_neg hr, e, residual_context m c t ht]
  · have hr : (row t r).val < 8192 := by show 256 * (t.val % 33) + r.val < 8192; omega
    rw [dif_pos hr, residual_latent m c t ht]
    rfl

/-- The point's scratch. -/
abbrev hiddenAt (c : Dev nD) (t : Fin cfg0.N) : FVec Ideal S256x1024 .bf16 :=
  hidden (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)

/-- It is the modulated norm of the combined rows. -/
theorem hidden_at (c : Dev nD) (t : Fin cfg0.N) (r : Fin 256) (k : Fin 1024) :
    hiddenAt m c t (ix2 r k)
      = normed (latentRows m c) (contextRows m c) (argMod m c) (argModC m c) (argG m c) (sample t) (row t r) k := by
  refine (hidden_apply _ _ _ _ _ _ _ _ _ _ _ _ r k).trans ?_
  unfold normed
  by_cases ht : t.val % 33 = 32
  · have hr : ¬(row t r).val < 8192 := by show ¬(256 * (t.val % 33) + r.val < 8192); omega
    have e : ∀ p, (⟨(row t r).val - 8192, p⟩ : Fin 256) = r := fun p => Fin.ext (by show 256 * (t.val % 33) + r.val - 8192 = r.val; omega)
    rw [dif_neg hr]
    simp only [residual_context m c t ht, iblk_modC m c t ht, iblk_g, e]
  · have hr : (row t r).val < 8192 := by show 256 * (t.val % 33) + r.val < 8192; omega
    rw [dif_pos hr]
    simp only [residual_latent m c t ht, iblk_mod m c t ht, iblk_g]
    rfl

/-- The two results, of the arguments. -/
abbrev answerRows (m : (ℓ : Loc nD τ sig) → Buf (Elt Ideal) ℓ) (c : Dev nD) : FVec Ideal S33792x1024 .f32 :=
  rows (argX m c) (argCtx m c) (argY m c) (argWt m c) (argSh m c) (argModP m c) (argModPC m c)
abbrev answer (m : (ℓ : Loc nD τ sig) → Buf (Elt Ideal) ℓ) (c : Dev nD) : FVec Ideal S33792x6912 .bf16 :=
  projected (argX m c) (argCtx m c) (argY m c) (argWt m c) (argSh m c) (argModP m c) (argModPC m c) (argMod m c) (argModC m c) (argG m c) (argW m c)

/-- The sample and the row of a place. -/
theorem sample_place (t : Fin cfg0.N) (r : Fin 256) (p : (place t r).val / 8448 < 4) : (⟨(place t r).val / 8448, p⟩ : Fin 4) = sample t :=
  Fin.ext (by show (t.val * 256 + r.val) / 8448 = t.val / 33; omega)
theorem row_place (t : Fin cfg0.N) (r : Fin 256) (p : (place t r).val % 8448 < 8448) : (⟨(place t r).val % 8448, p⟩ : Fin 8448) = row t r :=
  Fin.ext (by show (t.val * 256 + r.val) % 8448 = 256 * (t.val % 33) + r.val; omega)

theorem answerRows_emb (c : Dev nD) (t : Fin cfg0.N) (r : Fin 256) (k : Fin 1024) :
    ((cfg0.win 13).blk t).view.read (Elt Ideal) (answerRows m c) (ix2 r k)
      = combined (argX m c) (argCtx m c) (argY m c) (argWt m c) (argSh m c) (argModP m c) (argModPC m c) (sample t) (row t r) k := by
  obtain ⟨e0, e1⟩ := index_13 t
  show answerRows m c (((cfg0.win 13).blk t).view.emb (ix2 r k)) = _
  have e : ((cfg0.win 13).blk t).view.emb (ix2 r k) = ix2 (place t r) k := funext fun a => Fin.ext (by
    match a with
    | ⟨0, _⟩ => show win0_13.index t (0 : Fin 2) * 256 + 1 * r.val = t.val * 256 + r.val; omega
    | ⟨1, _⟩ => show win0_13.index t (1 : Fin 2) * 1024 + 1 * k.val = k.val; omega)
  rw [e, ← sample_place t r (by have := (place t r).isLt; omega), ← row_place t r (Nat.mod_lt _ (by decide))]
  rfl

theorem answer_emb (c : Dev nD) (t : Fin cfg0.N) (r : Fin 256) (n : Fin 6912) :
    ((cfg0.win 14).blk t).view.read (Elt Ideal) (answer m c) (ix2 r n)
      = project (latentRows m c) (contextRows m c) (argMod m c) (argModC m c) (argG m c) (argW m c) (sample t) (row t r) n.val := by
  obtain ⟨e0, e1⟩ := index_14 t
  show answer m c (((cfg0.win 14).blk t).view.emb (ix2 r n)) = _
  have e : ((cfg0.win 14).blk t).view.emb (ix2 r n) = ix2 (place t r) n := funext fun a => Fin.ext (by
    match a with
    | ⟨0, _⟩ => show win0_14.index t (0 : Fin 2) * 256 + 1 * r.val = t.val * 256 + r.val; omega
    | ⟨1, _⟩ => show win0_14.index t (1 : Fin 2) * 6912 + 1 * n.val = n.val; omega)
  rw [e, ← sample_place t r (by have := (place t r).isLt; omega), ← row_place t r (Nat.mod_lt _ (by decide))]
  rfl

theorem flushedRows_eq (c : Dev nD) (t : Fin cfg0.N) :
    (dats m 0 c).flushed 13 t = ((cfg0.win 13).blk t).view.read (Elt Ideal) (answerRows m c) := by
  rw [Value.flushed13_A m c t]
  funext y
  obtain ⟨r, k, rfl⟩ : ∃ (r : Fin 256) (k : Fin 1024), y = ix2 r k := ⟨y 0, y 1, eq_ix2 y⟩
  rw [answerRows_emb]
  refine (rows_apply _ _ _ _ _ _ _ _ _ _ _ _ _ _ _ _ _ _ _ _ _ _ _ _ _ _ _ _ _ _ _ _ _ _ _ _ _ _ _ _ _ _ _ _ _ _ _ _).trans ?_
  exact residual_at m c t r k

theorem flushed_eq (c : Dev nD) (t : Fin cfg0.N) :
    (dats m 0 c).flushed 14 t = ((cfg0.win 14).blk t).view.read (Elt Ideal) (answer m c) := by
  rw [Value.flushed14_A m c t]
  funext y
  obtain ⟨r, n, rfl⟩ : ∃ (r : Fin 256) (n : Fin 6912), y = ix2 r n := ⟨y 0, y 1, eq_ix2 y⟩
  rw [answer_emb]
  refine (block_apply _ _ _ _ _ _ _ _ _ _ _ _ _ _ _ _ _ _ _ _ _ _ _ _ _ _ _ _ _ _ _ _ _ _ _ _ _ _ _ _ _ _ _ _ _ _ _ _).trans
    (Finset.sum_congr rfl fun k _ => ?_)
  exact congrArg₂ (· * ·) (hidden_at m c t r k) (iblk_w m c t k n)

/-- Every element of the first result lies in some point's block. -/
theorem coveredRows (i : S33792x1024.Idx) : ∃ t : Fin cfg0.N, (cfg0.win 13).flush t = true ∧ i ∈ ((cfg0.win 13).blk t).view.set := by
  have h0 : (i 0).val < 33792 := (i 0).isLt
  have h1 : (i 1).val < 1024 := (i 1).isLt
  have hN : cfg0.N = 132 := N_0
  obtain ⟨t, ht⟩ : ∃ t : Fin cfg0.N, t.val = (i 0).val / 256 := ⟨⟨_, by omega⟩, rfl⟩
  refine ⟨t, flush0_13 t, ?_⟩
  obtain ⟨e0, e1⟩ := index_13 t
  show i ∈ ((View.whole main_v42_0).slice (win0_13.rect t)).set
  rw [View.set_slice_whole, Rect.mem_set_unit]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 1024 ≤ (i 1).val ∧ (i 1).val < win0_13.index t (1 : Fin 2) * 1024 + 1024; omega

/-- And of the second. -/
theorem covered (i : S33792x6912.Idx) : ∃ t : Fin cfg0.N, (cfg0.win 14).flush t = true ∧ i ∈ ((cfg0.win 14).blk t).view.set := by
  have h0 : (i 0).val < 33792 := (i 0).isLt
  have h1 : (i 1).val < 6912 := (i 1).isLt
  have hN : cfg0.N = 132 := N_0
  obtain ⟨t, ht⟩ : ∃ t : Fin cfg0.N, t.val = (i 0).val / 256 := ⟨⟨_, by omega⟩, rfl⟩
  refine ⟨t, flush0_14 t, ?_⟩
  obtain ⟨e0, e1⟩ := index_14 t
  show i ∈ ((View.whole main_v42_1).slice (win0_14.rect t)).set
  rw [View.set_slice_whole, Rect.mem_set_unit]
  intro a
  match a with
  | ⟨0, _⟩ => show win0_14.index t (0 : Fin 2) * 256 ≤ (i 0).val ∧ (i 0).val < win0_14.index t (0 : Fin 2) * 256 + 256; omega
  | ⟨1, _⟩ => show win0_14.index t (1 : Fin 2) * 6912 ≤ (i 1).val ∧ (i 1).val < win0_14.index t (1 : Fin 2) * 6912 + 6912; omega

/-- The first result array after the run is the combined rows. -/
theorem finalRows (c : Dev nD) : (dats m 0 c).arrAt 13 cfg0.N = answerRows m c :=
  (dats m 0 c).arrAt_eq_of_cover 13 (answerRows m c) (fun t _ => flushedRows_eq m c t) coveredRows

/-- The second is their projection. -/
theorem final (c : Dev nD) : (dats m 0 c).arrAt 14 cfg0.N = answer m c :=
  (dats m 0 c).arrAt_eq_of_cover 14 (answer m c) (fun t _ => flushed_eq m c t) covered

end Cert.Kernel3Ideal.Gen

end
-- ==== Proof.Combine.Reference.lean ====
/-
  The reference's two results at an index. Its second half is the first projection's reference applied to the combined rows.
-/
module

public import proofs.«01_k».proof.Proof.Gen.Reference3Ideal.Read
public import proofs.«01_k».proof.Proof.InProj.Reference
public import proofs.«01_k».proof.Proof.Combine.Spec

@[expose] public section

set_option maxRecDepth 16384

noncomputable section

namespace Cert.Reference3Ideal.Read

open Cert.Reference3Ideal Cert.Reference3Ideal.Gen Idealize.ShloMosaic Idealize.ShloMosaic.TcCoe Idealize.SL.Sem
open Idealize.ShloMosaic.Pointwise Cert.Combine

variable (x0 : FVec Ideal S4x8192x1024 .f32) (x1 : FVec Ideal S4x256x1024 .f32) (x2 : FVec Ideal S33792x6x1024 .f32)
  (x3 : FVec Ideal S33792x6 .f32) (x4 : FVec Ideal S33792x1024 .f32) (x5 : FVec Ideal S4x6144 .f32) (x6 : FVec Ideal S6144 .f32)
  (x7 : FVec Ideal S4x6144 .f32) (x8 : FVec Ideal S6144 .f32) (x9 : FVec Ideal S1024 .f32) (x10 : FVec Ideal S1024x6816 .f32)

theorem v7_at (r : Fin 33792) (k : Fin 1024) : val_main_v7 (F := Ideal) x2 x3 x4 (ix2 r k) = ffn x2 x3 x4 r k := by
  pointwise [val_main_v7, val_main_v6, val_main_v5, val_main_v4, val_main_v3, val_main_cst]
  rfl

theorem v12_eq : val_main_v12 (F := Ideal) x0 x2 x3 x4 x5 = latent x0 x2 x3 x4 x5 := by
  funext y
  obtain ⟨b, j, k, rfl⟩ : ∃ (b : Fin 4) (j : Fin 8192) (k : Fin 1024), y = ix3 b j k := ⟨y 0, y 1, y 2, eq_ix3 y⟩
  have h7 := v7_at x2 x3 x4
  unfold val_main_v12 val_main_v11 val_main_v9 val_main_v8
  generalize val_main_v7 (F := Ideal) x2 x3 x4 = z at h7
  pointwise [val_main_v10, val_main_v1, val_main_v0]
  rw [h7]
  rfl

theorem v18_eq : val_main_v18 (F := Ideal) x1 x2 x3 x4 x6 = context x1 x2 x3 x4 x6 := by
  funext y
  obtain ⟨b, j, k, rfl⟩ : ∃ (b : Fin 4) (j : Fin 256) (k : Fin 1024), y = ix3 b j k := ⟨y 0, y 1, y 2, eq_ix3 y⟩
  have h7 := v7_at x2 x3 x4
  unfold val_main_v18 val_main_v17 val_main_v14 val_main_v13
  generalize val_main_v7 (F := Ideal) x2 x3 x4 = z at h7
  pointwise [val_main_v16, val_main_v15, val_main_v2]
  rw [h7]
  rfl

/-- The rows' reference. -/
theorem rows_eq : val_main_v79 (F := Ideal) x0 x1 x2 x3 x4 x5 x6 = rows x0 x1 x2 x3 x4 x5 x6 := by
  funext y
  obtain ⟨r, k, rfl⟩ : ∃ (r : Fin 33792) (k : Fin 1024), y = ix2 r k := ⟨y 0, y 1, eq_ix2 y⟩
  unfold val_main_v79 val_main_v78
  rw [v12_eq, v18_eq]
  pointwise
  rfl

/-- The projection's reference. -/
theorem projected_eq : val_main_v81 (F := Ideal) x0 x1 x2 x3 x4 x5 x6 x7 x8 x9 x10 = projected x0 x1 x2 x3 x4 x5 x6 x7 x8 x9 x10 := by
  have e : val_main_v81 (F := Ideal) x0 x1 x2 x3 x4 x5 x6 x7 x8 x9 x10
      = Cert.Reference2Ideal.Read.val_main_v60 (F := Ideal) (val_main_v12 (F := Ideal) x0 x2 x3 x4 x5)
          (val_main_v18 (F := Ideal) x1 x2 x3 x4 x6) x7 x8 x9 x10 := rfl
  rw [e, v12_eq, v18_eq]
  exact Cert.Reference2Ideal.Read.res_eq _ _ _ _ _ _

end Cert.Reference3Ideal.Read

end
-- ==== Proof.Combine.SameText.lean ====
/-
  The call between the layers and its ideal form are one text, so a run of the one is a run of the other.
-/
module

public import proofs.«01_k».proof.Defs
public import proofs.«01_k».proof.Proof.Gen.Kernel3
public import proofs.«01_k».proof.Proof.Gen.Kernel3Ideal
public import Idealize.ShloMosaic.Adequacy
public import Idealize.ShloMosaic.Lib.Tactic

@[expose] public section

namespace Cert.SameText3

open Idealize.ShloMosaic Idealize.SL.Sem Idealize.ShloMosaic.Tactic

theorem defs₀ : Cert.Kernel3.defs₀ (F := Bits) = Cert.Kernel3Ideal.defs₀ (F := Bits) := by
  sl_kernel_rfl

theorem defs : Cert.Kernel3.defs (F := Bits) = Cert.Kernel3Ideal.defs (F := Bits) := by
  sl_kernel_rfl

theorem main : Cert.Kernel3.main (F := Bits) = Cert.Kernel3Ideal.main (F := Bits) := by
  sl_kernel_rfl

end Cert.SameText3
-- ==== Proof.Merge.Spec.lean ====
/-
  The gated merge of the three branches as a function of its arguments, at an index.
-/
module

public import proofs.«01_k».proof.Proof.Gen.Kernel4Ideal
public import proofs.«01_k».proof.Proof.InProj.Spec

@[expose] public section

set_option maxRecDepth 16384

noncomputable section

namespace Cert.Merge

open Idealize.ShloMosaic Idealize.ShloMosaic.Pointwise Cert.Kernel4Ideal

/-- The scale inside the gelu's tangent, the square root of 2/π. -/
def scale : EReal := ((Real.sqrt (2 * Real.pi⁻¹) : ℝ) : EReal)

/-- The gelu, by the hyperbolic tangent. -/
def gelu (x : EReal) : EReal :=
  x * (Ideal.ofBits .f32 0x3F000000#32 * (1 + Ideal.tanh (scale * (x + Ideal.ofBits .f32 0x3D372713#32 * (x * (x * x))))))

/-- A row's mean. -/
def mean (v : Fin 512 → EReal) : EReal := Ideal.div (∑ k, v k) (Ideal.ofBits .f32 0x44000000#32)

/-- A row brought to mean 0 and variance 1, scaled by `g` and shifted by `b`. -/
def standard (v g b : Fin 512 → EReal) (k : Fin 512) : EReal :=
  (v k - mean v) * Ideal.rsqrt (mean (fun j => (v j - mean v) * (v j - mean v)) + Ideal.ofBits .f32 0x358637BD#32) * g k + b k

/-- The rows of a chunk mixed by group `k / 128`'s matrix: row `i` of the mix at column `k`, for the chunk's rows `v`. -/
def mixed (v : Fin 128 → Fin 512 → EReal) (ws : Fin 4 → Fin 128 → Fin 128 → EReal) (bs : Fin 4 → Fin 128 → EReal)
    (i : Fin 128) (k : Fin 512) : EReal :=
  (∑ j, ws ⟨k / 128, by omega⟩ i j * v j k) + bs ⟨k / 128, by omega⟩ i

/-- The gated half of row `i` of a chunk whose rows before the gelu are `z`. -/
def gated (z : Fin 128 → Fin 1024 → EReal) (g b : Fin 512 → EReal) (ws : Fin 4 → Fin 128 → Fin 128 → EReal) (bs : Fin 4 → Fin 128 → EReal)
    (i : Fin 128) (k : Fin 512) : EReal :=
  gelu (z i ⟨k, by omega⟩) * mixed (fun j => standard (fun n => gelu (z j ⟨512 + n, by omega⟩)) g b) ws bs i k

/-- The three branches' projections, each times its gate. -/
def merged (gate : Fin 3072 → EReal) (ret mla gmlp : Fin 512 → EReal) (wr wm wg : Fin 512 → Fin 1024 → EReal) (k : Fin 1024) : EReal :=
  Ideal.logistic (gate ⟨k, by omega⟩) * (∑ q, ret q * wr q k) + Ideal.logistic (gate ⟨1024 + k, by omega⟩) * (∑ q, mla q * wm q k)
    + Ideal.logistic (gate ⟨2048 + k, by omega⟩) * (∑ q, gmlp q * wg q k)

section
variable (x : FVec Ideal S4x8192x1024 .f32) (ctx : FVec Ideal S4x256x1024 .f32) (md : FVec Ideal S4x6144 .f32) (mdc : FVec Ideal S6144 .f32)
  (gate : FVec Ideal S4x8448x3072 .f32) (uv : FVec Ideal S4x8448x1024 .f32) (ret mla : FVec Ideal S4x8448x512 .f32)
  (lng lnb : FVec Ideal S512 .f32) (ws : FVec Ideal S4x128x128 .f32) (bs : FVec Ideal S4x128 .f32)
  (wr wm wg : FVec Ideal S512x1024 .f32) (wo : FVec Ideal S1024x1024 .f32) (g : FVec Ideal S1024 .f32)

/-- The gMLP's branch at row `j` of sample `b`, which stands in the chunk of 128 rows `j / 128`. -/
def branch (b : Fin 4) (j : Fin 8448) (k : Fin 512) : EReal :=
  gated (fun i n => uv (ix3 b ⟨128 * (j.val / 128) + i, by omega⟩ n)) (fun n => lng (ix1 n)) (fun n => lnb (ix1 n))
    (fun q i l => ws (ix3 q i l)) (fun q i => bs (ix2 q i)) ⟨j.val % 128, Nat.mod_lt _ (by decide)⟩ k

/-- Row `j` of sample `b` after the output projection. -/
def out (b : Fin 4) (j : Fin 8448) (k : Fin 1024) : EReal :=
  ∑ q, merged (fun n => gate (ix3 b j n)) (fun n => ret (ix3 b j n)) (fun n => mla (ix3 b j n)) (branch uv lng lnb ws bs b j)
    (fun p n => wr (ix2 p n)) (fun p n => wm (ix2 p n)) (fun p n => wg (ix2 p n)) q * wo (ix2 q k)

/-- The latent rows after the gated residual. -/
def latent (b : Fin 4) (j : Fin 8192) (k : Fin 1024) : EReal :=
  x (ix3 b j k) + md (ix2 b ⟨2048 + k, by omega⟩) * out gate uv ret mla lng lnb ws bs wr wm wg wo b ⟨j, by omega⟩ k

/-- The context rows after the gated residual. -/
def context (b : Fin 4) (j : Fin 256) (k : Fin 1024) : EReal :=
  ctx (ix3 b j k) + mdc (ix1 ⟨2048 + k, by omega⟩) * out gate uv ret mla lng lnb ws bs wr wm wg wo b ⟨8192 + j, by omega⟩ k

/-- Row `j` of sample `b` after the gated residual. -/
def residual (b : Fin 4) (j : Fin 8448) (k : Fin 1024) : EReal :=
  if h : j.val < 8192 then latent x md gate uv ret mla lng lnb ws bs wr wm wg wo b ⟨j, h⟩ k
  else context ctx mdc gate uv ret mla lng lnb ws bs wr wm wg wo b ⟨j - 8192, by omega⟩ k

/-- Its modulated norm. -/
def normed (b : Fin 4) (j : Fin 8448) (k : Fin 1024) : EReal :=
  if h : j.val < 8192 then
    InProj.modulated (latent x md gate uv ret mla lng lnb ws bs wr wm wg wo b ⟨j, h⟩) (fun k => g (ix1 k))
      (fun k => md (ix2 b ⟨4096 + k, by omega⟩)) (fun k => md (ix2 b ⟨3072 + k, by omega⟩)) k
  else
    InProj.modulated (context ctx mdc gate uv ret mla lng lnb ws bs wr wm wg wo b ⟨j - 8192, by omega⟩) (fun k => g (ix1 k))
      (fun k => mdc (ix1 ⟨4096 + k, by omega⟩)) (fun k => mdc (ix1 ⟨3072 + k, by omega⟩)) k

/-- The call's first result: the rows after the gated residual, sample by sample. -/
def rows : FVec Ideal S33792x1024 .f32 := fun i =>
  residual x ctx md mdc gate uv ret mla lng lnb ws bs wr wm wg wo ⟨(i 0).val / 8448, Nat.div_lt_of_lt_mul (i 0).isLt⟩
    ⟨(i 0).val % 8448, Nat.mod_lt _ (by decide)⟩ (i 1)

/-- The call's second result: their modulated norm. -/
def hidden : FVec Ideal S33792x1024 .f32 := fun i =>
  normed x ctx md mdc gate uv ret mla lng lnb ws bs wr wm wg wo g ⟨(i 0).val / 8448, Nat.div_lt_of_lt_mul (i 0).isLt⟩
    ⟨(i 0).val % 8448, Nat.mod_lt _ (by decide)⟩ (i 1)

end

end Cert.Merge

end
-- ==== Proof.Merge.Payload.lean ====
/-
  The merge's stored values at an index, from the blocks they are computed from.
-/
module

public import proofs.«01_k».proof.Proof.Gen.Kernel4Ideal.Skeleton
public import proofs.«01_k».proof.Proof.Merge.Spec
public import Idealize.ShloMosaic.Lib.Pointwise

@[expose] public section

set_option maxRecDepth 16384

noncomputable section

namespace Cert.Kernel4Ideal.Gen

open Idealize.ShloMosaic Idealize.ShloMosaic.TcCoe Idealize.ShloMosaic.Pointwise Cert.Merge

/-- The kernel's named constant. -/
theorem gelu_scale : Named.named (F := Ideal) κ "gelu_scale" (φ := .f32) 0x3F4C422A#32 = scale :=
  IdealRules.named_const.ideal_named_scalar _ _ _ _ rfl

/-- The block through the gelu. -/
theorem gelu_apply (uv : FVec Ideal S256x1024 .bf16) (r : Fin 256) (n : Fin 1024) : k0_pay3 (F := Ideal) uv (ix2 r n) = gelu (uv (ix2 r n)) := by
  pointwise [k0_pay3]
  rw [gelu_scale]
  rfl

theorem half_apply (uv : FVec Ideal S256x1024 .bf16) (r : Fin 256) (k : Fin 512) :
    k0_pay5 (F := Ideal) uv (ix2 r k) = gelu (uv (ix2 r ⟨512 + k, by omega⟩)) := by
  have h := gelu_apply uv
  unfold k0_pay5
  generalize k0_pay3 (F := Ideal) uv = z at h
  pointwise
  exact h _ _

theorem mean_apply (uv : FVec Ideal S256x1024 .bf16) (r : Fin 256) :
    k0_pay6 (F := Ideal) uv (ix2 r 0) = mean fun k => gelu (uv (ix2 r ⟨512 + k, by omega⟩)) := by
  have h := half_apply uv
  unfold k0_pay6
  generalize k0_pay5 (F := Ideal) uv = z at h
  pointwise
  simp only [h]
  rfl

theorem variance_apply (uv : FVec Ideal S256x1024 .bf16) (r : Fin 256) :
    k0_pay7 (F := Ideal) uv (ix2 r 0) = mean fun k => (k0_pay5 (F := Ideal) uv (ix2 r k) - k0_pay6 (F := Ideal) uv (ix2 r 0)) * (k0_pay5 (F := Ideal) uv (ix2 r k) - k0_pay6 (F := Ideal) uv (ix2 r 0)) := by
  unfold k0_pay7
  generalize k0_pay5 (F := Ideal) uv = z
  generalize k0_pay6 (F := Ideal) uv = y
  pointwise
  rfl

/-- The normalised half. -/
abbrev standardized (uv : FVec Ideal S256x1024 .bf16) (g b : FVec Ideal S1x512 .f32) : FVec Ideal S256x512 .bf16 :=
  k0_pay8 (k0_pay5 (F := Ideal) uv) (k0_pay6 (F := Ideal) uv) (k0_pay7 (F := Ideal) uv) g b

theorem standardized_apply (uv : FVec Ideal S256x1024 .bf16) (g b : FVec Ideal S1x512 .f32) (r : Fin 256) (k : Fin 512) :
    standardized uv g b (ix2 r k)
      = standard (fun n => gelu (uv (ix2 r ⟨512 + n, by omega⟩))) (fun n => g (ix2 0 n)) (fun n => b (ix2 0 n)) k := by
  have h5 := half_apply uv
  have h6 := mean_apply uv
  have h7 := variance_apply uv
  unfold standardized
  generalize k0_pay5 (F := Ideal) uv = z at h5 h7
  generalize k0_pay6 (F := Ideal) uv = y at h6 h7
  generalize k0_pay7 (F := Ideal) uv = w at h7
  pointwise [k0_pay8]
  simp only [h7, h6, h5]
  rfl

/-! ## The chunks' mixing -/

/-- Plane `n` of a stack of four. -/
abbrev plane {e : EltTy} (w : Vec Ideal S4x128x128 e) (n : ℕ) (inb : ∀ a, (![n, 0, 0] : Fin 3 → ℕ) a + S1x128x128.size a ≤ S4x128x128.size a) :
    Vec Ideal S1x128x128 e := View.ld w (Rect.unit ![n, 0, 0] S1x128x128.size inb)

theorem plane_apply {e : EltTy} (w : Vec Ideal S4x128x128 e) (n : ℕ) (inb) (h : n < 4) (i j : Fin 128) :
    plane w n inb (ix3 0 i j) = w (ix3 ⟨n, h⟩ i j) := by
  refine congrArg w (funext fun a => Fin.ext ?_)
  match a with
  | ⟨0, _⟩ => show n + 1 * 0 = n; omega
  | ⟨1, _⟩ => show 0 + 1 * i.val = i.val; omega
  | ⟨2, _⟩ => show 0 + 1 * j.val = j.val; omega

section
variable (z : FVec Ideal S256x512 .bf16) (ws : Vec Ideal S4x128x128 .bf16) (bs : Vec Ideal S4x128x128 .f32)

/-- Row `r` of the tile's rows `z` mixed within its chunk. -/
def mixTile (r : Fin 256) (q : Fin 512) : EReal :=
  (∑ j : Fin 128, ws (ix3 ⟨q / 128, by omega⟩ ⟨r.val % 128, Nat.mod_lt _ (by decide)⟩ j) * z (ix2 ⟨128 * (r.val / 128) + j, by omega⟩ q))
    + bs (ix3 ⟨q / 128, by omega⟩ ⟨r.val % 128, Nat.mod_lt _ (by decide)⟩ ⟨q.val % 128, Nat.mod_lt _ (by decide)⟩)

/-- It is row `i` of chunk `c` where plane `n` mixes it, at lane `l` of the group. -/
theorem mix_at {r : Fin 256} {q : Fin 512} (c n : ℕ) (inb inb') (i l : Fin 128) (hc : c < 2) (hn : n < 4) (hr : r.val = 128 * c + i)
    (hq : q.val = 128 * n + l) (a : Fin 128 → Fin 256) (ha : ∀ j, (a j).val = 128 * c + j) (q' : Fin 512) (hq' : q'.val = q.val) :
    (∑ j, plane ws n inb (ix3 0 i j) * z (ix2 (a j) q')) + plane bs n inb' (ix3 0 i l) = mixTile z ws bs r q := by
  obtain rfl : q' = q := Fin.ext hq'
  obtain rfl : a = fun j => ⟨128 * c + j, by omega⟩ := funext fun j => Fin.ext (ha j)
  have en : ∀ p, (⟨q'.val / 128, p⟩ : Fin 4) = ⟨n, hn⟩ := fun p => Fin.ext (by show q'.val / 128 = n; omega)
  have ei : ∀ p, (⟨r.val % 128, p⟩ : Fin 128) = i := fun p => Fin.ext (by show r.val % 128 = i.val; omega)
  have el : ∀ p, (⟨q'.val % 128, p⟩ : Fin 128) = l := fun p => Fin.ext (by show q'.val % 128 = l.val; omega)
  have ea : ∀ (j : Fin 128) p, (⟨128 * (r.val / 128) + j, p⟩ : Fin 256) = ⟨128 * c + j, by omega⟩ := fun j p =>
    Fin.ext (by show 128 * (r.val / 128) + j.val = 128 * c + j.val; omega)
  unfold mixTile
  rw [en, ei, el, plane_apply _ _ _ hn]
  refine congrArg (· + _) (Finset.sum_congr rfl fun j _ => ?_)
  rw [plane_apply _ _ _ hn, ea]
end

section
variable (uv : FVec Ideal S256x1024 .bf16) (lng lnb : FVec Ideal S1x512 .f32) (ws : Vec Ideal S4x128x128 .bf16) (bs : Vec Ideal S4x128x128 .f32)

/-- The first chunk's rows mixed. -/
def upper : FVec Ideal S128x512 .f32 :=
  k0_pay12 (standardized uv lng lnb)
    (k0_pay9 (k0_pay5 uv) (k0_pay6 uv) (k0_pay7 uv) lng lnb (plane ws 0 inb_S4x128x128_S1x128x128_0_0_0) (plane bs 0 inb_S4x128x128_S1x128x128_0_0_0))
    (k0_pay10 (k0_pay5 uv) (k0_pay6 uv) (k0_pay7 uv) lng lnb (plane ws 1 inb_S4x128x128_S1x128x128_1_0_0) (plane bs 1 inb_S4x128x128_S1x128x128_1_0_0))
    (k0_pay11 (k0_pay5 uv) (k0_pay6 uv) (k0_pay7 uv) lng lnb (plane ws 2 inb_S4x128x128_S1x128x128_2_0_0))
    (plane bs 2 inb_S4x128x128_S1x128x128_2_0_0) (plane ws 3 inb_S4x128x128_S1x128x128_3_0_0) (plane bs 3 inb_S4x128x128_S1x128x128_3_0_0)

theorem upper_apply (i : Fin 128) (q : Fin 512) :
    upper uv lng lnb ws bs (ix2 i q) = mixTile (standardized uv lng lnb) ws bs ⟨i, by omega⟩ q := by
  unfold upper k0_pay9 k0_pay10 k0_pay11 standardized
  generalize k0_pay8 (F := Ideal) (k0_pay5 uv) (k0_pay6 uv) (k0_pay7 uv) lng lnb = z
  have h := fun (n : ℕ) (inb inb') (l : Fin 128) (hn : n < 4) (hq : q.val = 128 * n + l) (a : Fin 128 → Fin 256) (ha : ∀ j, (a j).val = 128 * 0 + j) =>
    mix_at z ws bs (r := ⟨i, by omega⟩) (q := q) 0 n inb inb' i l (by decide) hn (by show i.val = 128 * 0 + i.val; omega) hq a ha
  generalize e0 : plane ws 0 _ = w0
  generalize e1 : plane ws 1 _ = w1
  generalize e2 : plane ws 2 _ = w2
  generalize e3 : plane ws 3 _ = w3
  generalize d0 : plane bs 0 _ = b0
  generalize d1 : plane bs 1 _ = b1
  generalize d2 : plane bs 2 _ = b2
  generalize d3 : plane bs 3 _ = b3
  pointwise [k0_pay12]
  subst e0 e1 e2 e3 d0 d1 d2 d3
  by_cases g0 : q.val < 128
  · exact (dif_pos g0).trans (h 0 _ _ ⟨q.val, g0⟩ (by decide) (by show q.val = 128 * 0 + (q.val); omega)
      (fun j => ⟨j, by omega⟩) (fun j => by show j.val = 128 * 0 + j.val; omega) q rfl)
  refine (dif_neg g0).trans ?_
  by_cases g1 : q.val - 128 < 128
  · exact (dif_pos g1).trans (h 1 _ _ ⟨q.val - 128, g1⟩ (by decide) (by show q.val = 128 * 1 + (q.val - 128); omega)
      (fun j => ⟨j, by omega⟩) (fun j => by show j.val = 128 * 0 + j.val; omega) ⟨128 + (q.val - 128), by omega⟩ (by show 128 + (q.val - 128) = q.val; omega))
  refine (dif_neg g1).trans ?_
  by_cases g2 : q.val - 128 - 128 < 128
  · exact (dif_pos g2).trans (h 2 _ _ ⟨q.val - 128 - 128, g2⟩ (by decide) (by show q.val = 128 * 2 + (q.val - 128 - 128); omega)
      (fun j => ⟨j, by omega⟩) (fun j => by show j.val = 128 * 0 + j.val; omega) ⟨256 + (q.val - 128 - 128), by omega⟩ (by show 256 + (q.val - 128 - 128) = q.val; omega))
  refine (dif_neg g2).trans ?_
  exact h 3 _ _ ⟨q.val - 128 - 128 - 128, by omega⟩ (by decide) (by show q.val = 128 * 3 + (q.val - 128 - 128 - 128); omega)
      (fun j => ⟨j, by omega⟩) (fun j => by show j.val = 128 * 0 + j.val; omega) ⟨384 + (q.val - 128 - 128 - 128), by omega⟩ (by show 384 + (q.val - 128 - 128 - 128) = q.val; omega)

variable (gate : FVec Ideal S256x3072 .bf16) (ret mla : FVec Ideal S256x512 .bf16) (wr wm wg : FVec Ideal S512x1024 .bf16)
  (wo : FVec Ideal S1024x1024 .bf16)

/-- The tile's rows after the output projection. -/
def outTile : FVec Ideal S256x1024 .f32 :=
  k0_pay16 (k0_pay1 ret wr) (k0_pay2 mla wm) (k0_pay4 uv) (standardized uv lng lnb) (upper uv lng lnb ws bs)
    (k0_pay13 (standardized uv lng lnb) (plane ws 0 inb_S4x128x128_S1x128x128_0_0_0) (plane bs 0 inb_S4x128x128_S1x128x128_0_0_0))
    (k0_pay14 (standardized uv lng lnb) (plane ws 1 inb_S4x128x128_S1x128x128_1_0_0) (plane bs 1 inb_S4x128x128_S1x128x128_1_0_0))
    (k0_pay15 (standardized uv lng lnb) (plane ws 2 inb_S4x128x128_S1x128x128_2_0_0) (plane bs 2 inb_S4x128x128_S1x128x128_2_0_0))
    (plane ws 3 inb_S4x128x128_S1x128x128_3_0_0) (plane bs 3 inb_S4x128x128_S1x128x128_3_0_0) wg gate wo

theorem ret_apply (r : Fin 256) (k : Fin 1024) : k0_pay1 (F := Ideal) ret wr (ix2 r k) = ∑ q : Fin 512, ret (ix2 r q) * wr (ix2 q k) := by
  pointwise [k0_pay1]

theorem mla_apply (r : Fin 256) (k : Fin 1024) : k0_pay2 (F := Ideal) mla wm (ix2 r k) = ∑ q : Fin 512, mla (ix2 r q) * wm (ix2 q k) := by
  pointwise [k0_pay2]

theorem left_apply (r : Fin 256) (q : Fin 512) : k0_pay4 (F := Ideal) uv (ix2 r q) = gelu (uv (ix2 r ⟨q, by omega⟩)) := by
  have h := gelu_apply uv
  unfold k0_pay4
  generalize k0_pay3 (F := Ideal) uv = z at h
  pointwise
  exact h _ _

/-- A tile's row of the gMLP's branch, whose biases do not depend on the lane. -/
theorem gated_tile (bias : Fin 4 → Fin 128 → EReal) (hb : ∀ n i l, bs (ix3 n i l) = bias n i) (r : Fin 256) (q : Fin 512) :
    k0_pay4 (F := Ideal) uv (ix2 r q) * mixTile (standardized uv lng lnb) ws bs r q
      = gated (fun i n => uv (ix2 ⟨128 * (r.val / 128) + i, by omega⟩ n)) (fun n => lng (ix2 0 n)) (fun n => lnb (ix2 0 n))
          (fun n i j => ws (ix3 n i j)) bias ⟨r.val % 128, Nat.mod_lt _ (by decide)⟩ q := by
  unfold gated
  refine congrArg₂ (· * ·) ((left_apply uv r q).trans ?_) ?_
  · refine congrArg (fun i => gelu (uv (ix2 i ⟨q, by omega⟩))) (Fin.ext ?_)
    show r.val = 128 * (r.val / 128) + r.val % 128
    omega
  · unfold mixTile mixed
    rw [hb]
    exact congrArg (· + _) (Finset.sum_congr rfl fun j _ => congrArg (_ * ·) (standardized_apply uv lng lnb _ q))

theorem outTile_apply (bias : Fin 4 → Fin 128 → EReal) (hb : ∀ n i l, bs (ix3 n i l) = bias n i) (r : Fin 256) (k : Fin 1024) :
    outTile uv lng lnb ws bs gate ret mla wr wm wg wo (ix2 r k)
      = ∑ q, merged (fun n => gate (ix2 r n)) (fun n => ret (ix2 r n)) (fun n => mla (ix2 r n))
          (gated (fun i n => uv (ix2 ⟨128 * (r.val / 128) + i, by omega⟩ n)) (fun n => lng (ix2 0 n)) (fun n => lnb (ix2 0 n))
            (fun n i j => ws (ix3 n i j)) bias ⟨r.val % 128, Nat.mod_lt _ (by decide)⟩)
          (fun p n => wr (ix2 p n)) (fun p n => wm (ix2 p n)) (fun p n => wg (ix2 p n)) q * wo (ix2 q k) := by
  have hu := upper_apply uv lng lnb ws bs
  have hg := gated_tile uv lng lnb ws bs bias hb r
  have h1 := ret_apply ret wr r
  have h2 := mla_apply mla wm r
  unfold outTile k0_pay13 k0_pay14 k0_pay15
  generalize upper uv lng lnb ws bs = u at hu
  generalize standardized uv lng lnb = z at hu hg
  generalize k0_pay4 (F := Ideal) uv = x at hg
  generalize k0_pay1 (F := Ideal) ret wr = y1 at h1
  generalize k0_pay2 (F := Ideal) mla wm = y2 at h2
  have h := fun (q : Fin 512) (hr : ¬r.val < 128) (n : ℕ) (inb inb') (l : Fin 128) (hn : n < 4) (hq : q.val = 128 * n + l) (a : Fin 128 → Fin 256)
      (ha : ∀ j, (a j).val = 128 * 1 + j) =>
    mix_at z ws bs (r := r) (q := q) 1 n inb inb' ⟨r - 128, by omega⟩ l (by decide) hn (by show r.val = 128 * 1 + (r.val - 128); omega) hq a ha
  generalize e0 : plane ws 0 _ = w0
  generalize e1 : plane ws 1 _ = w1
  generalize e2 : plane ws 2 _ = w2
  generalize e3 : plane ws 3 _ = w3
  generalize d0 : plane bs 0 _ = b0
  generalize d1 : plane bs 1 _ = b1
  generalize d2 : plane bs 2 _ = b2
  generalize d3 : plane bs 3 _ = b3
  pointwise [k0_pay16]
  subst e0 e1 e2 e3 d0 d1 d2 d3
  refine Finset.sum_congr rfl fun j _ => congrArg (· * _) ?_
  unfold merged
  refine congrArg₂ (· + ·) (congrArg₂ (· + ·) (congrArg₂ (· * ·) rfl (h1 j)) (congrArg₂ (· * ·) rfl (h2 j))) (congrArg₂ (· * ·) rfl ?_)
  refine Finset.sum_congr rfl fun q _ => congrArg₂ (· * ·) ((congrArg₂ (· * ·) rfl ?_).trans (hg q)) rfl
  by_cases hr : r.val < 128
  · exact (dif_pos hr).trans (hu _ _)
  refine (dif_neg hr).trans ?_
  by_cases g0 : q.val < 128
  · exact (dif_pos g0).trans (h q hr 0 _ _ ⟨q.val, g0⟩ (by decide) (by show q.val = 128 * 0 + (q.val); omega)
      (fun j => ⟨128 + j, by omega⟩) (fun j => rfl) q rfl)
  refine (dif_neg g0).trans ?_
  by_cases g1 : q.val - 128 < 128
  · exact (dif_pos g1).trans (h q hr 1 _ _ ⟨q.val - 128, g1⟩ (by decide) (by show q.val = 128 * 1 + (q.val - 128); omega)
      (fun j => ⟨128 + j, by omega⟩) (fun j => rfl) ⟨128 + (q.val - 128), by omega⟩ (by show 128 + (q.val - 128) = q.val; omega))
  refine (dif_neg g1).trans ?_
  by_cases g2 : q.val - 128 - 128 < 128
  · exact (dif_pos g2).trans (h q hr 2 _ _ ⟨q.val - 128 - 128, g2⟩ (by decide) (by show q.val = 128 * 2 + (q.val - 128 - 128); omega)
      (fun j => ⟨128 + j, by omega⟩) (fun j => rfl) ⟨256 + (q.val - 128 - 128), by omega⟩ (by show 256 + (q.val - 128 - 128) = q.val; omega))
  refine (dif_neg g2).trans ?_
  exact h q hr 3 _ _ ⟨q.val - 128 - 128 - 128, by omega⟩ (by decide) (by show q.val = 128 * 3 + (q.val - 128 - 128 - 128); omega)
      (fun j => ⟨128 + j, by omega⟩) (fun j => rfl) ⟨384 + (q.val - 128 - 128 - 128), by omega⟩ (by show 384 + (q.val - 128 - 128 - 128) = q.val; omega)
end

end Cert.Kernel4Ideal.Gen

end
-- ==== Proof.Merge.Block.lean ====
/-
  The gated merge's block: what one grid point stores, at an index.
-/
module

public import proofs.«01_k».proof.Proof.Gen.Kernel4Ideal.Value
public import proofs.«01_k».proof.Proof.Merge.Payload
public import proofs.«01_k».proof.Proof.InProj.Block

@[expose] public section

set_option maxRecDepth 16384

noncomputable section

namespace Cert.Kernel4Ideal.Gen

open Idealize.ShloMosaic Idealize.ShloMosaic.TcCoe Idealize.ShloMosaic.Tactic Idealize.ShloMosaic.Pointwise Cert.Merge

/-- The point's number modulo 33, and the sum that a negative remainder would take. -/
abbrev divisor : BitVec 32 := Scalar.select (Scalar.cmpi CmpIPredicate.eq 33#32 0#32) 1#32 33#32
abbrev remainder (i : grid0.Coords) : BitVec 32 := Scalar.remsi (BitVec.ofNat 32 (i 0).val) divisor
abbrev negative (i : grid0.Coords) : BitVec 1 :=
  Scalar.andi (Scalar.xori (Scalar.cmpi CmpIPredicate.slt (remainder i) 0#32) (Scalar.cmpi CmpIPredicate.slt divisor 0#32))
    (Scalar.cmpi CmpIPredicate.ne (remainder i) 0#32)
abbrev wrapped (i : grid0.Coords) : BitVec 32 := Scalar.addi (remainder i) divisor

section
variable (i : grid0.Coords) (x0 x1 : Vec Ideal S256x1024 .f32) (x2 : Vec Ideal S1x1x6144 .f32) (o : FVec Ideal S256x1024 .f32)
  (x15 : Vec Ideal S1x1024 .f32)

/-- The rows after the gated residual, for the rows `o` after the output projection. -/
def residualTile : FVec Ideal S256x1024 .f32 :=
  k0_pay17 o (remainder i) (negative i) (wrapped i) x1 x0 (View.ld x2 (Rect.unit ![0, 0, 2048] S1x1x1024.size inb_S1x1x6144_S1x1x1024_0_0_2048))

theorem residualTile_apply (r : Fin 256) (k : Fin 1024) : residualTile i x0 x1 x2 o (ix2 r k)
    = (if (i 0).val % 33 = 32 then x1 (ix2 r k) else x0 (ix2 r k)) + x2 (ix3 0 0 ⟨2048 + k, by omega⟩) * o (ix2 r k) := by
  pointwise [residualTile, k0_pay17]
  rw [Cert.Kernel2Ideal.Gen.context_word (i 0)]
  by_cases h : (i 0).val % 33 = 32
  · simp only [h, if_true]
    rfl
  · simp only [h, if_false]
    rfl

/-- The modulated norm of those rows. -/
def hiddenTile : FVec Ideal S256x1024 .f32 :=
  k0_pay18 o (remainder i) (negative i) (wrapped i) x1 x0 (View.ld x2 (Rect.unit ![0, 0, 2048] S1x1x1024.size inb_S1x1x6144_S1x1x1024_0_0_2048))
    x15 (View.ld x2 (Rect.unit ![0, 0, 3072] S1x1x1024.size inb_S1x1x6144_S1x1x1024_0_0_3072))
    (View.ld x2 (Rect.unit ![0, 0, 4096] S1x1x1024.size inb_S1x1x6144_S1x1x1024_0_0_4096))

theorem hiddenTile_apply (r : Fin 256) (k : Fin 1024) : hiddenTile i x0 x1 x2 o x15 (ix2 r k)
    = InProj.modulated (fun j => residualTile i x0 x1 x2 o (ix2 r j)) (fun j => x15 (ix2 0 j))
        (fun j => x2 (ix3 0 0 ⟨4096 + j, by omega⟩)) (fun j => x2 (ix3 0 0 ⟨3072 + j, by omega⟩)) k := by
  unfold hiddenTile k0_pay18 residualTile
  generalize k0_pay17 o (remainder i) (negative i) (wrapped i) x1 x0
    (View.ld x2 (Rect.unit ![0, 0, 2048] S1x1x1024.size inb_S1x1x6144_S1x1x1024_0_0_2048)) = z
  pointwise
  rfl

end

section
variable (c : Dev nD) (i : grid0.Coords) (arg1 : Memref sig .tc .vmem S256x1024 .f32) (harg1 : arg1.IsWhole)
  (arg2 : Memref sig .tc .vmem S256x1024 .f32) (harg2 : arg2.IsWhole) (arg3 : Memref sig .tc .vmem S1x1x6144 .f32) (harg3 : arg3.IsWhole)
  (arg4 : Memref sig .tc .vmem S256x3072 .bf16) (harg4 : arg4.IsWhole) (arg5 : Memref sig .tc .vmem S256x1024 .bf16) (harg5 : arg5.IsWhole)
  (arg6 : Memref sig .tc .vmem S256x512 .bf16) (harg6 : arg6.IsWhole) (arg7 : Memref sig .tc .vmem S256x512 .bf16) (harg7 : arg7.IsWhole)
  (arg8 : Memref sig .tc .vmem S1x512 .f32) (harg8 : arg8.IsWhole) (arg9 : Memref sig .tc .vmem S1x512 .f32) (harg9 : arg9.IsWhole)
  (arg10 : Memref sig .tc .vmem S4x128x128 .bf16) (harg10 : arg10.IsWhole) (arg11 : Memref sig .tc .vmem S4x128x128 .f32) (harg11 : arg11.IsWhole)
  (arg12 : Memref sig .tc .vmem S512x1024 .bf16) (harg12 : arg12.IsWhole) (arg13 : Memref sig .tc .vmem S512x1024 .bf16) (harg13 : arg13.IsWhole)
  (arg14 : Memref sig .tc .vmem S512x1024 .bf16) (harg14 : arg14.IsWhole) (arg15 : Memref sig .tc .vmem S1024x1024 .bf16) (harg15 : arg15.IsWhole)
  (arg16 : Memref sig .tc .vmem S1x1024 .f32) (harg16 : arg16.IsWhole) (arg17 : Memref sig .tc .vmem S256x1024 .f32) (harg17 : arg17.IsWhole)
  (arg18 : Memref sig .tc .vmem S256x1024 .f32) (harg18 : arg18.IsWhole)
  (x0 x1 : Vec Ideal S256x1024 .f32) (x2 : Vec Ideal S1x1x6144 .f32) (x3 : Vec Ideal S256x3072 .bf16) (x4 : Vec Ideal S256x1024 .bf16)
  (x5 x6 : Vec Ideal S256x512 .bf16) (x7 x8 : Vec Ideal S1x512 .f32) (x9 : Vec Ideal S4x128x128 .bf16) (x10 : Vec Ideal S4x128x128 .f32)
  (x11 x12 x13 : Vec Ideal S512x1024 .bf16) (x14 : Vec Ideal S1024x1024 .bf16) (x15 : Vec Ideal S1x1024 .f32)

set_option maxHeartbeats 4000000 in
theorem rows_apply (y : S256x1024.Idx) :
    out0_A_16 c i arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 x0 x1 x2 x3 x4 x5 x6 x7 x8 x9 x10 x11 x12 x13 x14 x15 y
      = residualTile i x0 x1 x2 (outTile x4 x7 x8 x9 x10 x3 x5 x6 x11 x12 x13 x14) y := by
  frame_open
  frame_out
  rfl

set_option maxHeartbeats 4000000 in
theorem normed_apply (y : S256x1024.Idx) :
    out0_A_17 c i arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 x0 x1 x2 x3 x4 x5 x6 x7 x8 x9 x10 x11 x12 x13 x14 x15 y
      = hiddenTile i x0 x1 x2 (outTile x4 x7 x8 x9 x10 x3 x5 x6 x11 x12 x13 x14) x15 y := by
  frame_open
  frame_out
  rfl

end

end Cert.Kernel4Ideal.Gen

end
-- ==== Proof.Merge.Host.lean ====
/-
  What the gated merge's operand arrays hold at an index, as a function of the arguments.
-/
module

public import proofs.«01_k».proof.Proof.Merge.Block
public import Idealize.ShloMosaic.Lib.StableHlo.ReadAt

@[expose] public section

set_option maxRecDepth 16384

noncomputable section

namespace Cert.Kernel4Ideal.Gen

open Cert.Kernel4Ideal Idealize.ShloMosaic Idealize.ShloMosaic.TcCoe Idealize.SL.Sem Idealize.ShloMosaic.Pointwise Cert.Merge

variable (m : (ℓ : Loc nD τ sig) → Buf (Elt Ideal) ℓ)

/-- The arguments as launched. -/
abbrev argX (c : Dev nD) : FVec Ideal S4x8192x1024 .f32 := m ((c : Thread nD τ).loc main_arg0)
abbrev argCtx (c : Dev nD) : FVec Ideal S4x256x1024 .f32 := m ((c : Thread nD τ).loc main_arg1)
abbrev argMod (c : Dev nD) : FVec Ideal S4x6144 .f32 := m ((c : Thread nD τ).loc main_arg2)
abbrev argModC (c : Dev nD) : FVec Ideal S6144 .f32 := m ((c : Thread nD τ).loc main_arg3)
abbrev argGate (c : Dev nD) : FVec Ideal S4x8448x3072 .f32 := m ((c : Thread nD τ).loc main_arg4)
abbrev argUv (c : Dev nD) : FVec Ideal S4x8448x1024 .f32 := m ((c : Thread nD τ).loc main_arg5)
abbrev argRet (c : Dev nD) : FVec Ideal S4x8448x512 .f32 := m ((c : Thread nD τ).loc main_arg6)
abbrev argMla (c : Dev nD) : FVec Ideal S4x8448x512 .f32 := m ((c : Thread nD τ).loc main_arg7)
abbrev argLnG (c : Dev nD) : FVec Ideal S512 .f32 := m ((c : Thread nD τ).loc main_arg8)
abbrev argLnB (c : Dev nD) : FVec Ideal S512 .f32 := m ((c : Thread nD τ).loc main_arg9)
abbrev argWs (c : Dev nD) : FVec Ideal S4x128x128 .f32 := m ((c : Thread nD τ).loc main_arg10)
abbrev argBs (c : Dev nD) : FVec Ideal S4x128 .f32 := m ((c : Thread nD τ).loc main_arg11)
abbrev argWr (c : Dev nD) : FVec Ideal S512x1024 .f32 := m ((c : Thread nD τ).loc main_arg12)
abbrev argWm (c : Dev nD) : FVec Ideal S512x1024 .f32 := m ((c : Thread nD τ).loc main_arg13)
abbrev argWg (c : Dev nD) : FVec Ideal S512x1024 .f32 := m ((c : Thread nD τ).loc main_arg14)
abbrev argWo (c : Dev nD) : FVec Ideal S1024x1024 .f32 := m ((c : Thread nD τ).loc main_arg15)
abbrev argG (c : Dev nD) : FVec Ideal S1024 .f32 := m ((c : Thread nD τ).loc main_arg16)

theorem V_x (c : Dev nD) (r : Fin 32768) (k : Fin 1024) :
    (V m c main_v9 : FVec Ideal S32768x1024 .f32) (ix2 r k) = argX m c (ix3 ⟨r / 8192, by omega⟩ ⟨r % 8192, by omega⟩ k) := by
  unfold V
  after_reads_at

theorem V_ctx (c : Dev nD) (r : Fin 1024) (k : Fin 1024) :
    (V m c main_v10 : FVec Ideal S1024x1024 .f32) (ix2 r k) = argCtx m c (ix3 ⟨r / 256, by omega⟩ ⟨r % 256, by omega⟩ k) := by
  unfold V
  after_reads_at

theorem V_rows (c : Dev nD) (r : Fin 8) (k : Fin 6144) :
    (V m c main_v11 : FVec Ideal S8x1x6144 .f32) (ix3 r 0 k)
      = (if h : r.val < 4 then argMod m c (ix2 ⟨r, h⟩ k) else if r.val = 4 then argModC m c (ix1 k) else 0 : EReal) := by
  unfold V
  after_reads_at
  after_reads_simp
  by_cases h : r.val < 4
  · rw [dif_pos h, dif_pos h]
  · rw [dif_neg h, dif_neg h]
    by_cases h' : r.val = 4
    · rw [dif_pos (by omega), if_pos h']
      pointwise
    · rw [dif_neg (by omega), if_neg h']
      pointwise

/-- The gates' columns and the gMLP's, side by side. -/
def column (m : (ℓ : Loc nD τ sig) → Buf (Elt Ideal) ℓ) (c : Dev nD) (r : Fin 33792) (n : ℕ) (hn : n < 4096) : EReal :=
  if h : n < 3072 then argGate m c (ix3 ⟨r / 8448, by omega⟩ ⟨r % 8448, by omega⟩ ⟨n, h⟩)
  else argUv m c (ix3 ⟨r / 8448, by omega⟩ ⟨r % 8448, by omega⟩ ⟨n - 3072, by omega⟩)

theorem V_p (c : Dev nD) (r : Fin 33792) (n : Fin 6912) (hn : n.val < 4096) :
    (V m c main_v6 : FVec Ideal S33792x6912 .bf16) (ix2 r n) = column m c r n.val hn := by
  unfold V column
  after_reads_at
  after_reads_simp
  pointwise
  rw [dif_pos hn]

theorem V_ret (c : Dev nD) (r : Fin 33792) (k : Fin 512) :
    (V m c main_v13 : FVec Ideal S33792x512 .bf16) (ix2 r k) = argRet m c (ix3 ⟨r / 8448, by omega⟩ ⟨r % 8448, by omega⟩ k) := by
  unfold V
  after_reads_at

theorem V_mla (c : Dev nD) (r : Fin 33792) (k : Fin 512) :
    (V m c main_v15 : FVec Ideal S33792x512 .bf16) (ix2 r k) = argMla m c (ix3 ⟨r / 8448, by omega⟩ ⟨r % 8448, by omega⟩ k) := by
  unfold V
  after_reads_at

theorem V_lng (c : Dev nD) (k : Fin 512) : (V m c main_v16 : FVec Ideal S1x512 .f32) (ix2 0 k) = argLnG m c (ix1 k) := by
  unfold V
  after_reads_at

theorem V_lnb (c : Dev nD) (k : Fin 512) : (V m c main_v17 : FVec Ideal S1x512 .f32) (ix2 0 k) = argLnB m c (ix1 k) := by
  unfold V
  after_reads_at

theorem V_ws (c : Dev nD) (n : Fin 4) (i j : Fin 128) :
    (V m c main_v18 : FVec Ideal S4x128x128 .bf16) (ix3 n i j) = argWs m c (ix3 n i j) := by
  unfold V
  after_reads_at

theorem V_bs (c : Dev nD) (n : Fin 4) (i j : Fin 128) :
    (V m c main_v8 : FVec Ideal S4x128x128 .f32) (ix3 n i j) = argBs m c (ix2 n i) := by
  unfold V
  after_reads_at

theorem V_wr (c : Dev nD) (p : Fin 512) (k : Fin 1024) : (V m c main_v19 : FVec Ideal S512x1024 .bf16) (ix2 p k) = argWr m c (ix2 p k) := by
  unfold V
  after_reads_at

theorem V_wm (c : Dev nD) (p : Fin 512) (k : Fin 1024) : (V m c main_v20 : FVec Ideal S512x1024 .bf16) (ix2 p k) = argWm m c (ix2 p k) := by
  unfold V
  after_reads_at

theorem V_wg (c : Dev nD) (p : Fin 512) (k : Fin 1024) : (V m c main_v21 : FVec Ideal S512x1024 .bf16) (ix2 p k) = argWg m c (ix2 p k) := by
  unfold V
  after_reads_at

theorem V_wo (c : Dev nD) (p k : Fin 1024) : (V m c main_v22 : FVec Ideal S1024x1024 .bf16) (ix2 p k) = argWo m c (ix2 p k) := by
  unfold V
  after_reads_at

theorem V_g (c : Dev nD) (k : Fin 1024) : (V m c main_v23 : FVec Ideal S1x1024 .f32) (ix2 0 k) = argG m c (ix1 k) := by
  unfold V
  after_reads_at

end Cert.Kernel4Ideal.Gen

end
-- ==== Proof.Merge.Array.lean ====
/-
  The gated merge's two result arrays: tile by tile the rows after the gated residual and their norm.
-/
module

public import proofs.«01_k».proof.Proof.Merge.Block
public import proofs.«01_k».proof.Proof.Merge.Host

@[expose] public section

set_option maxRecDepth 16384

noncomputable section

namespace Cert.Kernel4Ideal.Gen

open Cert.Kernel4Ideal Idealize.ShloMosaic Idealize.ShloMosaic.TcCoe Idealize.SL.Sem Idealize.ShloMosaic.Pointwise Cert.Merge

variable (m : (ℓ : Loc nD τ sig) → Buf (Elt Ideal) ℓ)

/-! ## Where the blocks lie: point `t` is sample `t / 33`'s tile `t % 33`, the context's where that is 32 -/

theorem index_0 : ∀ t : Fin cfg0.N, win0_0.index t (0 : Fin 2) = t.val / 33 * 32 + min (t.val % 33) 31 ∧ win0_0.index t (1 : Fin 2) = 0 :=
  (by decide +kernel : ∀ t : Fin grid0.N, _)
theorem index_1 : ∀ t : Fin cfg0.N, win0_1.index t (0 : Fin 2) = t.val / 33 ∧ win0_1.index t (1 : Fin 2) = 0 :=
  (by decide +kernel : ∀ t : Fin grid0.N, _)
theorem index_2 : ∀ t : Fin cfg0.N, win0_2.index t (0 : Fin 3) = (if t.val % 33 = 32 then 4 else t.val / 33)
    ∧ win0_2.index t (1 : Fin 3) = 0 ∧ win0_2.index t (2 : Fin 3) = 0 := (by decide +kernel : ∀ t : Fin grid0.N, _)
theorem index_4 : ∀ t : Fin cfg0.N, win0_4.index t (0 : Fin 2) = t.val ∧ win0_4.index t (1 : Fin 2) = 3 :=
  (by decide +kernel : ∀ t : Fin grid0.N, _)
theorem index_3 : ∀ t : Fin cfg0.N, win0_3.index t (0 : Fin 2) = t.val ∧ win0_3.index t (1 : Fin 2) = 0 :=
  (by decide +kernel : ∀ t : Fin grid0.N, _)
theorem index_5 : ∀ t : Fin cfg0.N, win0_5.index t (0 : Fin 2) = t.val ∧ win0_5.index t (1 : Fin 2) = 0 :=
  (by decide +kernel : ∀ t : Fin grid0.N, _)
theorem index_6 : ∀ t : Fin cfg0.N, win0_6.index t (0 : Fin 2) = t.val ∧ win0_6.index t (1 : Fin 2) = 0 :=
  (by decide +kernel : ∀ t : Fin grid0.N, _)
theorem index_16 : ∀ t : Fin cfg0.N, win0_16.index t (0 : Fin 2) = t.val ∧ win0_16.index t (1 : Fin 2) = 0 :=
  (by decide +kernel : ∀ t : Fin grid0.N, _)
theorem index_17 : ∀ t : Fin cfg0.N, win0_17.index t (0 : Fin 2) = t.val ∧ win0_17.index t (1 : Fin 2) = 0 :=
  (by decide +kernel : ∀ t : Fin grid0.N, _)
theorem index_7 : ∀ t : Fin cfg0.N, win0_7.index t (0 : Fin 2) = 0 ∧ win0_7.index t (1 : Fin 2) = 0 :=
  (by decide +kernel : ∀ t : Fin grid0.N, _)
theorem index_8 : ∀ t : Fin cfg0.N, win0_8.index t (0 : Fin 2) = 0 ∧ win0_8.index t (1 : Fin 2) = 0 :=
  (by decide +kernel : ∀ t : Fin grid0.N, _)
theorem index_11 : ∀ t : Fin cfg0.N, win0_11.index t (0 : Fin 2) = 0 ∧ win0_11.index t (1 : Fin 2) = 0 :=
  (by decide +kernel : ∀ t : Fin grid0.N, _)
theorem index_12 : ∀ t : Fin cfg0.N, win0_12.index t (0 : Fin 2) = 0 ∧ win0_12.index t (1 : Fin 2) = 0 :=
  (by decide +kernel : ∀ t : Fin grid0.N, _)
theorem index_13 : ∀ t : Fin cfg0.N, win0_13.index t (0 : Fin 2) = 0 ∧ win0_13.index t (1 : Fin 2) = 0 :=
  (by decide +kernel : ∀ t : Fin grid0.N, _)
theorem index_14 : ∀ t : Fin cfg0.N, win0_14.index t (0 : Fin 2) = 0 ∧ win0_14.index t (1 : Fin 2) = 0 :=
  (by decide +kernel : ∀ t : Fin grid0.N, _)
theorem index_15 : ∀ t : Fin cfg0.N, win0_15.index t (0 : Fin 2) = 0 ∧ win0_15.index t (1 : Fin 2) = 0 :=
  (by decide +kernel : ∀ t : Fin grid0.N, _)
theorem index_9 : ∀ t : Fin cfg0.N, win0_9.index t (0 : Fin 3) = 0 ∧ win0_9.index t (1 : Fin 3) = 0 ∧ win0_9.index t (2 : Fin 3) = 0 :=
  (by decide +kernel : ∀ t : Fin grid0.N, _)
theorem index_10 : ∀ t : Fin cfg0.N, win0_10.index t (0 : Fin 3) = 0 ∧ win0_10.index t (1 : Fin 3) = 0 ∧ win0_10.index t (2 : Fin 3) = 0 :=
  (by decide +kernel : ∀ t : Fin grid0.N, _)
theorem coord_0 : ∀ t : Fin cfg0.N, (grid0.coords t 0).val = t.val := (by decide +kernel : ∀ t : Fin grid0.N, _)

theorem point_lt (t : Fin cfg0.N) : t.val < 132 := t.isLt.trans_eq N_0

/-- A point's sample, its tile's row `r` in the sample, and that row in the call's arrays. -/
def sample (t : Fin cfg0.N) : Fin 4 := ⟨t.val / 33, by have := point_lt t; omega⟩
def row (t : Fin cfg0.N) (r : Fin 256) : Fin 8448 := ⟨256 * (t.val % 33) + r, by omega⟩
def place (t : Fin cfg0.N) (r : Fin 256) : Fin 33792 := ⟨t.val * 256 + r, by have := point_lt t; omega⟩

/-- The sample and the row of a place. -/
theorem sample_place (t : Fin cfg0.N) (r : Fin 256) (p : (place t r).val / 8448 < 4) : (⟨(place t r).val / 8448, p⟩ : Fin 4) = sample t :=
  Fin.ext (by show (t.val * 256 + r.val) / 8448 = t.val / 33; omega)
theorem row_place (t : Fin cfg0.N) (r : Fin 256) (p : (place t r).val % 8448 < 8448) : (⟨(place t r).val % 8448, p⟩ : Fin 8448) = row t r :=
  Fin.ext (by show (t.val * 256 + r.val) % 8448 = 256 * (t.val % 33) + r.val; omega)

/-! ## The operands' blocks -/

theorem iblk_x (c : Dev nD) (t : Fin cfg0.N) (ht : t.val % 33 ≠ 32) (r : Fin 256) (k : Fin 1024) :
    (iblk m c 0 t : FVec Ideal S256x1024 .f32) (ix2 r k) = argX m c (ix3 (sample t) ⟨256 * (t.val % 33) + r, by omega⟩ k) := by
  obtain ⟨e0, e1⟩ := index_0 t
  have hN := point_lt t
  refine Eq.trans ?_ ((V_x m c ⟨(t.val / 33 * 32 + t.val % 33) * 256 + r, by omega⟩ k).trans (congrArg (argX m c) (funext fun a => Fin.ext ?_)))
  · show V m c main_v9 (((cfg0.win 0).blk t).view.emb (ix2 r k)) = _
    refine congrArg (V m c main_v9) (funext fun a => Fin.ext ?_)
    match a with
    | ⟨0, _⟩ => show win0_0.index t (0 : Fin 2) * 256 + 1 * r.val = (t.val / 33 * 32 + t.val % 33) * 256 + r.val; omega
    | ⟨1, _⟩ => show win0_0.index t (1 : Fin 2) * 1024 + 1 * k.val = k.val; omega
  · match a with
    | ⟨0, _⟩ => show ((t.val / 33 * 32 + t.val % 33) * 256 + r.val) / 8192 = t.val / 33; omega
    | ⟨1, _⟩ => show ((t.val / 33 * 32 + t.val % 33) * 256 + r.val) % 8192 = 256 * (t.val % 33) + r.val; omega
    | ⟨2, _⟩ => rfl

theorem iblk_ctx (c : Dev nD) (t : Fin cfg0.N) (r : Fin 256) (k : Fin 1024) :
    (iblk m c 1 t : FVec Ideal S256x1024 .f32) (ix2 r k) = argCtx m c (ix3 (sample t) r k) := by
  obtain ⟨e0, e1⟩ := index_1 t
  have hN := point_lt t
  refine Eq.trans ?_ ((V_ctx m c ⟨t.val / 33 * 256 + r, by omega⟩ k).trans (congrArg (argCtx m c) (funext fun a => Fin.ext ?_)))
  · show V m c main_v10 (((cfg0.win 1).blk t).view.emb (ix2 r k)) = _
    refine congrArg (V m c main_v10) (funext fun a => Fin.ext ?_)
    match a with
    | ⟨0, _⟩ => show win0_1.index t (0 : Fin 2) * 256 + 1 * r.val = t.val / 33 * 256 + r.val; omega
    | ⟨1, _⟩ => show win0_1.index t (1 : Fin 2) * 1024 + 1 * k.val = k.val; omega
  · match a with
    | ⟨0, _⟩ => show (t.val / 33 * 256 + r.val) / 256 = t.val / 33; omega
    | ⟨1, _⟩ => show (t.val / 33 * 256 + r.val) % 256 = r.val; omega
    | ⟨2, _⟩ => rfl

/-- The point's row of the modulation. -/
theorem iblk_rows (c : Dev nD) (t : Fin cfg0.N) (q : ℕ) (hq : q < 6144) (n : Fin 8) (hn : (if t.val % 33 = 32 then 4 else t.val / 33) = n.val) :
    (iblk m c 2 t : FVec Ideal S1x1x6144 .f32) (ix3 0 0 ⟨q, hq⟩) = (V m c main_v11 : FVec Ideal S8x1x6144 .f32) (ix3 n 0 ⟨q, hq⟩) := by
  obtain ⟨e0, e1, e2⟩ := index_2 t
  rw [hn] at e0
  show V m c main_v11 (((cfg0.win 2).blk t).view.emb (ix3 0 0 ⟨q, hq⟩)) = _
  refine congrArg (V m c main_v11) (funext fun a => Fin.ext ?_)
  match a with
  | ⟨0, _⟩ => show win0_2.index t (0 : Fin 3) * 1 + 1 * 0 = n.val; omega
  | ⟨1, _⟩ => show win0_2.index t (1 : Fin 3) * 1 + 1 * 0 = 0; omega
  | ⟨2, _⟩ => show win0_2.index t (2 : Fin 3) * 6144 + 1 * q = q; omega

theorem iblk_mod (c : Dev nD) (t : Fin cfg0.N) (ht : t.val % 33 ≠ 32) (q : ℕ) (hq : q < 6144) :
    (iblk m c 2 t : FVec Ideal S1x1x6144 .f32) (ix3 0 0 ⟨q, hq⟩) = argMod m c (ix2 (sample t) ⟨q, hq⟩) := by
  have hs : t.val / 33 < 4 := (sample t).isLt
  rw [iblk_rows m c t q hq ⟨t.val / 33, by omega⟩ (if_neg ht), V_rows, dif_pos hs]
  rfl

theorem iblk_modC (c : Dev nD) (t : Fin cfg0.N) (ht : t.val % 33 = 32) (q : ℕ) (hq : q < 6144) :
    (iblk m c 2 t : FVec Ideal S1x1x6144 .f32) (ix3 0 0 ⟨q, hq⟩) = argModC m c (ix1 ⟨q, hq⟩) := by
  rw [iblk_rows m c t q hq 4 (if_pos ht), V_rows, dif_neg (by decide), if_pos (by decide)]

theorem iblk_g (c : Dev nD) (t : Fin cfg0.N) (k : Fin 1024) :
    (iblk m c 15 t : FVec Ideal S1x1024 .f32) (ix2 0 k) = argG m c (ix1 k) := by
  obtain ⟨e0, e1⟩ := index_15 t
  rw [← V_g]
  show V m c main_v23 (((cfg0.win 15).blk t).view.emb (ix2 0 k)) = _
  refine congrArg (V m c main_v23) (funext fun a => Fin.ext ?_)
  match a with
  | ⟨0, _⟩ => show win0_15.index t (0 : Fin 2) * 1 + 1 * 0 = 0; omega
  | ⟨1, _⟩ => show win0_15.index t (1 : Fin 2) * 1024 + 1 * k.val = k.val; omega

theorem iblk_ret (c : Dev nD) (t : Fin cfg0.N) (r : Fin 256) (k : Fin 512) :
    (iblk m c 5 t : FVec Ideal S256x512 .bf16) (ix2 r k) = argRet m c (ix3 (sample t) (row t r) k) := by
  obtain ⟨e0, e1⟩ := index_5 t
  refine Eq.trans ?_ ((V_ret m c (place t r) k).trans (by rw [sample_place, row_place]))
  show V m c main_v13 (((cfg0.win 5).blk t).view.emb (ix2 r k)) = _
  refine congrArg (V m c main_v13) (funext fun a => Fin.ext ?_)
  match a with
  | ⟨0, _⟩ => show win0_5.index t (0 : Fin 2) * 256 + 1 * r.val = t.val * 256 + r.val; omega
  | ⟨1, _⟩ => show win0_5.index t (1 : Fin 2) * 512 + 1 * k.val = k.val; omega

theorem iblk_mla (c : Dev nD) (t : Fin cfg0.N) (r : Fin 256) (k : Fin 512) :
    (iblk m c 6 t : FVec Ideal S256x512 .bf16) (ix2 r k) = argMla m c (ix3 (sample t) (row t r) k) := by
  obtain ⟨e0, e1⟩ := index_6 t
  refine Eq.trans ?_ ((V_mla m c (place t r) k).trans (by rw [sample_place, row_place]))
  show V m c main_v15 (((cfg0.win 6).blk t).view.emb (ix2 r k)) = _
  refine congrArg (V m c main_v15) (funext fun a => Fin.ext ?_)
  match a with
  | ⟨0, _⟩ => show win0_6.index t (0 : Fin 2) * 256 + 1 * r.val = t.val * 256 + r.val; omega
  | ⟨1, _⟩ => show win0_6.index t (1 : Fin 2) * 512 + 1 * k.val = k.val; omega

theorem iblk_lng (c : Dev nD) (t : Fin cfg0.N) (k : Fin 512) :
    (iblk m c 7 t : FVec Ideal S1x512 .f32) (ix2 0 k) = argLnG m c (ix1 k) := by
  obtain ⟨e0, e1⟩ := index_7 t
  rw [← V_lng]
  show V m c main_v16 (((cfg0.win 7).blk t).view.emb (ix2 0 k)) = _
  refine congrArg (V m c main_v16) (funext fun a => Fin.ext ?_)
  match a with
  | ⟨0, _⟩ => show win0_7.index t (0 : Fin 2) * 1 + 1 * 0 = 0; omega
  | ⟨1, _⟩ => show win0_7.index t (1 : Fin 2) * 512 + 1 * k.val = k.val; omega

theorem iblk_lnb (c : Dev nD) (t : Fin cfg0.N) (k : Fin 512) :
    (iblk m c 8 t : FVec Ideal S1x512 .f32) (ix2 0 k) = argLnB m c (ix1 k) := by
  obtain ⟨e0, e1⟩ := index_8 t
  rw [← V_lnb]
  show V m c main_v17 (((cfg0.win 8).blk t).view.emb (ix2 0 k)) = _
  refine congrArg (V m c main_v17) (funext fun a => Fin.ext ?_)
  match a with
  | ⟨0, _⟩ => show win0_8.index t (0 : Fin 2) * 1 + 1 * 0 = 0; omega
  | ⟨1, _⟩ => show win0_8.index t (1 : Fin 2) * 512 + 1 * k.val = k.val; omega

theorem iblk_ws (c : Dev nD) (t : Fin cfg0.N) (n : Fin 4) (i j : Fin 128) :
    (iblk m c 9 t : FVec Ideal S4x128x128 .bf16) (ix3 n i j) = argWs m c (ix3 n i j) := by
  obtain ⟨e0, e1, e2⟩ := index_9 t
  refine Eq.trans ?_ (V_ws m c n i j)
  show V m c main_v18 (((cfg0.win 9).blk t).view.emb (ix3 n i j)) = _
  refine congrArg (V m c main_v18) (funext fun a => Fin.ext ?_)
  match a with
  | ⟨0, _⟩ => show win0_9.index t (0 : Fin 3) * 4 + 1 * n.val = n.val; omega
  | ⟨1, _⟩ => show win0_9.index t (1 : Fin 3) * 128 + 1 * i.val = i.val; omega
  | ⟨2, _⟩ => show win0_9.index t (2 : Fin 3) * 128 + 1 * j.val = j.val; omega

theorem iblk_bs (c : Dev nD) (t : Fin cfg0.N) (n : Fin 4) (i j : Fin 128) :
    (iblk m c 10 t : FVec Ideal S4x128x128 .f32) (ix3 n i j) = argBs m c (ix2 n i) := by
  obtain ⟨e0, e1, e2⟩ := index_10 t
  refine Eq.trans ?_ (V_bs m c n i j)
  show V m c main_v8 (((cfg0.win 10).blk t).view.emb (ix3 n i j)) = _
  refine congrArg (V m c main_v8) (funext fun a => Fin.ext ?_)
  match a with
  | ⟨0, _⟩ => show win0_10.index t (0 : Fin 3) * 4 + 1 * n.val = n.val; omega
  | ⟨1, _⟩ => show win0_10.index t (1 : Fin 3) * 128 + 1 * i.val = i.val; omega
  | ⟨2, _⟩ => show win0_10.index t (2 : Fin 3) * 128 + 1 * j.val = j.val; omega

theorem iblk_wr (c : Dev nD) (t : Fin cfg0.N) (p : Fin 512) (k : Fin 1024) :
    (iblk m c 11 t : FVec Ideal S512x1024 .bf16) (ix2 p k) = argWr m c (ix2 p k) := by
  obtain ⟨e0, e1⟩ := index_11 t
  rw [← V_wr]
  show V m c main_v19 (((cfg0.win 11).blk t).view.emb (ix2 p k)) = _
  refine congrArg (V m c main_v19) (funext fun a => Fin.ext ?_)
  match a with
  | ⟨0, _⟩ => show win0_11.index t (0 : Fin 2) * 512 + 1 * p.val = p.val; omega
  | ⟨1, _⟩ => show win0_11.index t (1 : Fin 2) * 1024 + 1 * k.val = k.val; omega

theorem iblk_wm (c : Dev nD) (t : Fin cfg0.N) (p : Fin 512) (k : Fin 1024) :
    (iblk m c 12 t : FVec Ideal S512x1024 .bf16) (ix2 p k) = argWm m c (ix2 p k) := by
  obtain ⟨e0, e1⟩ := index_12 t
  rw [← V_wm]
  show V m c main_v20 (((cfg0.win 12).blk t).view.emb (ix2 p k)) = _
  refine congrArg (V m c main_v20) (funext fun a => Fin.ext ?_)
  match a with
  | ⟨0, _⟩ => show win0_12.index t (0 : Fin 2) * 512 + 1 * p.val = p.val; omega
  | ⟨1, _⟩ => show win0_12.index t (1 : Fin 2) * 1024 + 1 * k.val = k.val; omega

theorem iblk_wg (c : Dev nD) (t : Fin cfg0.N) (p : Fin 512) (k : Fin 1024) :
    (iblk m c 13 t : FVec Ideal S512x1024 .bf16) (ix2 p k) = argWg m c (ix2 p k) := by
  obtain ⟨e0, e1⟩ := index_13 t
  rw [← V_wg]
  show V m c main_v21 (((cfg0.win 13).blk t).view.emb (ix2 p k)) = _
  refine congrArg (V m c main_v21) (funext fun a => Fin.ext ?_)
  match a with
  | ⟨0, _⟩ => show win0_13.index t (0 : Fin 2) * 512 + 1 * p.val = p.val; omega
  | ⟨1, _⟩ => show win0_13.index t (1 : Fin 2) * 1024 + 1 * k.val = k.val; omega

theorem iblk_wo (c : Dev nD) (t : Fin cfg0.N) (p : Fin 1024) (k : Fin 1024) :
    (iblk m c 14 t : FVec Ideal S1024x1024 .bf16) (ix2 p k) = argWo m c (ix2 p k) := by
  obtain ⟨e0, e1⟩ := index_14 t
  rw [← V_wo]
  show V m c main_v22 (((cfg0.win 14).blk t).view.emb (ix2 p k)) = _
  refine congrArg (V m c main_v22) (funext fun a => Fin.ext ?_)
  match a with
  | ⟨0, _⟩ => show win0_14.index t (0 : Fin 2) * 1024 + 1 * p.val = p.val; omega
  | ⟨1, _⟩ => show win0_14.index t (1 : Fin 2) * 1024 + 1 * k.val = k.val; omega

/-- The gates that a point sees. -/
theorem tile_gate (c : Dev nD) (t : Fin cfg0.N) (r : Fin 256) (n : Fin 3072) :
    (X0_3 m c t : FVec Ideal S256x3072 .bf16) (ix2 r n) = argGate m c (ix3 (sample t) (row t r) n) := by
  obtain ⟨e0, e1⟩ := index_3 t
  have h : (V m c main_v6 : FVec Ideal S33792x6912 .bf16) (ix2 (place t r) ⟨n, by omega⟩) = argGate m c (ix3 (sample t) (row t r) n) := by
    refine (V_p m c (place t r) ⟨n, by omega⟩ (by show n.val < 4096; omega)).trans ?_
    unfold column
    rw [dif_pos n.isLt, sample_place, row_place]
  refine Eq.trans ?_ h
  unfold X0_3 Pipeline.Window.fill
  rw [dif_pos (moved0_3 t (ix2 r n))]
  refine congrArg (V m c main_v6) (funext fun a => Fin.ext ?_)
  match a with
  | ⟨0, _⟩ => show win0_3.index t (0 : Fin 2) * 256 + 1 * r.val = t.val * 256 + r.val; omega
  | ⟨1, _⟩ => show win0_3.index t (1 : Fin 2) * 3072 + 1 * n.val = n.val; omega

/-- The gMLP's columns that a point sees. -/
theorem tile_uv (c : Dev nD) (t : Fin cfg0.N) (r : Fin 256) (n : Fin 1024) :
    (X0_4 m c t : FVec Ideal S256x1024 .bf16) (ix2 r n) = argUv m c (ix3 (sample t) (row t r) n) := by
  obtain ⟨e0, e1⟩ := index_4 t
  have h : (V m c main_v6 : FVec Ideal S33792x6912 .bf16) (ix2 (place t r) ⟨3072 + n, by omega⟩) = argUv m c (ix3 (sample t) (row t r) n) := by
    refine (V_p m c (place t r) ⟨3072 + n, by omega⟩ (by show 3072 + n.val < 4096; omega)).trans ?_
    unfold column
    have e : ∀ p, (⟨3072 + n.val - 3072, p⟩ : Fin 1024) = n := fun p => Fin.ext (Nat.add_sub_cancel_left ..)
    rw [dif_neg (by show ¬3072 + n.val < 3072; omega), sample_place, row_place, e]
  refine Eq.trans ?_ h
  unfold X0_4 Pipeline.Window.fill
  rw [dif_pos (moved0_4 t (ix2 r n))]
  refine congrArg (V m c main_v6) (funext fun a => Fin.ext ?_)
  match a with
  | ⟨0, _⟩ => show win0_4.index t (0 : Fin 2) * 256 + 1 * r.val = t.val * 256 + r.val; omega
  | ⟨1, _⟩ => show win0_4.index t (1 : Fin 2) * 1024 + 1 * n.val = 3072 + n.val; omega

end Cert.Kernel4Ideal.Gen

end
-- ==== Proof.Merge.Result.lean ====
/-
  The gated merge's two result arrays after the run, of the arguments.
-/
module

public import proofs.«01_k».proof.Proof.Merge.Array

@[expose] public section

set_option maxRecDepth 16384

noncomputable section

namespace Cert.Kernel4Ideal.Gen

open Cert.Kernel4Ideal Idealize.ShloMosaic Idealize.ShloMosaic.TcCoe Idealize.SL.Sem Idealize.ShloMosaic.Pointwise Cert.Merge

theorem gated_congr {z z' : Fin 128 → Fin 1024 → EReal} {g g' b b' : Fin 512 → EReal} {ws ws' : Fin 4 → Fin 128 → Fin 128 → EReal}
    {bs : Fin 4 → Fin 128 → EReal} {i i' : Fin 128} (hz : z = z') (hg : g = g') (hb : b = b') (hw : ws = ws') (hi : i = i') :
    gated z g b ws bs i = gated z' g' b' ws' bs i' := by
  subst hz hg hb hw hi
  rfl

theorem merged_congr {gate gate' : Fin 3072 → EReal} {ret ret' mla mla' gmlp gmlp' : Fin 512 → EReal} {wr wr' wm wm' wg wg' : Fin 512 → Fin 1024 → EReal}
    (h0 : gate = gate') (h1 : ret = ret') (h2 : mla = mla') (h3 : gmlp = gmlp') (h4 : wr = wr') (h5 : wm = wm') (h6 : wg = wg') (q : Fin 1024) :
    merged gate ret mla gmlp wr wm wg q = merged gate' ret' mla' gmlp' wr' wm' wg' q := by
  subst h0 h1 h2 h3 h4 h5 h6
  rfl

variable (m : (ℓ : Loc nD τ sig) → Buf (Elt Ideal) ℓ)

/-! ## The point's rows after the output projection -/

/-- The tile at a point. -/
abbrev outAt (c : Dev nD) (t : Fin cfg0.N) : FVec Ideal S256x1024 .f32 :=
  outTile (X0_4 m c t) (iblk m c 7 t) (iblk m c 8 t) (iblk m c 9 t) (iblk m c 10 t) (X0_3 m c t) (iblk m c 5 t) (iblk m c 6 t)
    (iblk m c 11 t) (iblk m c 12 t) (iblk m c 13 t) (iblk m c 14 t)

/-- The rows after the output projection, of the arguments. -/
abbrev outOf (m : (ℓ : Loc nD τ sig) → Buf (Elt Ideal) ℓ) (c : Dev nD) (b : Fin 4) (j : Fin 8448) (k : Fin 1024) : EReal :=
  out (argGate m c) (argUv m c) (argRet m c) (argMla m c) (argLnG m c) (argLnB m c)
    (argWs m c) (argBs m c) (argWr m c) (argWm m c) (argWg m c) (argWo m c) b j k

/-- Row `i` of the tile row `r`'s chunk is the row of the sample's chunk. -/
theorem row_chunk (t : Fin cfg0.N) (r : Fin 256) (i : Fin 128) (p : 128 * (r.val / 128) + i.val < 256)
    (p' : 128 * ((row t r).val / 128) + i.val < 8448) : row t ⟨128 * (r.val / 128) + i, p⟩ = ⟨128 * ((row t r).val / 128) + i, p'⟩ :=
  Fin.ext (by
    show 256 * (t.val % 33) + (128 * (r.val / 128) + i.val) = 128 * ((256 * (t.val % 33) + r.val) / 128) + i.val
    omega)

theorem row_lane (t : Fin cfg0.N) (r : Fin 256) (p) (p') : (⟨r.val % 128, p⟩ : Fin 128) = ⟨(row t r).val % 128, p'⟩ :=
  Fin.ext (by show r.val % 128 = (256 * (t.val % 33) + r.val) % 128; omega)

theorem branch_at (c : Dev nD) (t : Fin cfg0.N) (r : Fin 256) :
    gated (fun i n => (X0_4 m c t : FVec Ideal S256x1024 .bf16) (ix2 ⟨128 * (r.val / 128) + i, by omega⟩ n))
        (fun n => (iblk m c 7 t : FVec Ideal S1x512 .f32) (ix2 0 n)) (fun n => (iblk m c 8 t : FVec Ideal S1x512 .f32) (ix2 0 n))
        (fun n i j => (iblk m c 9 t : FVec Ideal S4x128x128 .bf16) (ix3 n i j)) (fun n i => argBs m c (ix2 n i)) ⟨r.val % 128, Nat.mod_lt _ (by decide)⟩
      = branch (argUv m c) (argLnG m c) (argLnB m c) (argWs m c) (argBs m c) (sample t) (row t r) := by
  funext k
  unfold branch
  refine congrFun (gated_congr ?_ ?_ ?_ ?_ (row_lane t r _ _)) k
  · funext i n
    exact (tile_uv m c t _ n).trans (congrArg (fun j => argUv m c (ix3 (sample t) j n)) (row_chunk t r i _ _))
  · funext n
    exact iblk_lng m c t n
  · funext n
    exact iblk_lnb m c t n
  · funext n i j
    exact iblk_ws m c t n i j

theorem out_at (c : Dev nD) (t : Fin cfg0.N) (r : Fin 256) (k : Fin 1024) : outAt m c t (ix2 r k) = outOf m c (sample t) (row t r) k := by
  refine (outTile_apply _ _ _ _ _ _ _ _ _ _ _ _ (fun n i => argBs m c (ix2 n i)) (iblk_bs m c t) r k).trans ?_
  refine Finset.sum_congr rfl fun q _ => congrArg₂ (· * ·) (merged_congr ?_ ?_ ?_ (branch_at m c t r) ?_ ?_ ?_ q) (iblk_wo m c t q k)
  · funext n
    exact tile_gate m c t r n
  · funext n
    exact iblk_ret m c t r n
  · funext n
    exact iblk_mla m c t r n
  · funext p n
    exact iblk_wr m c t p n
  · funext p n
    exact iblk_wm m c t p n
  · funext p n
    exact iblk_wg m c t p n

/-! ## What a point writes back -/

/-- The point's rows after the residual. -/
abbrev residualAt (c : Dev nD) (t : Fin cfg0.N) : FVec Ideal S256x1024 .f32 :=
  residualTile (grid0.coords t) (iblk m c 0 t) (iblk m c 1 t) (iblk m c 2 t) (outAt m c t)

theorem residual_latent (c : Dev nD) (t : Fin cfg0.N) (ht : t.val % 33 ≠ 32) (r : Fin 256) (k : Fin 1024) :
    residualAt m c t (ix2 r k) = latent (argX m c) (argMod m c) (argGate m c) (argUv m c) (argRet m c) (argMla m c) (argLnG m c) (argLnB m c)
    (argWs m c) (argBs m c) (argWr m c) (argWm m c) (argWg m c) (argWo m c) (sample t) ⟨256 * (t.val % 33) + r, by omega⟩ k := by
  refine (residualTile_apply _ _ _ _ _ r k).trans ?_
  rw [coord_0 t, if_neg ht]
  exact congrArg₂ (· + ·) (iblk_x m c t ht r k) (congrArg₂ (· * ·) (iblk_mod m c t ht _ _) (out_at m c t r k))

theorem residual_context (c : Dev nD) (t : Fin cfg0.N) (ht : t.val % 33 = 32) (r : Fin 256) (k : Fin 1024) :
    residualAt m c t (ix2 r k) = context (argCtx m c) (argModC m c) (argGate m c) (argUv m c) (argRet m c) (argMla m c) (argLnG m c) (argLnB m c)
    (argWs m c) (argBs m c) (argWr m c) (argWm m c) (argWg m c) (argWo m c) (sample t) r k := by
  refine (residualTile_apply _ _ _ _ _ r k).trans ?_
  rw [coord_0 t, if_pos ht]
  refine congrArg₂ (· + ·) (iblk_ctx m c t r k) (congrArg₂ (· * ·) (iblk_modC m c t ht _ _) ((out_at m c t r k).trans ?_))
  refine congrArg (fun j => outOf m c (sample t) j k) (Fin.ext ?_)
  show 256 * (t.val % 33) + r.val = 8192 + r.val
  omega

theorem residual_at (c : Dev nD) (t : Fin cfg0.N) (r : Fin 256) (k : Fin 1024) :
    residualAt m c t (ix2 r k) = residual (argX m c) (argCtx m c) (argMod m c) (argModC m c) (argGate m c) (argUv m c) (argRet m c) (argMla m c) (argLnG m c)
    (argLnB m c) (argWs m c) (argBs m c) (argWr m c) (argWm m c) (argWg m c) (argWo m c) (sample t) (row t r) k := by
  unfold Merge.residual
  by_cases ht : t.val % 33 = 32
  · have hr : ¬(row t r).val < 8192 := by show ¬(256 * (t.val % 33) + r.val < 8192); omega
    have e : ∀ p, (⟨(row t r).val - 8192, p⟩ : Fin 256) = r := fun p => Fin.ext (by show 256 * (t.val % 33) + r.val - 8192 = r.val; omega)
    rw [dif_neg hr, e, residual_context m c t ht]
  · have hr : (row t r).val < 8192 := by show 256 * (t.val % 33) + r.val < 8192; omega
    rw [dif_pos hr, residual_latent m c t ht]
    rfl

/-- The point's normed rows. -/
abbrev hiddenAt (c : Dev nD) (t : Fin cfg0.N) : FVec Ideal S256x1024 .f32 :=
  hiddenTile (grid0.coords t) (iblk m c 0 t) (iblk m c 1 t) (iblk m c 2 t) (outAt m c t) (iblk m c 15 t)

theorem hidden_at (c : Dev nD) (t : Fin cfg0.N) (r : Fin 256) (k : Fin 1024) :
    hiddenAt m c t (ix2 r k) = normed (argX m c) (argCtx m c) (argMod m c) (argModC m c) (argGate m c) (argUv m c) (argRet m c) (argMla m c) (argLnG m c)
    (argLnB m c) (argWs m c) (argBs m c) (argWr m c) (argWm m c) (argWg m c) (argWo m c) (argG m c) (sample t) (row t r) k := by
  refine (hiddenTile_apply _ _ _ _ _ _ r k).trans ?_
  unfold normed
  by_cases ht : t.val % 33 = 32
  · have hr : ¬(row t r).val < 8192 := by show ¬(256 * (t.val % 33) + r.val < 8192); omega
    have e : ∀ p, (⟨(row t r).val - 8192, p⟩ : Fin 256) = r := fun p => Fin.ext (by show 256 * (t.val % 33) + r.val - 8192 = r.val; omega)
    rw [dif_neg hr]
    simp only [residual_context m c t ht, iblk_modC m c t ht, iblk_g, e]
  · have hr : (row t r).val < 8192 := by show 256 * (t.val % 33) + r.val < 8192; omega
    rw [dif_pos hr]
    simp only [residual_latent m c t ht, iblk_mod m c t ht, iblk_g]
    rfl

/-- The two results, of the arguments. -/
abbrev answerRows (m : (ℓ : Loc nD τ sig) → Buf (Elt Ideal) ℓ) (c : Dev nD) : FVec Ideal S33792x1024 .f32 :=
  rows (argX m c) (argCtx m c) (argMod m c) (argModC m c) (argGate m c) (argUv m c) (argRet m c) (argMla m c) (argLnG m c)
    (argLnB m c) (argWs m c) (argBs m c) (argWr m c) (argWm m c) (argWg m c) (argWo m c)
abbrev answer (m : (ℓ : Loc nD τ sig) → Buf (Elt Ideal) ℓ) (c : Dev nD) : FVec Ideal S33792x1024 .f32 :=
  hidden (argX m c) (argCtx m c) (argMod m c) (argModC m c) (argGate m c) (argUv m c) (argRet m c) (argMla m c) (argLnG m c)
    (argLnB m c) (argWs m c) (argBs m c) (argWr m c) (argWm m c) (argWg m c) (argWo m c) (argG m c)

theorem answerRows_emb (c : Dev nD) (t : Fin cfg0.N) (r : Fin 256) (k : Fin 1024) :
    ((cfg0.win 16).blk t).view.read (Elt Ideal) (answerRows m c) (ix2 r k) = residual (argX m c) (argCtx m c) (argMod m c) (argModC m c) (argGate m c) (argUv m c) (argRet m c) (argMla m c) (argLnG m c)
    (argLnB m c) (argWs m c) (argBs m c) (argWr m c) (argWm m c) (argWg m c) (argWo m c) (sample t) (row t r) k := by
  obtain ⟨e0, e1⟩ := index_16 t
  show answerRows m c (((cfg0.win 16).blk t).view.emb (ix2 r k)) = _
  have e : ((cfg0.win 16).blk t).view.emb (ix2 r k) = ix2 (place t r) k := funext fun a => Fin.ext (by
    match a with
    | ⟨0, _⟩ => show win0_16.index t (0 : Fin 2) * 256 + 1 * r.val = t.val * 256 + r.val; omega
    | ⟨1, _⟩ => show win0_16.index t (1 : Fin 2) * 1024 + 1 * k.val = k.val; omega)
  rw [e, ← sample_place t r (by have := (place t r).isLt; omega), ← row_place t r (Nat.mod_lt _ (by decide))]
  rfl

theorem answer_emb (c : Dev nD) (t : Fin cfg0.N) (r : Fin 256) (k : Fin 1024) :
    ((cfg0.win 17).blk t).view.read (Elt Ideal) (answer m c) (ix2 r k) = normed (argX m c) (argCtx m c) (argMod m c) (argModC m c) (argGate m c) (argUv m c) (argRet m c) (argMla m c) (argLnG m c)
    (argLnB m c) (argWs m c) (argBs m c) (argWr m c) (argWm m c) (argWg m c) (argWo m c) (argG m c) (sample t) (row t r) k := by
  obtain ⟨e0, e1⟩ := index_17 t
  show answer m c (((cfg0.win 17).blk t).view.emb (ix2 r k)) = _
  have e : ((cfg0.win 17).blk t).view.emb (ix2 r k) = ix2 (place t r) k := funext fun a => Fin.ext (by
    match a with
    | ⟨0, _⟩ => show win0_17.index t (0 : Fin 2) * 256 + 1 * r.val = t.val * 256 + r.val; omega
    | ⟨1, _⟩ => show win0_17.index t (1 : Fin 2) * 1024 + 1 * k.val = k.val; omega)
  rw [e, ← sample_place t r (by have := (place t r).isLt; omega), ← row_place t r (Nat.mod_lt _ (by decide))]
  rfl

theorem flushedRows_eq (c : Dev nD) (t : Fin cfg0.N) :
    (dats m 0 c).flushed 16 t = ((cfg0.win 16).blk t).view.read (Elt Ideal) (answerRows m c) := by
  rw [Value.flushed16_A m c t]
  funext y
  obtain ⟨r, k, rfl⟩ : ∃ (r : Fin 256) (k : Fin 1024), y = ix2 r k := ⟨y 0, y 1, eq_ix2 y⟩
  rw [answerRows_emb]
  refine (rows_apply _ _ _ _ _ _ _ _ _ _ _ _ _ _ _ _ _ _ _ _ _ _ _ _ _ _ _ _ _ _ _ _ _ _ _ _ _ _ _ _ _ _ _ _ _ _ _ _ _ _ _ _ _ _ _).trans ?_
  exact residual_at m c t r k

theorem flushed_eq (c : Dev nD) (t : Fin cfg0.N) :
    (dats m 0 c).flushed 17 t = ((cfg0.win 17).blk t).view.read (Elt Ideal) (answer m c) := by
  rw [Value.flushed17_A m c t]
  funext y
  obtain ⟨r, k, rfl⟩ : ∃ (r : Fin 256) (k : Fin 1024), y = ix2 r k := ⟨y 0, y 1, eq_ix2 y⟩
  rw [answer_emb]
  refine (normed_apply _ _ _ _ _ _ _ _ _ _ _ _ _ _ _ _ _ _ _ _ _ _ _ _ _ _ _ _ _ _ _ _ _ _ _ _ _ _ _ _ _ _ _ _ _ _ _ _ _ _ _ _ _ _ _).trans ?_
  exact hidden_at m c t r k

/-- Every element of the first result lies in some point's block. -/
theorem coveredRows (i : S33792x1024.Idx) : ∃ t : Fin cfg0.N, (cfg0.win 16).flush t = true ∧ i ∈ ((cfg0.win 16).blk t).view.set := by
  have h0 : (i 0).val < 33792 := (i 0).isLt
  have h1 : (i 1).val < 1024 := (i 1).isLt
  have hN : cfg0.N = 132 := N_0
  obtain ⟨t, ht⟩ : ∃ t : Fin cfg0.N, t.val = (i 0).val / 256 := ⟨⟨_, by omega⟩, rfl⟩
  refine ⟨t, flush0_16 t, ?_⟩
  obtain ⟨e0, e1⟩ := index_16 t
  show i ∈ ((View.whole main_v24_0).slice (win0_16.rect t)).set
  rw [View.set_slice_whole, Rect.mem_set_unit]
  intro a
  match a with
  | ⟨0, _⟩ => show win0_16.index t (0 : Fin 2) * 256 ≤ (i 0).val ∧ (i 0).val < win0_16.index t (0 : Fin 2) * 256 + 256; omega
  | ⟨1, _⟩ => show win0_16.index t (1 : Fin 2) * 1024 ≤ (i 1).val ∧ (i 1).val < win0_16.index t (1 : Fin 2) * 1024 + 1024; omega

/-- And of the second. -/
theorem covered (i : S33792x1024.Idx) : ∃ t : Fin cfg0.N, (cfg0.win 17).flush t = true ∧ i ∈ ((cfg0.win 17).blk t).view.set := by
  have h0 : (i 0).val < 33792 := (i 0).isLt
  have h1 : (i 1).val < 1024 := (i 1).isLt
  have hN : cfg0.N = 132 := N_0
  obtain ⟨t, ht⟩ : ∃ t : Fin cfg0.N, t.val = (i 0).val / 256 := ⟨⟨_, by omega⟩, rfl⟩
  refine ⟨t, flush0_17 t, ?_⟩
  obtain ⟨e0, e1⟩ := index_17 t
  show i ∈ ((View.whole main_v24_1).slice (win0_17.rect t)).set
  rw [View.set_slice_whole, Rect.mem_set_unit]
  intro a
  match a with
  | ⟨0, _⟩ => show win0_17.index t (0 : Fin 2) * 256 ≤ (i 0).val ∧ (i 0).val < win0_17.index t (0 : Fin 2) * 256 + 256; omega
  | ⟨1, _⟩ => show win0_17.index t (1 : Fin 2) * 1024 ≤ (i 1).val ∧ (i 1).val < win0_17.index t (1 : Fin 2) * 1024 + 1024; omega

/-- The first result array after the run is the rows after the gated residual. -/
theorem finalRows (c : Dev nD) : (dats m 0 c).arrAt 16 cfg0.N = answerRows m c :=
  (dats m 0 c).arrAt_eq_of_cover 16 (answerRows m c) (fun t _ => flushedRows_eq m c t) coveredRows

/-- The second is their norm. -/
theorem final (c : Dev nD) : (dats m 0 c).arrAt 17 cfg0.N = answer m c :=
  (dats m 0 c).arrAt_eq_of_cover 17 (answer m c) (fun t _ => flushed_eq m c t) covered

end Cert.Kernel4Ideal.Gen

end
-- ==== Proof.Merge.Consts.lean ====
/-
  The gelu's scale as the reference computes it, by π = 4 · arctan 1.
-/
module

public import proofs.«01_k».proof.Proof.Merge.Spec

@[expose] public section

noncomputable section

namespace Cert.Merge

open Idealize.ShloMosaic

theorem ofBits_1 : Ideal.ofBits .f32 0x3F800000#32 = ((1 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_4 : Ideal.ofBits .f32 0x40800000#32 = ((4 : ℝ) : EReal) := by
  simp [Ideal.ofBits, Ideal.ieee, -EReal.coe_mul]; norm_num

theorem scale_eq : Ideal.sqrt (Ideal.div (Ideal.ofBits .f32 0x40000000#32)
    (Ideal.ofBits .f32 0x40800000#32 * ((Real.arctan 1 : ℝ) : EReal))) = scale := by
  have h : (4 : ℝ) * Real.arctan 1 = Real.pi := by rw [Real.arctan_one]; ring
  rw [ofBits_2, ofBits_4, ← EReal.coe_mul, h, Ideal.div_coe Real.pi_ne_zero, ← EReal.coe_mul, one_div]
  exact if_neg (not_lt.mpr (by positivity))

end Cert.Merge

end
-- ==== Proof.Merge.Reference.lean ====
/-
  The reference merge's two results at an index.
-/
module

public import proofs.«01_k».proof.Proof.Gen.Reference4Ideal.Read
public import proofs.«01_k».proof.Proof.Merge.Consts
public import Idealize.ShloMosaic.Lib.Pointwise

@[expose] public section

set_option maxRecDepth 16384

noncomputable section

namespace Cert.Reference4Ideal.Read

open Cert.Reference4Ideal Cert.Reference4Ideal.Gen Idealize.ShloMosaic Idealize.ShloMosaic.TcCoe Idealize.SL.Sem
open Idealize.ShloMosaic.Pointwise Cert.Merge

variable (x0 : FVec Ideal S4x8192x1024 .f32) (x1 : FVec Ideal S4x256x1024 .f32) (x2 : FVec Ideal S4x6144 .f32) (x3 : FVec Ideal S6144 .f32)
  (x4 : FVec Ideal S4x8448x3072 .f32) (x5 : FVec Ideal S4x8448x1024 .f32) (x6 x7 : FVec Ideal S4x8448x512 .f32)
  (x8 x9 : FVec Ideal S512 .f32) (x10 : FVec Ideal S4x128x128 .f32) (x11 : FVec Ideal S4x128 .f32)
  (x12 x13 x14 : FVec Ideal S512x1024 .f32) (x15 : FVec Ideal S1024x1024 .f32) (x16 : FVec Ideal S1024 .f32)

/-! ## The gMLP's branch -/

theorem v9_at (i : S_.Idx) : val_main_v9 (F := Ideal) i = scale := by
  refine Eq.trans ?_ scale_eq
  refine congrArg (fun z => Ideal.sqrt (Ideal.div (Ideal.ofBits .f32 0x40000000#32) (Ideal.ofBits .f32 0x40800000#32 * z))) ?_
  show Ideal.atan (Ideal.ofBits .f32 0x3F800000#32) = _
  rw [ofBits_1]
  rfl

theorem v22_at (b : Fin 4) (j : Fin 8448) (n : Fin 1024) : val_main_v22 (F := Ideal) x5 (ix3 b j n) = gelu (x5 (ix3 b j n)) := by
  have h := v9_at
  unfold val_main_v22 val_main_v21 val_main_v19 val_main_v17 val_main_v16 val_main_v15
  generalize val_main_v9 (F := Ideal) = s at h
  pointwise [val_main_v20, val_main_cst_6, val_main_v18, val_main_cst_5, val_main_v14, val_main_v13, val_main_v12, val_main_cst_4,
    val_main_v11, val_main_v10]
  rw [h, mul_comm (x5 (ix3 b j n) * x5 (ix3 b j n)) (x5 (ix3 b j n))]
  rfl

/-- The half that is normed, as the norm's vectors. -/
abbrev half (b : Fin 4) (j : Fin 8448) (n : Fin 512) : EReal := gelu (x5 (ix3 b j ⟨512 + n, by omega⟩))

theorem v24_at (b : Fin 4) (j : Fin 8448) (n : Fin 512) : val_main_v24 (F := Ideal) x5 (ix3 b j n) = half x5 b j n := by
  have h := v22_at x5
  unfold val_main_v24
  generalize val_main_v22 (F := Ideal) x5 = z at h
  pointwise
  exact h _ _ _

theorem v28_at (b : Fin 4) (j : Fin 8448) : val_main_v28 (F := Ideal) x5 (ix3 b j 0) = mean (half x5 b j) := by
  have h := v24_at x5
  unfold val_main_v28 val_main_v26 val_main_v25
  generalize val_main_v24 (F := Ideal) x5 = z at h
  pointwise [val_main_v27, val_main_cst_8, val_main_cst_7]
  simp only [h]
  rfl

theorem v37_at (b : Fin 4) (j : Fin 8448) : val_main_v37 (F := Ideal) x5 (ix3 b j 0)
    = mean (fun n => (half x5 b j n - mean (half x5 b j)) * (half x5 b j n - mean (half x5 b j))) := by
  have h := v24_at x5
  have h' := v28_at x5
  unfold val_main_v37 val_main_v35 val_main_v34 val_main_v33 val_main_v32 val_main_v31 val_main_v30 val_main_v29
  generalize val_main_v24 (F := Ideal) x5 = z at h
  generalize val_main_v28 (F := Ideal) x5 = y at h'
  pointwise [val_main_v36, val_main_cst_10, val_main_cst_9]
  simp only [h, h']
  rfl

theorem v50_at (b : Fin 4) (j : Fin 8448) (n : Fin 512) : val_main_v50 (F := Ideal) x5 x8 x9 (ix3 b j n)
    = standard (half x5 b j) (fun n => x8 (ix1 n)) (fun n => x9 (ix1 n)) n := by
  have h := v24_at x5
  have h' := v28_at x5
  have h'' := v37_at x5
  unfold val_main_v50 val_main_v47 val_main_v44 val_main_v43 val_main_v42 val_main_v41 val_main_v39 val_main_v38
  generalize val_main_v24 (F := Ideal) x5 = z at h
  generalize val_main_v28 (F := Ideal) x5 = y at h'
  generalize val_main_v37 (F := Ideal) x5 = w at h''
  pointwise [val_main_v49, val_main_v48, val_main_v46, val_main_v45, val_main_v40, val_main_cst_11]
  rw [h, h', h'']
  rfl

theorem v57_at (b : Fin 4) (n : Fin 66) (i : Fin 128) (q : Fin 4) (l : Fin 128) :
    val_main_v57 (F := Ideal) x5 x8 x9 x10 x11 (ix5 b n i q l)
      = (∑ j : Fin 128, x10 (ix3 q i j) * standard (half x5 b ⟨n * 128 + j, by omega⟩) (fun n => x8 (ix1 n)) (fun n => x9 (ix1 n)) ⟨q * 128 + l, by omega⟩)
        + x11 (ix2 q i) := by
  have h := v50_at x5 x8 x9
  unfold val_main_v57 val_main_v53 val_main_v52 val_main_v51
  generalize val_main_v50 (F := Ideal) x5 x8 x9 = z at h
  pointwise [val_main_v56, val_main_v55, val_main_v54]
  exact congrArg (· + _) (Finset.sum_congr rfl fun j _ => (congrArg (· * _) (h _ _ _)).trans (mul_comm _ _))

/-- The mixed half. -/
theorem v58_at (b : Fin 4) (j : Fin 8448) (k : Fin 512) : val_main_v58 (F := Ideal) x5 x8 x9 x10 x11 (ix3 b j k)
    = mixed (fun i => standard (half x5 b ⟨128 * (j.val / 128) + i, by omega⟩) (fun n => x8 (ix1 n)) (fun n => x9 (ix1 n)))
        (fun q i l => x10 (ix3 q i l)) (fun q i => x11 (ix2 q i)) ⟨j.val % 128, Nat.mod_lt _ (by decide)⟩ k := by
  have h := v57_at x5 x8 x9 x10 x11
  unfold val_main_v58
  generalize val_main_v57 (F := Ideal) x5 x8 x9 x10 x11 = z at h
  pointwise
  refine (h _ _ _ _ _).trans ?_
  unfold mixed
  have ek : ∀ p, (⟨k.val / 128 * 128 + k.val % 128, p⟩ : Fin 512) = k := fun p => Fin.ext (by show k.val / 128 * 128 + k.val % 128 = k.val; omega)
  have ej : ∀ (i : Fin 128) p, (⟨j.val / 128 * 128 + i, p⟩ : Fin 8448) = ⟨128 * (j.val / 128) + i, by omega⟩ := fun i p =>
    Fin.ext (by show j.val / 128 * 128 + i.val = 128 * (j.val / 128) + i.val; omega)
  simp only [ek, ej]

theorem v59_at (b : Fin 4) (j : Fin 8448) (k : Fin 512) :
    val_main_v59 (F := Ideal) x5 x8 x9 x10 x11 (ix3 b j k) = branch x5 x8 x9 x10 x11 b j k := by
  have h := v58_at x5 x8 x9 x10 x11
  have h' := v22_at x5
  unfold val_main_v59 val_main_v23
  generalize val_main_v58 (F := Ideal) x5 x8 x9 x10 x11 = z at h
  generalize val_main_v22 (F := Ideal) x5 = y at h'
  pointwise
  unfold branch gated
  refine congrArg₂ (· * ·) ((h' _ _ _).trans ?_) (h b j k)
  refine congrArg (fun i => gelu (x5 (ix3 b i ⟨k, by omega⟩))) (Fin.ext ?_)
  show j.val = 128 * (j.val / 128) + j.val % 128
  omega

/-! ## The merge, and the two streams' residuals -/

theorem v71_at (b : Fin 4) (j : Fin 8448) (k : Fin 1024) : val_main_v71 (F := Ideal) x4 x5 x6 x7 x8 x9 x10 x11 x12 x13 x14 x15 (ix3 b j k)
    = out x4 x5 x6 x7 x8 x9 x10 x11 x12 x13 x14 x15 b j k := by
  have h := v59_at x5 x8 x9 x10 x11
  unfold val_main_v71 val_main_v70 val_main_v69 val_main_v60
  generalize val_main_v59 (F := Ideal) x5 x8 x9 x10 x11 = z at h
  pointwise [val_main_v68, val_main_v67, val_main_v66, val_main_v65, val_main_v64, val_main_v63, val_main_v62, val_main_v61,
    val_main_v5, val_main_v4, val_main_cst_0, val_main_v3, val_main_v2, val_main_cst, val_main_v1, val_main_v0]
  simp only [h]
  rfl

theorem v84_at (b : Fin 4) (j : Fin 8192) (k : Fin 1024) :
    val_main_v84 (F := Ideal) x0 x2 x4 x5 x6 x7 x8 x9 x10 x11 x12 x13 x14 x15 (ix3 b j k)
      = latent x0 x2 x4 x5 x6 x7 x8 x9 x10 x11 x12 x13 x14 x15 b j k := by
  have h := v71_at x4 x5 x6 x7 x8 x9 x10 x11 x12 x13 x14 x15
  unfold val_main_v84 val_main_v83 val_main_v81
  generalize val_main_v71 (F := Ideal) x4 x5 x6 x7 x8 x9 x10 x11 x12 x13 x14 x15 = z at h
  pointwise [val_main_v82, val_main_v73, val_main_v72]
  rw [h]
  rfl

theorem v89_at (b : Fin 4) (j : Fin 256) (k : Fin 1024) :
    val_main_v89 (F := Ideal) x1 x3 x4 x5 x6 x7 x8 x9 x10 x11 x12 x13 x14 x15 (ix3 b j k)
      = context x1 x3 x4 x5 x6 x7 x8 x9 x10 x11 x12 x13 x14 x15 b j k := by
  have h := v71_at x4 x5 x6 x7 x8 x9 x10 x11 x12 x13 x14 x15
  unfold val_main_v89 val_main_v88 val_main_v85
  generalize val_main_v71 (F := Ideal) x4 x5 x6 x7 x8 x9 x10 x11 x12 x13 x14 x15 = z at h
  pointwise [val_main_v87, val_main_v86, val_main_v78]
  rw [h]
  rfl

/-! ## Their norms -/

theorem v108_at (b : Fin 4) (j : Fin 8192) (k : Fin 1024) :
    val_main_v108 (F := Ideal) x0 x2 x4 x5 x6 x7 x8 x9 x10 x11 x12 x13 x14 x15 x16 (ix3 b j k)
      = InProj.modulated (latent x0 x2 x4 x5 x6 x7 x8 x9 x10 x11 x12 x13 x14 x15 b j) (fun k => x16 (ix1 k))
          (fun k => x2 (ix2 b ⟨4096 + k, by omega⟩)) (fun k => x2 (ix2 b ⟨3072 + k, by omega⟩)) k := by
  have h := v84_at x0 x2 x4 x5 x6 x7 x8 x9 x10 x11 x12 x13 x14 x15
  unfold val_main_v108 val_main_v106 val_main_v102 val_main_v99 val_main_v98 val_main_v97 val_main_v96 val_main_v94 val_main_v92 val_main_v91
    val_main_v90
  generalize val_main_v84 (F := Ideal) x0 x2 x4 x5 x6 x7 x8 x9 x10 x11 x12 x13 x14 x15 = z at h
  pointwise [val_main_v107, val_main_v105, val_main_v104, val_main_v103, val_main_v101, val_main_v100, val_main_v95, val_main_v93,
    val_main_cst_12, val_main_cst_13, val_main_cst_14, val_main_cst_15, val_main_v77, val_main_v76, val_main_v75, val_main_v74]
  simp only [h]
  rfl

theorem v129_at (b : Fin 4) (j : Fin 256) (k : Fin 1024) :
    val_main_v129 (F := Ideal) x1 x3 x4 x5 x6 x7 x8 x9 x10 x11 x12 x13 x14 x15 x16 (ix3 b j k)
      = InProj.modulated (context x1 x3 x4 x5 x6 x7 x8 x9 x10 x11 x12 x13 x14 x15 b j) (fun k => x16 (ix1 k))
          (fun k => x3 (ix1 ⟨4096 + k, by omega⟩)) (fun k => x3 (ix1 ⟨3072 + k, by omega⟩)) k := by
  have h := v89_at x1 x3 x4 x5 x6 x7 x8 x9 x10 x11 x12 x13 x14 x15
  unfold val_main_v129 val_main_v126 val_main_v121 val_main_v118 val_main_v117 val_main_v116 val_main_v115 val_main_v113 val_main_v111
    val_main_v110 val_main_v109
  generalize val_main_v89 (F := Ideal) x1 x3 x4 x5 x6 x7 x8 x9 x10 x11 x12 x13 x14 x15 = z at h
  pointwise [val_main_v128, val_main_v127, val_main_v125, val_main_v124, val_main_v123, val_main_v122, val_main_v120, val_main_v119, val_main_v114, val_main_v112,
    val_main_cst_16, val_main_cst_17, val_main_cst_18, val_main_cst_19, val_main_v80, val_main_v79]
  simp only [h]
  rfl

/-! ## The results -/

theorem rows_eq : val_main_v131 (F := Ideal) x0 x1 x2 x3 x4 x5 x6 x7 x8 x9 x10 x11 x12 x13 x14 x15
    = rows x0 x1 x2 x3 x4 x5 x6 x7 x8 x9 x10 x11 x12 x13 x14 x15 := by
  funext y
  obtain ⟨r, k, rfl⟩ : ∃ (r : Fin 33792) (k : Fin 1024), y = ix2 r k := ⟨y 0, y 1, eq_ix2 y⟩
  have h := v84_at x0 x2 x4 x5 x6 x7 x8 x9 x10 x11 x12 x13 x14 x15
  have h' := v89_at x1 x3 x4 x5 x6 x7 x8 x9 x10 x11 x12 x13 x14 x15
  unfold val_main_v131 val_main_v130
  generalize val_main_v84 (F := Ideal) x0 x2 x4 x5 x6 x7 x8 x9 x10 x11 x12 x13 x14 x15 = z at h
  generalize val_main_v89 (F := Ideal) x1 x3 x4 x5 x6 x7 x8 x9 x10 x11 x12 x13 x14 x15 = z' at h'
  pointwise
  simp only [h, h']
  rfl

theorem hidden_eq : val_main_v133 (F := Ideal) x0 x1 x2 x3 x4 x5 x6 x7 x8 x9 x10 x11 x12 x13 x14 x15 x16
    = hidden x0 x1 x2 x3 x4 x5 x6 x7 x8 x9 x10 x11 x12 x13 x14 x15 x16 := by
  funext y
  obtain ⟨r, k, rfl⟩ : ∃ (r : Fin 33792) (k : Fin 1024), y = ix2 r k := ⟨y 0, y 1, eq_ix2 y⟩
  have h := v108_at x0 x2 x4 x5 x6 x7 x8 x9 x10 x11 x12 x13 x14 x15 x16
  have h' := v129_at x1 x3 x4 x5 x6 x7 x8 x9 x10 x11 x12 x13 x14 x15 x16
  unfold val_main_v133 val_main_v132
  generalize val_main_v108 (F := Ideal) x0 x2 x4 x5 x6 x7 x8 x9 x10 x11 x12 x13 x14 x15 x16 = z at h
  generalize val_main_v129 (F := Ideal) x1 x3 x4 x5 x6 x7 x8 x9 x10 x11 x12 x13 x14 x15 x16 = z' at h'
  pointwise
  simp only [h, h']
  rfl

end Cert.Reference4Ideal.Read

end
-- ==== Proof.Last.Spec.lean ====
/-
  The call that closes the last layer as a function of its arguments, at an index.
-/
module

public import proofs.«01_k».proof.Proof.Gen.Kernel5Ideal
public import Idealize.ShloMosaic.Lib.Pointwise

@[expose] public section

set_option maxRecDepth 16384

noncomputable section

namespace Cert.Last

open Idealize.ShloMosaic Idealize.ShloMosaic.Pointwise Cert.Kernel5Ideal

variable (x : FVec Ideal S4x8192x1024 .f32) (y : FVec Ideal S32768x6x1024 .f32) (wt : FVec Ideal S32768x6 .f32)
  (sh : FVec Ideal S32768x1024 .f32) (md : FVec Ideal S4x6144 .f32)

/-- The feed-forward's result for token `r`. -/
def ffn (r : Fin 32768) (k : Fin 1024) : EReal := (∑ q : Fin 6, y (ix3 r q k) * wt (ix2 r q)) + sh (ix2 r k)

/-- Token `r` after the gated residual: token `r % 8192` of sample `r / 8192`. -/
def token (r : Fin 32768) (k : Fin 1024) : EReal :=
  x (ix3 ⟨r / 8192, by omega⟩ ⟨r % 8192, Nat.mod_lt _ (by decide)⟩ k)
    + md (ix2 ⟨r / 8192, by omega⟩ ⟨5120 + k, by omega⟩) * ffn y wt sh r k

/-- The call's result: the tokens after the gated residual. -/
def tokens : FVec Ideal S32768x1024 .f32 := fun i => token x y wt sh md (i 0) (i 1)

end Cert.Last

end
-- ==== Proof.Last.Block.lean ====
/-
  The block of the last layer's close: what one grid point stores, at an index.
-/
module

public import proofs.«01_k».proof.Proof.Gen.Kernel5Ideal.Value
public import proofs.«01_k».proof.Proof.Last.Spec
public import Idealize.ShloMosaic.Lib.Pipeline.ValueKit
public import Idealize.ShloMosaic.Lib.Pipeline.ReadBack

@[expose] public section

set_option maxRecDepth 16384

noncomputable section

namespace Cert.Kernel5Ideal.Gen

open Idealize.ShloMosaic Idealize.ShloMosaic.TcCoe Idealize.ShloMosaic.Tactic Idealize.ShloMosaic.Pointwise

variable (x0 x1 x2 x3 x4 x5 : Vec Ideal S1x256x1024 .bf16) (x6 : Vec Ideal S256x8 .f32) (x7 : Vec Ideal S256x1024 .f32)
  (x8 : Vec Ideal S256x1024 .bf16) (x9 : Vec Ideal S1x1x6144 .f32)

/-- The columns below 512 of the first four planes' weighted sum and the shared expert's result, and the fifth plane's. -/
abbrev low : FVec Ideal S256x512 .f32 :=
  k0_pay11 (k0_pay4 (View.ld x8 (Rect.unit ![0, 0] S256x512.size inb_S256x1024_S256x512_0_0)) x0
      (View.ld x6 (Rect.unit ![0, 0] S256x1.size inb_S256x8_S256x1_0_0)) x1 (View.ld x6 (Rect.unit ![0, 1] S256x1.size inb_S256x8_S256x1_0_1)))
    (k0_pay6 x2) (View.ld x6 (Rect.unit ![0, 2] S256x1.size inb_S256x8_S256x1_0_2)) x3
    (View.ld x6 (Rect.unit ![0, 3] S256x1.size inb_S256x8_S256x1_0_3)) x4 (View.ld x6 (Rect.unit ![0, 4] S256x1.size inb_S256x8_S256x1_0_4))

/-- The columns from 512 of the first four planes' weighted sum and the shared expert's result. -/
abbrev high : FVec Ideal S256x512 .f32 :=
  k0_pay9 (k0_pay5 (View.ld x8 (Rect.unit ![0, 512] S256x512.size inb_S256x1024_S256x512_0_512)) x0
      (View.ld x6 (Rect.unit ![0, 0] S256x1.size inb_S256x8_S256x1_0_0)) x1 (View.ld x6 (Rect.unit ![0, 1] S256x1.size inb_S256x8_S256x1_0_1)))
    (k0_pay6 x2) (View.ld x6 (Rect.unit ![0, 2] S256x1.size inb_S256x8_S256x1_0_2)) x3
    (View.ld x6 (Rect.unit ![0, 3] S256x1.size inb_S256x8_S256x1_0_3))

/-- The rows after the gated residual. -/
def residual : FVec Ideal S256x1024 .f32 :=
  k0_pay1 (high x0 x1 x2 x3 x6 x8) (low x0 x1 x2 x3 x4 x6 x8)
    (k0_pay12 x4 (View.ld x6 (Rect.unit ![0, 4] S256x1.size inb_S256x8_S256x1_0_4))) x5
    (View.ld x6 (Rect.unit ![0, 5] S256x1.size inb_S256x8_S256x1_0_5)) (View.ld x6 (Rect.unit ![0, 5] S256x1.size inb_S256x8_S256x1_0_5)) x7
    (View.ld x9 (Rect.unit ![0, 0, 5120] S1x1x1024.size inb_S1x1x6144_S1x1x1024_0_0_5120))

/-- A row after the gated residual: the six planes weighted and added to the shared expert's result, one after another. -/
theorem residual_apply (r : Fin 256) (k : Fin 1024) : residual x0 x1 x2 x3 x4 x5 x6 x7 x8 x9 (ix2 r k)
    = x7 (ix2 r k) + x9 (ix3 0 0 ⟨5120 + k, by omega⟩) * (x8 (ix2 r k) + x0 (ix3 0 r k) * x6 (ix2 r 0) + x1 (ix3 0 r k) * x6 (ix2 r 1)
        + x2 (ix3 0 r k) * x6 (ix2 r 2) + x3 (ix3 0 r k) * x6 (ix2 r 3) + x4 (ix3 0 r k) * x6 (ix2 r 4) + x5 (ix3 0 r k) * x6 (ix2 r 5)) := by
  pointwise [residual, low, high, k0_pay1, k0_pay12, k0_pay11, k0_pay10, k0_pay9, k0_pay8, k0_pay7, k0_pay6, k0_pay5, k0_pay4, k0_pay3, k0_pay2]
  by_cases h : k.val < 512
  · simp only [dif_pos h]
  · have e : ∀ p, (⟨512 + (k.val - 512), p⟩ : Fin 1024) = k := fun p => Fin.ext (by show 512 + (k.val - 512) = k.val; omega)
    simp only [dif_neg h, e]

/-- What the body stores. -/
theorem out_eq : out0_10 x0 x1 x2 x3 x4 x5 x6 x7 x8 x9 = residual x0 x1 x2 x3 x4 x5 x6 x7 x8 x9 := by
  have e0 : View.ld x0 r0_2 = x0 := View.ld_unit_lit _ x0 (by decide)
  have e1 : View.ld x1 r0_2 = x1 := View.ld_unit_lit _ x1 (by decide)
  have e2 : View.ld x2 r0_2 = x2 := View.ld_unit_lit _ x2 (by decide)
  have e3 : View.ld x3 r0_2 = x3 := View.ld_unit_lit _ x3 (by decide)
  have e4 : View.ld x4 r0_2 = x4 := View.ld_unit_lit _ x4 (by decide)
  have e5 : View.ld x5 r0_2 = x5 := View.ld_unit_lit _ x5 (by decide)
  have e7 : View.ld x7 r0_9 = x7 := View.ld_unit_lit _ x7 (by decide)
  unfold out0_10
  refine (View.canon_cons_unit_lit _ _ _ (by decide)).trans ?_
  simp only [k0_pay13, e0, e1, e2, e3, e4, e5, e7]
  rfl

end Cert.Kernel5Ideal.Gen

end
-- ==== Proof.Last.Host.lean ====
/-
  What the operand arrays of the last layer's close hold at an index, as a function of the arguments.
-/
module

public import proofs.«01_k».proof.Proof.Gen.Kernel5Ideal.Value
public import proofs.«01_k».proof.Proof.Last.Spec
public import Idealize.ShloMosaic.Lib.StableHlo.ReadAt

@[expose] public section

set_option maxRecDepth 16384

noncomputable section

namespace Cert.Kernel5Ideal.Gen

open Cert.Kernel5Ideal Idealize.ShloMosaic Idealize.ShloMosaic.TcCoe Idealize.SL.Sem Idealize.ShloMosaic.Pointwise

variable (m : (ℓ : Loc nD τ sig) → Buf (Elt Ideal) ℓ)

/-- The arguments as launched. -/
abbrev argX (c : Dev nD) : FVec Ideal S4x8192x1024 .f32 := m ((c : Thread nD τ).loc main_arg0)
abbrev argY (c : Dev nD) : FVec Ideal S32768x6x1024 .f32 := m ((c : Thread nD τ).loc main_arg1)
abbrev argWt (c : Dev nD) : FVec Ideal S32768x6 .f32 := m ((c : Thread nD τ).loc main_arg2)
abbrev argSh (c : Dev nD) : FVec Ideal S32768x1024 .f32 := m ((c : Thread nD τ).loc main_arg3)
abbrev argMod (c : Dev nD) : FVec Ideal S4x6144 .f32 := m ((c : Thread nD τ).loc main_arg4)

/-- The residual's rows, where a sample's tokens come before its context's rows. -/
theorem V_x (c : Dev nD) (r : Fin 33792) (k : Fin 1024) (h : r.val % 8448 < 8192) :
    (V m c main_v3 : FVec Ideal S33792x1024 .f32) (ix2 r k) = argX m c (ix3 ⟨r / 8448, by omega⟩ ⟨r.val % 8448, h⟩ k) := by
  unfold V
  after_reads_at
  exact dif_pos ⟨by omega, h⟩

theorem V_wt (c : Dev nD) (r : Fin 32768) (q : Fin 6) :
    (V m c main_v4 : FVec Ideal S32768x8 .f32) (ix2 r ⟨q, by omega⟩) = argWt m c (ix2 r q) := by
  unfold V
  after_reads_at

theorem V_y (c : Dev nD) (q : Fin 6) (r : Fin 32768) (k : Fin 1024) :
    (V m c main_v6 : FVec Ideal S6x32768x1024 .bf16) (ix3 q r k) = argY m c (ix3 r q k) := by
  unfold V
  after_reads_at

theorem V_sh (c : Dev nD) (r : Fin 32768) (k : Fin 1024) :
    (V m c main_v7 : FVec Ideal S32768x1024 .bf16) (ix2 r k) = argSh m c (ix2 r k) := by
  unfold V
  after_reads_at

theorem V_mod (c : Dev nD) (b : Fin 4) (k : Fin 6144) :
    (V m c main_v1 : FVec Ideal S8x1x6144 .f32) (ix3 ⟨b, by omega⟩ 0 k) = argMod m c (ix2 b k) := by
  unfold V
  after_reads_at

end Cert.Kernel5Ideal.Gen

end
-- ==== Proof.Last.Array.lean ====
/-
  The result array of the last layer's close: tile by tile the tokens after the gated residual.
-/
module

public import proofs.«01_k».proof.Proof.Last.Block
public import proofs.«01_k».proof.Proof.Last.Host
public import proofs.«01_k».proof.Proof.Combine.Array

@[expose] public section

set_option maxRecDepth 16384

noncomputable section

namespace Cert.Kernel5Ideal.Gen

open Cert.Kernel5Ideal Idealize.ShloMosaic Idealize.ShloMosaic.TcCoe Idealize.SL.Sem Idealize.ShloMosaic.Pointwise Cert.Last

variable (m : (ℓ : Loc nD τ sig) → Buf (Elt Ideal) ℓ)

/-! ## Where the blocks lie: point `t` is sample `t / 32`'s tile `t % 32`; the residual's array has a 33rd tile that is passed over -/

theorem index_0 : ∀ t : Fin cfg0.N, win0_0.index t (0 : Fin 3) = 0 ∧ win0_0.index t (1 : Fin 3) = t.val ∧ win0_0.index t (2 : Fin 3) = 0 :=
  (by decide +kernel : ∀ t : Fin grid0.N, _)
theorem index_1 : ∀ t : Fin cfg0.N, win0_1.index t (0 : Fin 3) = 1 ∧ win0_1.index t (1 : Fin 3) = t.val ∧ win0_1.index t (2 : Fin 3) = 0 :=
  (by decide +kernel : ∀ t : Fin grid0.N, _)
theorem index_2 : ∀ t : Fin cfg0.N, win0_2.index t (0 : Fin 3) = 2 ∧ win0_2.index t (1 : Fin 3) = t.val ∧ win0_2.index t (2 : Fin 3) = 0 :=
  (by decide +kernel : ∀ t : Fin grid0.N, _)
theorem index_3 : ∀ t : Fin cfg0.N, win0_3.index t (0 : Fin 3) = 3 ∧ win0_3.index t (1 : Fin 3) = t.val ∧ win0_3.index t (2 : Fin 3) = 0 :=
  (by decide +kernel : ∀ t : Fin grid0.N, _)
theorem index_4 : ∀ t : Fin cfg0.N, win0_4.index t (0 : Fin 3) = 4 ∧ win0_4.index t (1 : Fin 3) = t.val ∧ win0_4.index t (2 : Fin 3) = 0 :=
  (by decide +kernel : ∀ t : Fin grid0.N, _)
theorem index_5 : ∀ t : Fin cfg0.N, win0_5.index t (0 : Fin 3) = 5 ∧ win0_5.index t (1 : Fin 3) = t.val ∧ win0_5.index t (2 : Fin 3) = 0 :=
  (by decide +kernel : ∀ t : Fin grid0.N, _)
theorem index_6 : ∀ t : Fin cfg0.N, win0_6.index t (0 : Fin 2) = t.val ∧ win0_6.index t (1 : Fin 2) = 0 :=
  (by decide +kernel : ∀ t : Fin grid0.N, _)
theorem index_7 : ∀ t : Fin cfg0.N, win0_7.index t (0 : Fin 2) = t.val / 32 * 33 + t.val % 32 ∧ win0_7.index t (1 : Fin 2) = 0 :=
  (by decide +kernel : ∀ t : Fin grid0.N, _)
theorem index_8 : ∀ t : Fin cfg0.N, win0_8.index t (0 : Fin 2) = t.val ∧ win0_8.index t (1 : Fin 2) = 0 :=
  (by decide +kernel : ∀ t : Fin grid0.N, _)
theorem index_10 : ∀ t : Fin cfg0.N, win0_10.index t (0 : Fin 2) = t.val ∧ win0_10.index t (1 : Fin 2) = 0 :=
  (by decide +kernel : ∀ t : Fin grid0.N, _)
theorem index_9 : ∀ t : Fin cfg0.N, win0_9.index t (0 : Fin 3) = t.val / 32 ∧ win0_9.index t (1 : Fin 3) = 0 ∧ win0_9.index t (2 : Fin 3) = 0 :=
  (by decide +kernel : ∀ t : Fin grid0.N, _)

theorem point_lt (t : Fin cfg0.N) : t.val < 128 := t.isLt.trans_eq N_0

/-- The token at row `r` of a point's tile. -/
def place (t : Fin cfg0.N) (r : Fin 256) : Fin 32768 := ⟨t.val * 256 + r, by have := point_lt t; omega⟩

/-! ## The operands' blocks -/

/-- An element of the experts' planes. -/
theorem plane_at (c : Dev nD) (e : S6x32768x1024.Idx) (q : Fin 6) (R : Fin 32768) (k : Fin 1024) (h0 : (e 0).val = q.val) (h1 : (e 1).val = R.val)
    (h2 : (e 2).val = k.val) : (V m c main_v6 : FVec Ideal S6x32768x1024 .bf16) e = argY m c (ix3 R q k) := by
  rw [← V_y m c q R k]
  refine congrArg (V m c main_v6) (funext fun a => Fin.ext ?_)
  match a with
  | ⟨0, _⟩ => exact h0
  | ⟨1, _⟩ => exact h1
  | ⟨2, _⟩ => exact h2

theorem iblk_0 (c : Dev nD) (t : Fin cfg0.N) (r : Fin 256) (k : Fin 1024) :
    (iblk m c 0 t : FVec Ideal S1x256x1024 .bf16) (ix3 0 r k) = argY m c (ix3 (place t r) 0 k) := by
  obtain ⟨e0, e1, e2⟩ := index_0 t
  refine plane_at m c (((cfg0.win 0).blk t).view.emb (ix3 0 r k)) 0 (place t r) k ?_ ?_ ?_
  · show win0_0.index t (0 : Fin 3) * 1 + 1 * 0 = 0; omega
  · show win0_0.index t (1 : Fin 3) * 256 + 1 * r.val = t.val * 256 + r.val; omega
  · show win0_0.index t (2 : Fin 3) * 1024 + 1 * k.val = k.val; omega

theorem iblk_1 (c : Dev nD) (t : Fin cfg0.N) (r : Fin 256) (k : Fin 1024) :
    (iblk m c 1 t : FVec Ideal S1x256x1024 .bf16) (ix3 0 r k) = argY m c (ix3 (place t r) 1 k) := by
  obtain ⟨e0, e1, e2⟩ := index_1 t
  refine plane_at m c (((cfg0.win 1).blk t).view.emb (ix3 0 r k)) 1 (place t r) k ?_ ?_ ?_
  · show win0_1.index t (0 : Fin 3) * 1 + 1 * 0 = 1; omega
  · show win0_1.index t (1 : Fin 3) * 256 + 1 * r.val = t.val * 256 + r.val; omega
  · show win0_1.index t (2 : Fin 3) * 1024 + 1 * k.val = k.val; omega

theorem iblk_2 (c : Dev nD) (t : Fin cfg0.N) (r : Fin 256) (k : Fin 1024) :
    (iblk m c 2 t : FVec Ideal S1x256x1024 .bf16) (ix3 0 r k) = argY m c (ix3 (place t r) 2 k) := by
  obtain ⟨e0, e1, e2⟩ := index_2 t
  refine plane_at m c (((cfg0.win 2).blk t).view.emb (ix3 0 r k)) 2 (place t r) k ?_ ?_ ?_
  · show win0_2.index t (0 : Fin 3) * 1 + 1 * 0 = 2; omega
  · show win0_2.index t (1 : Fin 3) * 256 + 1 * r.val = t.val * 256 + r.val; omega
  · show win0_2.index t (2 : Fin 3) * 1024 + 1 * k.val = k.val; omega

theorem iblk_3 (c : Dev nD) (t : Fin cfg0.N) (r : Fin 256) (k : Fin 1024) :
    (iblk m c 3 t : FVec Ideal S1x256x1024 .bf16) (ix3 0 r k) = argY m c (ix3 (place t r) 3 k) := by
  obtain ⟨e0, e1, e2⟩ := index_3 t
  refine plane_at m c (((cfg0.win 3).blk t).view.emb (ix3 0 r k)) 3 (place t r) k ?_ ?_ ?_
  · show win0_3.index t (0 : Fin 3) * 1 + 1 * 0 = 3; omega
  · show win0_3.index t (1 : Fin 3) * 256 + 1 * r.val = t.val * 256 + r.val; omega
  · show win0_3.index t (2 : Fin 3) * 1024 + 1 * k.val = k.val; omega

theorem iblk_4 (c : Dev nD) (t : Fin cfg0.N) (r : Fin 256) (k : Fin 1024) :
    (iblk m c 4 t : FVec Ideal S1x256x1024 .bf16) (ix3 0 r k) = argY m c (ix3 (place t r) 4 k) := by
  obtain ⟨e0, e1, e2⟩ := index_4 t
  refine plane_at m c (((cfg0.win 4).blk t).view.emb (ix3 0 r k)) 4 (place t r) k ?_ ?_ ?_
  · show win0_4.index t (0 : Fin 3) * 1 + 1 * 0 = 4; omega
  · show win0_4.index t (1 : Fin 3) * 256 + 1 * r.val = t.val * 256 + r.val; omega
  · show win0_4.index t (2 : Fin 3) * 1024 + 1 * k.val = k.val; omega

theorem iblk_5 (c : Dev nD) (t : Fin cfg0.N) (r : Fin 256) (k : Fin 1024) :
    (iblk m c 5 t : FVec Ideal S1x256x1024 .bf16) (ix3 0 r k) = argY m c (ix3 (place t r) 5 k) := by
  obtain ⟨e0, e1, e2⟩ := index_5 t
  refine plane_at m c (((cfg0.win 5).blk t).view.emb (ix3 0 r k)) 5 (place t r) k ?_ ?_ ?_
  · show win0_5.index t (0 : Fin 3) * 1 + 1 * 0 = 5; omega
  · show win0_5.index t (1 : Fin 3) * 256 + 1 * r.val = t.val * 256 + r.val; omega
  · show win0_5.index t (2 : Fin 3) * 1024 + 1 * k.val = k.val; omega

theorem iblk_wt (c : Dev nD) (t : Fin cfg0.N) (r : Fin 256) (q : Fin 6) :
    (iblk m c 6 t : FVec Ideal S256x8 .f32) (ix2 r ⟨q, by omega⟩) = argWt m c (ix2 (place t r) q) := by
  obtain ⟨e0, e1⟩ := index_6 t
  rw [← V_wt]
  show V m c main_v4 (((cfg0.win 6).blk t).view.emb (ix2 r ⟨q, _⟩)) = _
  refine congrArg (V m c main_v4) (funext fun a => Fin.ext ?_)
  match a with
  | ⟨0, _⟩ => show win0_6.index t (0 : Fin 2) * 256 + 1 * r.val = t.val * 256 + r.val; omega
  | ⟨1, _⟩ => show win0_6.index t (1 : Fin 2) * 8 + 1 * q.val = q.val; omega

theorem iblk_sh (c : Dev nD) (t : Fin cfg0.N) (r : Fin 256) (k : Fin 1024) :
    (iblk m c 8 t : FVec Ideal S256x1024 .bf16) (ix2 r k) = argSh m c (ix2 (place t r) k) := by
  obtain ⟨e0, e1⟩ := index_8 t
  rw [← V_sh]
  show V m c main_v7 (((cfg0.win 8).blk t).view.emb (ix2 r k)) = _
  refine congrArg (V m c main_v7) (funext fun a => Fin.ext ?_)
  match a with
  | ⟨0, _⟩ => show win0_8.index t (0 : Fin 2) * 256 + 1 * r.val = t.val * 256 + r.val; omega
  | ⟨1, _⟩ => show win0_8.index t (1 : Fin 2) * 1024 + 1 * k.val = k.val; omega

theorem iblk_x (c : Dev nD) (t : Fin cfg0.N) (r : Fin 256) (k : Fin 1024) :
    (iblk m c 7 t : FVec Ideal S256x1024 .f32) (ix2 r k)
      = argX m c (ix3 ⟨(place t r) / 8192, by omega⟩ ⟨(place t r) % 8192, Nat.mod_lt _ (by decide)⟩ k) := by
  obtain ⟨e0, e1⟩ := index_7 t
  have hN := point_lt t
  obtain ⟨R, hR⟩ : ∃ R : Fin 33792, R.val = (t.val / 32 * 33 + t.val % 32) * 256 + r.val := ⟨⟨_, by omega⟩, rfl⟩
  have h : R.val % 8448 < 8192 := by omega
  have e : (iblk m c 7 t : FVec Ideal S256x1024 .f32) (ix2 r k) = (V m c main_v3 : FVec Ideal S33792x1024 .f32) (ix2 R k) := by
    show V m c main_v3 (((cfg0.win 7).blk t).view.emb (ix2 r k)) = _
    refine congrArg (V m c main_v3) (funext fun a => Fin.ext ?_)
    match a with
    | ⟨0, _⟩ => show win0_7.index t (0 : Fin 2) * 256 + 1 * r.val = R.val; omega
    | ⟨1, _⟩ => show win0_7.index t (1 : Fin 2) * 1024 + 1 * k.val = k.val; omega
  refine e.trans ((V_x m c R k h).trans (congrArg (argX m c) (funext fun a => Fin.ext ?_)))
  match a with
  | ⟨0, _⟩ => show R.val / 8448 = (t.val * 256 + r.val) / 8192; omega
  | ⟨1, _⟩ => show R.val % 8448 = (t.val * 256 + r.val) % 8192; omega
  | ⟨2, _⟩ => rfl

theorem iblk_mod (c : Dev nD) (t : Fin cfg0.N) (r : Fin 256) (q : Fin 6144) :
    (iblk m c 9 t : FVec Ideal S1x1x6144 .f32) (ix3 0 0 q) = argMod m c (ix2 ⟨(place t r) / 8192, by omega⟩ q) := by
  obtain ⟨e0, e1, e2⟩ := index_9 t
  have hN := point_lt t
  rw [← V_mod]
  show V m c main_v1 (((cfg0.win 9).blk t).view.emb (ix3 0 0 q)) = _
  refine congrArg (V m c main_v1) (funext fun a => Fin.ext ?_)
  match a with
  | ⟨0, _⟩ => show win0_9.index t (0 : Fin 3) * 1 + 1 * 0 = (t.val * 256 + r.val) / 8192; omega
  | ⟨1, _⟩ => show win0_9.index t (1 : Fin 3) * 1 + 1 * 0 = 0; omega
  | ⟨2, _⟩ => show win0_9.index t (2 : Fin 3) * 6144 + 1 * q.val = q.val; omega

/-! ## What a point writes back -/

/-- The point's rows after the gated residual. -/
abbrev residualAt (c : Dev nD) (t : Fin cfg0.N) : FVec Ideal S256x1024 .f32 :=
  residual (iblk m c 0 t) (iblk m c 1 t) (iblk m c 2 t) (iblk m c 3 t) (iblk m c 4 t) (iblk m c 5 t) (iblk m c 6 t) (iblk m c 7 t)
    (iblk m c 8 t) (iblk m c 9 t)

theorem residual_at (c : Dev nD) (t : Fin cfg0.N) (r : Fin 256) (k : Fin 1024) :
    residualAt m c t (ix2 r k) = token (argX m c) (argY m c) (argWt m c) (argSh m c) (argMod m c) (place t r) k := by
  refine (residual_apply _ _ _ _ _ _ _ _ _ _ r k).trans ?_
  refine congrArg₂ (· + ·) (iblk_x m c t r k) (congrArg₂ (· * ·) (iblk_mod m c t r ⟨5120 + k, by omega⟩) ?_)
  refine Eq.trans ?_ (Cert.Kernel3Ideal.Gen.sum_order (argSh m c (ix2 (place t r) k)) fun q => argY m c (ix3 (place t r) q k) * argWt m c (ix2 (place t r) q))
  exact congrArg₂ (· + ·) (congrArg₂ (· + ·) (congrArg₂ (· + ·) (congrArg₂ (· + ·) (congrArg₂ (· + ·) (congrArg₂ (· + ·) (iblk_sh m c t r k)
    (congrArg₂ (· * ·) (iblk_0 m c t r k) (iblk_wt m c t r 0))) (congrArg₂ (· * ·) (iblk_1 m c t r k) (iblk_wt m c t r 1)))
    (congrArg₂ (· * ·) (iblk_2 m c t r k) (iblk_wt m c t r 2))) (congrArg₂ (· * ·) (iblk_3 m c t r k) (iblk_wt m c t r 3)))
    (congrArg₂ (· * ·) (iblk_4 m c t r k) (iblk_wt m c t r 4))) (congrArg₂ (· * ·) (iblk_5 m c t r k) (iblk_wt m c t r 5))

/-- The result, of the arguments. -/
abbrev answer (m : (ℓ : Loc nD τ sig) → Buf (Elt Ideal) ℓ) (c : Dev nD) : FVec Ideal S32768x1024 .f32 :=
  tokens (argX m c) (argY m c) (argWt m c) (argSh m c) (argMod m c)

theorem answer_emb (c : Dev nD) (t : Fin cfg0.N) (r : Fin 256) (k : Fin 1024) :
    ((cfg0.win 10).blk t).view.read (Elt Ideal) (answer m c) (ix2 r k)
      = token (argX m c) (argY m c) (argWt m c) (argSh m c) (argMod m c) (place t r) k := by
  obtain ⟨e0, e1⟩ := index_10 t
  show answer m c (((cfg0.win 10).blk t).view.emb (ix2 r k)) = _
  have e : ((cfg0.win 10).blk t).view.emb (ix2 r k) = ix2 (place t r) k := funext fun a => Fin.ext (by
    match a with
    | ⟨0, _⟩ => show win0_10.index t (0 : Fin 2) * 256 + 1 * r.val = t.val * 256 + r.val; omega
    | ⟨1, _⟩ => show win0_10.index t (1 : Fin 2) * 1024 + 1 * k.val = k.val; omega)
  rw [e]
  rfl

theorem flushed_eq (c : Dev nD) (t : Fin cfg0.N) :
    (dats m 0 c).flushed 10 t = ((cfg0.win 10).blk t).view.read (Elt Ideal) (answer m c) := by
  rw [Value.flushed10 m c t, out_eq]
  funext y
  obtain ⟨r, k, rfl⟩ : ∃ (r : Fin 256) (k : Fin 1024), y = ix2 r k := ⟨y 0, y 1, eq_ix2 y⟩
  rw [answer_emb]
  exact residual_at m c t r k

/-- Every element of the result lies in some point's block. -/
theorem covered (i : S32768x1024.Idx) : ∃ t : Fin cfg0.N, (cfg0.win 10).flush t = true ∧ i ∈ ((cfg0.win 10).blk t).view.set := by
  have h0 : (i 0).val < 32768 := (i 0).isLt
  have h1 : (i 1).val < 1024 := (i 1).isLt
  have hN : cfg0.N = 128 := N_0
  obtain ⟨t, ht⟩ : ∃ t : Fin cfg0.N, t.val = (i 0).val / 256 := ⟨⟨_, by omega⟩, rfl⟩
  refine ⟨t, flush0_10 t, ?_⟩
  obtain ⟨e0, e1⟩ := index_10 t
  show i ∈ ((View.whole main_v8).slice (win0_10.rect t)).set
  rw [View.set_slice_whole, Rect.mem_set_unit]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 1024 ≤ (i 1).val ∧ (i 1).val < win0_10.index t (1 : Fin 2) * 1024 + 1024; omega

/-- The result array after the run is the tokens after the gated residual. -/
theorem final (c : Dev nD) : (dats m 0 c).arrAt 10 cfg0.N = answer m c :=
  (dats m 0 c).arrAt_eq_of_cover 10 (answer m c) (fun t _ => flushed_eq m c t) covered

end Cert.Kernel5Ideal.Gen

end
-- ==== Proof.Last.Reference.lean ====
/-
  The reference of the last layer's close, at an index.
-/
module

public import proofs.«01_k».proof.Proof.Gen.Reference5Ideal.Read
public import proofs.«01_k».proof.Proof.Last.Spec

@[expose] public section

set_option maxRecDepth 16384

noncomputable section

namespace Cert.Reference5Ideal.Read

open Cert.Reference5Ideal Cert.Reference5Ideal.Gen Idealize.ShloMosaic Idealize.ShloMosaic.TcCoe Idealize.SL.Sem
open Idealize.ShloMosaic.Pointwise Cert.Last

variable (x0 : FVec Ideal S4x8192x1024 .f32) (x1 : FVec Ideal S32768x6x1024 .f32) (x2 : FVec Ideal S32768x6 .f32)
  (x3 : FVec Ideal S32768x1024 .f32) (x4 : FVec Ideal S4x6144 .f32)

theorem v4_at (r : Fin 32768) (k : Fin 1024) : val_main_v4 (F := Ideal) x1 x2 x3 (ix2 r k) = ffn x1 x2 x3 r k := by
  pointwise [val_main_v4, val_main_v3, val_main_v2, val_main_v1, val_main_v0, val_main_cst]
  rfl

/-- The reference computes the tokens after the gated residual. -/
theorem tokens_eq : val_main_v11 (F := Ideal) x0 x1 x2 x3 x4 = tokens x0 x1 x2 x3 x4 := by
  funext y
  obtain ⟨r, k, rfl⟩ : ∃ (r : Fin 32768) (k : Fin 1024), y = ix2 r k := ⟨y 0, y 1, eq_ix2 y⟩
  have h4 := v4_at x1 x2 x3
  unfold val_main_v11 val_main_v10 val_main_v9 val_main_v7
  generalize val_main_v4 (F := Ideal) x1 x2 x3 = z at h4
  pointwise [val_main_v8, val_main_v6, val_main_v5]
  have e : ∀ p, (⟨r.val / 8192 * 8192 + r.val % 8192, p⟩ : Fin 32768) = r := fun p => Fin.ext (by show r.val / 8192 * 8192 + r.val % 8192 = r.val; omega)
  simp only [e, h4]
  rfl

end Cert.Reference5Ideal.Read

end
-- ==== Proof.Shared.Spec.lean ====
/-
  The shared expert as a function of its arguments, at an index.
-/
module

public import proofs.«01_k».proof.Proof.Gen.Kernel6Ideal
public import Idealize.ShloMosaic.Lib.Pointwise

@[expose] public section

set_option maxRecDepth 16384

noncomputable section

namespace Cert.Shared

open Idealize.ShloMosaic Idealize.ShloMosaic.Pointwise Cert.Kernel6Ideal

/-- The inner activation of a token `h`: the gate's projection through the silu, times the up projection. -/
def inner (h : Fin 1024 → EReal) (sg su : FVec Ideal S1024x256 .f32) (j : Fin 256) : EReal :=
  (∑ k : Fin 1024, h k * sg (ix2 k j)) * Ideal.logistic (∑ k : Fin 1024, h k * sg (ix2 k j)) * ∑ k : Fin 1024, h k * su (ix2 k j)

/-- The call's result: the inner activations, projected down. -/
def expert (h : FVec Ideal S33792x1024 .f32) (sg su : FVec Ideal S1024x256 .f32) (sd : FVec Ideal S256x1024 .f32) :
    FVec Ideal S33792x1024 .bf16 := fun i =>
  ∑ j : Fin 256, inner (fun k => h (ix2 (i 0) k)) sg su j * sd (ix2 j (i 1))

end Cert.Shared

end
-- ==== Proof.Shared.Array.lean ====
/-
  The shared expert's call: what a point stores, and the array that the points leave.
-/
module

public import proofs.«01_k».proof.Proof.Gen.Kernel6Ideal.Value
public import proofs.«01_k».proof.Proof.Shared.Spec
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.Kernel6Ideal.Gen

open Cert.Kernel6Ideal Idealize.ShloMosaic Idealize.ShloMosaic.TcCoe Idealize.SL.Sem Idealize.ShloMosaic.Pointwise Cert.Shared

section
variable (x0 : Vec Ideal S1024x1024 .bf16) (x1 x2 : Vec Ideal S1024x256 .bf16) (x3 : Vec Ideal S256x1024 .bf16)

/-- What the body stores. -/
theorem out_eq : out0_4 x0 x1 x2 x3 = k0_pay1 x0 x1 x2 x3 := by
  have e0 : View.ld x0 r0_0 = x0 := View.ld_unit_lit _ x0 (by decide)
  have e1 : View.ld x1 r0_1 = x1 := View.ld_unit_lit _ x1 (by decide)
  have e2 : View.ld x2 r0_1 = x2 := View.ld_unit_lit _ x2 (by decide)
  have e3 : View.ld x3 r0_2 = x3 := View.ld_unit_lit _ x3 (by decide)
  unfold out0_4
  rw [e0, e1, e2, e3]
  exact View.canon_cons_unit_lit _ _ _ (by decide)

/-- A row of it: the expert's result for the tile's token. -/
theorem block_apply (r k : Fin 1024) : k0_pay1 (F := Ideal) x0 x1 x2 x3 (ix2 r k)
    = ∑ j : Fin 256, inner (fun q => x0 (ix2 r q)) x1 x2 j * x3 (ix2 j k) := by
  pointwise [k0_pay1]
  rfl
end

variable (m : (ℓ : Loc nD τ sig) → Buf (Elt Ideal) ℓ)

/-- The arguments as launched. -/
abbrev argH (c : Dev nD) : FVec Ideal S33792x1024 .f32 := m ((c : Thread nD τ).loc main_arg0)
abbrev argG (c : Dev nD) : FVec Ideal S1024x256 .f32 := m ((c : Thread nD τ).loc main_arg1)
abbrev argU (c : Dev nD) : FVec Ideal S1024x256 .f32 := m ((c : Thread nD τ).loc main_arg2)
abbrev argD (c : Dev nD) : FVec Ideal S256x1024 .f32 := m ((c : Thread nD τ).loc main_arg3)

/-! ## The operand arrays: the arguments, cast -/

theorem V_h (c : Dev nD) (r : Fin 33792) (k : Fin 1024) : (V m c main_v0 : FVec Ideal S33792x1024 .bf16) (ix2 r k) = argH m c (ix2 r k) := by
  unfold V
  after_reads_at
theorem V_g (c : Dev nD) (k : Fin 1024) (j : Fin 256) : (V m c main_v1 : FVec Ideal S1024x256 .bf16) (ix2 k j) = argG m c (ix2 k j) := by
  unfold V
  after_reads_at
theorem V_u (c : Dev nD) (k : Fin 1024) (j : Fin 256) : (V m c main_v2 : FVec Ideal S1024x256 .bf16) (ix2 k j) = argU m c (ix2 k j) := by
  unfold V
  after_reads_at
theorem V_d (c : Dev nD) (j : Fin 256) (k : Fin 1024) : (V m c main_v3 : FVec Ideal S256x1024 .bf16) (ix2 j k) = argD m c (ix2 j k) := by
  unfold V
  after_reads_at

/-! ## Where the blocks lie -/

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N, win0_4.index t (0 : Fin 2) = t.val ∧ win0_4.index t (1 : Fin 2) = 0 :=
  (by decide +kernel : ∀ t : Fin grid0.N, _)

theorem point_lt (t : Fin cfg0.N) : t.val < 33 := t.isLt.trans_eq N_0

/-- The token at row `r` of a point's tile. -/
def place (t : Fin cfg0.N) (r : Fin 1024) : Fin 33792 := ⟨t.val * 1024 + r, by have := point_lt t; omega⟩

theorem iblk_h (c : Dev nD) (t : Fin cfg0.N) (r k : Fin 1024) :
    (iblk m c 0 t : FVec Ideal S1024x1024 .bf16) (ix2 r k) = argH m c (ix2 (place t r) k) := by
  obtain ⟨e0, e1⟩ := index_0 t
  rw [← V_h]
  show V m c main_v0 (((cfg0.win 0).blk t).view.emb (ix2 r k)) = _
  refine congrArg (V m c main_v0) (funext fun a => Fin.ext ?_)
  match a with
  | ⟨0, _⟩ => show win0_0.index t (0 : Fin 2) * 1024 + 1 * r.val = t.val * 1024 + r.val; omega
  | ⟨1, _⟩ => show win0_0.index t (1 : Fin 2) * 1024 + 1 * k.val = k.val; omega

theorem iblk_g (c : Dev nD) (t : Fin cfg0.N) : (iblk m c 1 t : FVec Ideal S1024x256 .bf16) = argG m c := by
  obtain ⟨e0, e1⟩ := index_1 t
  funext y
  obtain ⟨a, b, rfl⟩ : ∃ (a : Fin 1024) (b : Fin 256), y = ix2 a b := ⟨y 0, y 1, eq_ix2 y⟩
  rw [← V_g]
  show V m c main_v1 (((cfg0.win 1).blk t).view.emb (ix2 a b)) = _
  refine congrArg (V m c main_v1) (funext fun d => Fin.ext ?_)
  match d with
  | ⟨0, _⟩ => show win0_1.index t (0 : Fin 2) * 1024 + 1 * a.val = a.val; omega
  | ⟨1, _⟩ => show win0_1.index t (1 : Fin 2) * 256 + 1 * b.val = b.val; omega

theorem iblk_u (c : Dev nD) (t : Fin cfg0.N) : (iblk m c 2 t : FVec Ideal S1024x256 .bf16) = argU m c := by
  obtain ⟨e0, e1⟩ := index_2 t
  funext y
  obtain ⟨a, b, rfl⟩ : ∃ (a : Fin 1024) (b : Fin 256), y = ix2 a b := ⟨y 0, y 1, eq_ix2 y⟩
  rw [← V_u]
  show V m c main_v2 (((cfg0.win 2).blk t).view.emb (ix2 a b)) = _
  refine congrArg (V m c main_v2) (funext fun d => Fin.ext ?_)
  match d with
  | ⟨0, _⟩ => show win0_2.index t (0 : Fin 2) * 1024 + 1 * a.val = a.val; omega
  | ⟨1, _⟩ => show win0_2.index t (1 : Fin 2) * 256 + 1 * b.val = b.val; omega

theorem iblk_d (c : Dev nD) (t : Fin cfg0.N) : (iblk m c 3 t : FVec Ideal S256x1024 .bf16) = argD m c := by
  obtain ⟨e0, e1⟩ := index_3 t
  funext y
  obtain ⟨a, b, rfl⟩ : ∃ (a : Fin 256) (b : Fin 1024), y = ix2 a b := ⟨y 0, y 1, eq_ix2 y⟩
  rw [← V_d]
  show V m c main_v3 (((cfg0.win 3).blk t).view.emb (ix2 a b)) = _
  refine congrArg (V m c main_v3) (funext fun d => Fin.ext ?_)
  match d with
  | ⟨0, _⟩ => show win0_3.index t (0 : Fin 2) * 256 + 1 * a.val = a.val; omega
  | ⟨1, _⟩ => show win0_3.index t (1 : Fin 2) * 1024 + 1 * b.val = b.val; omega

/-! ## What a point writes back -/

/-- The result, of the arguments. -/
abbrev answer (m : (ℓ : Loc nD τ sig) → Buf (Elt Ideal) ℓ) (c : Dev nD) : FVec Ideal S33792x1024 .bf16 :=
  expert (argH m c) (argG m c) (argU m c) (argD m c)

theorem answer_emb (c : Dev nD) (t : Fin cfg0.N) (r k : Fin 1024) :
    ((cfg0.win 4).blk t).view.read (Elt Ideal) (answer m c) (ix2 r k)
      = ∑ j : Fin 256, inner (fun q => argH m c (ix2 (place t r) q)) (argG m c) (argU m c) j * argD m c (ix2 j k) := by
  obtain ⟨e0, e1⟩ := index_4 t
  show answer m c (((cfg0.win 4).blk t).view.emb (ix2 r k)) = _
  have e : ((cfg0.win 4).blk t).view.emb (ix2 r k) = ix2 (place t r) k := funext fun a => Fin.ext (by
    match a with
    | ⟨0, _⟩ => show win0_4.index t (0 : Fin 2) * 1024 + 1 * r.val = t.val * 1024 + r.val; omega
    | ⟨1, _⟩ => show win0_4.index t (1 : Fin 2) * 1024 + 1 * k.val = k.val; omega)
  rw [e]
  rfl

theorem flushed_eq (c : Dev nD) (t : Fin cfg0.N) :
    (dats m 0 c).flushed 4 t = ((cfg0.win 4).blk t).view.read (Elt Ideal) (answer m c) := by
  rw [Value.flushed4 m c t, out_eq]
  funext y
  obtain ⟨r, k, rfl⟩ : ∃ r k : Fin 1024, y = ix2 r k := ⟨y 0, y 1, eq_ix2 y⟩
  rw [answer_emb]
  refine (block_apply (iblk m c 0 t) (iblk m c 1 t) (iblk m c 2 t) (iblk m c 3 t) r k).trans (Finset.sum_congr rfl fun j _ => ?_)
  have h : (fun q => (iblk m c 0 t : FVec Ideal S1024x1024 .bf16) (ix2 r q)) = fun q => argH m c (ix2 (place t r) q) := funext fun q => iblk_h m c t r q
  exact congrArg₂ (· * ·) (congr (congrArg₂ (fun a b => inner a b) h (iblk_g m c t)) (iblk_u m c t) |> fun e => congrFun e j)
    (congrFun (iblk_d m c t) (ix2 j k))

/-- Every element of the result lies in some point's block. -/
theorem covered (i : S33792x1024.Idx) : ∃ t : Fin cfg0.N, (cfg0.win 4).flush t = true ∧ i ∈ ((cfg0.win 4).blk t).view.set := by
  have h0 : (i 0).val < 33792 := (i 0).isLt
  have h1 : (i 1).val < 1024 := (i 1).isLt
  have hN : cfg0.N = 33 := N_0
  obtain ⟨t, ht⟩ : ∃ t : Fin cfg0.N, t.val = (i 0).val / 1024 := ⟨⟨_, by omega⟩, rfl⟩
  refine ⟨t, flush0_4 t, ?_⟩
  obtain ⟨e0, e1⟩ := index_4 t
  show i ∈ ((View.whole main_v4).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The result array after the run is the shared expert. -/
theorem final (c : Dev nD) : (dats m 0 c).arrAt 4 cfg0.N = answer m c :=
  (dats m 0 c).arrAt_eq_of_cover 4 (answer m c) (fun t _ => flushed_eq m c t) covered

end Cert.Kernel6Ideal.Gen

end
-- ==== Proof.Shared.Reference.lean ====
/-
  The shared expert's reference, at an index.
-/
module

public import proofs.«01_k».proof.Proof.Gen.Reference6Ideal.Read
public import proofs.«01_k».proof.Proof.Shared.Spec

@[expose] public section

set_option maxRecDepth 16384

noncomputable section

namespace Cert.Reference6Ideal.Read

open Cert.Reference6Ideal Cert.Reference6Ideal.Gen Idealize.ShloMosaic Idealize.ShloMosaic.TcCoe Idealize.SL.Sem
open Idealize.ShloMosaic.Pointwise Cert.Shared

variable (x0 : FVec Ideal S33792x1024 .f32) (x1 x2 : FVec Ideal S1024x256 .f32) (x3 : FVec Ideal S256x1024 .f32)

theorem v3_at (r : Fin 33792) (j : Fin 256) : val_main_v3 (F := Ideal) x0 x1 x2 (ix2 r j) = inner (fun k => x0 (ix2 r k)) x1 x2 j := by
  pointwise [val_main_v3, val_main_v2, val_main_v1, val_main_call0_v5, val_main_call0_v4, val_main_call0_cst_0, val_main_call0_v3,
    val_main_call0_v2, val_main_call0_cst, val_main_call0_v1, val_main_call0_v0, val_main_v0]
  rfl

/-- The reference computes the shared expert. -/
theorem expert_eq : val_main_v5 (F := Ideal) x0 x1 x2 x3 = expert x0 x1 x2 x3 := by
  funext y
  obtain ⟨r, k, rfl⟩ : ∃ (r : Fin 33792) (k : Fin 1024), y = ix2 r k := ⟨y 0, y 1, eq_ix2 y⟩
  have h3 := v3_at x0 x1 x2
  unfold val_main_v5 val_main_v4
  generalize val_main_v3 (F := Ideal) x0 x1 x2 = z at h3
  pointwise
  simp only [h3]
  rfl

end Cert.Reference6Ideal.Read

end
-- ==== Proof.lean ====
/-
  The claims of this certificate, put together.

  The kernel is the attention call: 264 grid points, each of which runs an online softmax for four heads and stores one
  block of the result. `Proof/Frame.lean` has its run, `Proof/Value.lean` the array that the run leaves,
  `Proof/Array.lean` that this array is the softmax-weighted mean of the values at every query and head, and
  `Proof/Reference.lean` that the reference computes the same.

  The two projections are calls of their own: `Proof/InProj` has the first layer's, `Proof/Combine` the second's, which first
  adds the experts' results to the rows. `Proof/Merge` has the call that gates and merges the three branches,
  `Proof/Last` the call that closes the last layer and `Proof/Shared` the shared expert's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Frame
public import proofs.«01_k».proof.Proof.Value
public import proofs.«01_k».proof.Proof.Array
public import proofs.«01_k».proof.Proof.Finite
public import proofs.«01_k».proof.Proof.Reference
public import proofs.«01_k».proof.Proof.SameText
public import proofs.«01_k».proof.Proof.Gen.ReferenceIdeal.Run
public import proofs.«01_k».proof.Proof.Gen.ReferenceIdeal.Read
public import proofs.«01_k».proof.Proof.Gen.Pre_scores_finite
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.InProj.Array
public import proofs.«01_k».proof.Proof.InProj.Reference
public import proofs.«01_k».proof.Proof.InProj.SameText
public import proofs.«01_k».proof.Proof.Combine.Array
public import proofs.«01_k».proof.Proof.Combine.Reference
public import proofs.«01_k».proof.Proof.Combine.SameText
public import proofs.«01_k».proof.Proof.Merge.Result
public import proofs.«01_k».proof.Proof.Merge.Reference
public import proofs.«01_k».proof.Proof.Last.Array
public import proofs.«01_k».proof.Proof.Last.Reference
public import proofs.«01_k».proof.Proof.Shared.Array
public import proofs.«01_k».proof.Proof.Shared.Reference
public import Idealize.ShloMosaic.Adequacy
public import Idealize.ShloMosaic.Init

@[expose] public section

noncomputable section

namespace Cert.Proof

open Idealize.ShloMosaic Idealize.SL.Sem

/-- The kernel's frame: the run is written once, over any float values, and the two programs are one text. -/
theorem frame_kernel : Cert.quiescent_Kernel := fun m ρ _ => by
  have h := Cert.KernelIdeal.Gen.frame (F := Bits) m ρ
  rw [← Cert.SameText.defs, ← Cert.SameText.main] at h
  exact h

theorem frame_ideal : Cert.quiescent_KernelIdeal := fun m ρ _ => Cert.KernelIdeal.Gen.frame m ρ

theorem frame_ideal_pre : Cert.quiescent_KernelIdeal_pre_scores_finite := fun m ρ _ => Cert.KernelIdeal.Gen.frame m ρ

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference_pre : Cert.quiescent_ReferenceIdeal_pre_scores_finite := fun m ρ _ => frame_reference m ρ trivial

/-- The kernel and the reference leave the same array: the attention of the arguments. -/
theorem algebraic : Cert.algebraic_KernelIdeal_ReferenceIdeal_pre_scores_finite := fun m g m' g' hpre hagree => by
  refine ⟨fun c => Cert.KernelIdeal.Gen.answer m c, ?_, ?_⟩
  · refine (θ_run Cert.KernelIdeal.defs _ _).mono (fun r h c => ⟨(h c).1.trans (Cert.KernelIdeal.Gen.final (Cert.KernelIdeal.Gen.reals hpre c)), (h c).2⟩)
      (Cert.KernelIdeal.Value.run_blocks m g)
  · refine (θ_run Cert.ReferenceIdeal.defs _ _).mono (fun r h c => ⟨(h c).1.trans ?_, (h c).2⟩) (Cert.ReferenceIdeal.Value.run m' g')
    have R := Cert.KernelIdeal.Gen.reals hpre c
    obtain ⟨h0, h1, h2, h3, h4, h5⟩ := hagree c
    rw [Cert.ReferenceIdeal.Read.val_main_v39_eq, h0, h1, h2, h3, h4, h5]
    exact Cert.ReferenceIdeal.Read.result_eq _ _ _ _ _ _ R.ql R.qc R.kc R.kl

/-! ## The input projection -/

theorem frame_kernel2 : Cert.quiescent_Kernel2 := fun m ρ _ => by
  have h := Cert.Kernel2Ideal.Gen.frame (F := Bits) m ρ
  rw [← Cert.SameText2.defs, ← Cert.SameText2.main] at h
  exact h

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The kernel and the reference leave the same array: the projection of the arguments. -/
theorem algebraic2 : Cert.algebraic_Kernel2Ideal_Reference2Ideal := fun m g m' g' _ hagree => by
  refine ⟨fun c => Cert.Kernel2Ideal.Gen.answer m c, ?_, ?_⟩
  · refine (θ_run Cert.Kernel2Ideal.defs _ _).mono (fun r h c => ⟨(h c).1.trans (Cert.Kernel2Ideal.Gen.final m c), (h c).2⟩)
      (Cert.Kernel2Ideal.Value.run_blocks m g)
  · refine (θ_run Cert.Reference2Ideal.defs _ _).mono (fun r h c => ⟨(h c).1.trans ?_, (h c).2⟩) (Cert.Reference2Ideal.Value.run m' g')
    obtain ⟨h0, h1, h2, h3, h4, h5⟩ := hagree c
    rw [Cert.Reference2Ideal.Read.val_main_v60_eq, h0, h1, h2, h3, h4, h5]
    exact Cert.Reference2Ideal.Read.res_eq _ _ _ _ _ _

/-! ## The call between the layers -/

set_option maxHeartbeats 4000000 in
theorem frame_kernel3 : Cert.quiescent_Kernel3 := fun m ρ _ => by
  have h := Cert.Kernel3Ideal.Gen.frame (F := Bits) m ρ
  rw [← Cert.SameText3.defs, ← Cert.SameText3.main] at h
  exact h

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

/-- The kernel and the reference leave the same two arrays: the combined rows of the arguments and their projection. -/
theorem algebraic3 : Cert.algebraic_Kernel3Ideal_Reference3Ideal := fun m g m' g' _ hagree => by
  refine ⟨fun c => Cert.Kernel3Ideal.Gen.answerRows m c, fun c => Cert.Kernel3Ideal.Gen.answer m c, ?_, ?_⟩
  · refine (θ_run Cert.Kernel3Ideal.defs _ _).mono (fun r h c => ⟨(h c).1.trans (Cert.Kernel3Ideal.Gen.finalRows m c),
      (h c).2.1.trans (Cert.Kernel3Ideal.Gen.final m c), (h c).2.2⟩) (Cert.Kernel3Ideal.Value.run_blocks m g)
  · refine (θ_run Cert.Reference3Ideal.defs _ _).mono (fun r h c => ⟨(h c).1.trans ?_, (h c).2.1.trans ?_, (h c).2.2⟩)
      (Cert.Reference3Ideal.Value.run m' g')
    · obtain ⟨h0, h1, h2, h3, h4, h5, h6, h7, h8, h9, h10⟩ := hagree c
      rw [Cert.Reference3Ideal.Read.val_main_v79_eq, h0, h1, h2, h3, h4, h5, h6]
      exact Cert.Reference3Ideal.Read.rows_eq _ _ _ _ _ _ _
    · obtain ⟨h0, h1, h2, h3, h4, h5, h6, h7, h8, h9, h10⟩ := hagree c
      rw [Cert.Reference3Ideal.Read.val_main_v81_eq, h0, h1, h2, h3, h4, h5, h6, h7, h8, h9, h10]
      exact Cert.Reference3Ideal.Read.projected_eq _ _ _ _ _ _ _ _ _ _ _

/-! ## The gated merge -/

/-- The kernel's frame, of its own run: its text has a constant where the idealized program's has a name. -/
theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

/-- The gelu's scale stands for the square root of 2/π. -/
theorem preserves4 : Cert.preserves_Kernel4_Kernel4Ideal :=
  IdealRules.named_const.statement Cert.Kernel4Ideal.κ "gelu_scale" .f32 0x3F4C422A#32 ((Real.sqrt (2 * Real.pi⁻¹) : ℝ) : EReal) rfl

/-- The kernel and the reference leave the same two arrays: the rows after the gated residual and their norm. -/
theorem algebraic4 : Cert.algebraic_Kernel4Ideal_Reference4Ideal := fun m g m' g' _ hagree => by
  refine ⟨fun c => Cert.Kernel4Ideal.Gen.answerRows m c, fun c => Cert.Kernel4Ideal.Gen.answer m c, ?_, ?_⟩
  · refine (θ_run Cert.Kernel4Ideal.defs _ _).mono (fun r h c => ⟨(h c).1.trans (Cert.Kernel4Ideal.Gen.finalRows m c),
      (h c).2.1.trans (Cert.Kernel4Ideal.Gen.final m c), (h c).2.2⟩) (Cert.Kernel4Ideal.Value.run_blocks m g)
  · refine (θ_run Cert.Reference4Ideal.defs _ _).mono (fun r h c => ⟨(h c).1.trans ?_, (h c).2.1.trans ?_, (h c).2.2⟩)
      (Cert.Reference4Ideal.Value.run m' g')
    · obtain ⟨h0, h1, h2, h3, h4, h5, h6, h7, h8, h9, h10, h11, h12, h13, h14, h15, h16⟩ := hagree c
      rw [Cert.Reference4Ideal.Read.val_main_v131_eq, h0, h1, h2, h3, h4, h5, h6, h7, h8, h9, h10, h11, h12, h13, h14, h15]
      exact Cert.Reference4Ideal.Read.rows_eq _ _ _ _ _ _ _ _ _ _ _ _ _ _ _ _
    · obtain ⟨h0, h1, h2, h3, h4, h5, h6, h7, h8, h9, h10, h11, h12, h13, h14, h15, h16⟩ := hagree c
      rw [Cert.Reference4Ideal.Read.val_main_v133_eq, h0, h1, h2, h3, h4, h5, h6, h7, h8, h9, h10, h11, h12, h13, h14, h15, h16]
      exact Cert.Reference4Ideal.Read.hidden_eq _ _ _ _ _ _ _ _ _ _ _ _ _ _ _ _ _

/-! ## The close of the last layer -/

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The kernel and the reference leave the same array: the rows after the gated residual. -/
theorem algebraic5 : Cert.algebraic_Kernel5Ideal_Reference5Ideal := fun m g m' g' _ hagree => by
  refine ⟨fun c => Cert.Kernel5Ideal.Gen.answer m c, ?_, ?_⟩
  · refine (θ_run Cert.Kernel5Ideal.defs _ _).mono (fun r h c => ⟨(h c).1.trans (Cert.Kernel5Ideal.Gen.final m c), (h c).2⟩)
      (Cert.Kernel5Ideal.Value.run_blocks m g)
  · refine (θ_run Cert.Reference5Ideal.defs _ _).mono (fun r h c => ⟨(h c).1.trans ?_, (h c).2⟩) (Cert.Reference5Ideal.Value.run m' g')
    obtain ⟨h0, h1, h2, h3, h4⟩ := hagree c
    refine (Cert.Reference5Ideal.Read.val_main_v11_eq _ _ _ _ _).trans ?_
    rw [h0, h1, h2, h3, h4]
    exact Cert.Reference5Ideal.Read.tokens_eq _ _ _ _ _

/-! ## The shared expert -/

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- The kernel and the reference leave the same array: the expert of the arguments. -/
theorem algebraic6 : Cert.algebraic_Kernel6Ideal_Reference6Ideal := fun m g m' g' _ hagree => by
  refine ⟨fun c => Cert.Kernel6Ideal.Gen.answer m c, ?_, ?_⟩
  · refine (θ_run Cert.Kernel6Ideal.defs _ _).mono (fun r h c => ⟨(h c).1.trans (Cert.Kernel6Ideal.Gen.final m c), (h c).2⟩)
      (Cert.Kernel6Ideal.Value.run_blocks m g)
  · refine (θ_run Cert.Reference6Ideal.defs _ _).mono (fun r h c => ⟨(h c).1.trans ?_, (h c).2⟩) (Cert.Reference6Ideal.Value.run m' g')
    obtain ⟨h0, h1, h2, h3⟩ := hagree c
    refine (Cert.Reference6Ideal.Read.val_main_v5_eq _ _ _ _).trans ?_
    rw [h0, h1, h2, h3]
    exact Cert.Reference6Ideal.Read.expert_eq _ _ _ _

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts,
  Cert.Reference6Ideal.Gen.facts, Cert.Pre_scores_finite.Gen.facts,
  frame_kernel, frame_ideal, frame_ideal_pre, frame_reference, frame_reference_pre, frame_kernel2, frame_ideal2, frame_reference2,
  frame_kernel3, frame_ideal3, frame_reference3, frame_kernel4, frame_ideal4, frame_reference4, frame_kernel5, frame_ideal5,
  frame_reference5, frame_kernel6, frame_ideal6, frame_reference6, trivial, algebraic, trivial, algebraic2, trivial, algebraic3,
  preserves4, algebraic4, trivial, algebraic5, trivial, algebraic6⟩

end Cert.Proof

end
